-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutPlainIdeal (m : (ℓ : Loc Cert.MlpOutPlainIdeal.nD Cert.MlpOutPlainIdeal.τ Cert.MlpOutPlainIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpPlainIdeal (m : (ℓ : Loc Cert.MlpPlainIdeal.nD Cert.MlpPlainIdeal.τ Cert.MlpPlainIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GatePlainIdeal (m : (ℓ : Loc Cert.GatePlainIdeal.nD Cert.GatePlainIdeal.τ Cert.GatePlainIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SamplePlainIdeal (m : (ℓ : Loc Cert.SamplePlainIdeal.nD Cert.SamplePlainIdeal.τ Cert.SamplePlainIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixPlainIdeal (m : (ℓ : Loc Cert.MixPlainIdeal.nD Cert.MixPlainIdeal.τ Cert.MixPlainIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_ls [hPre_finite_ls : Cert.Pre_finite_ls.Facts] (m : (ℓ : Loc Cert.MergeIdeal.nD Cert.MergeIdeal.τ Cert.MergeIdeal.sig) → Buf (Elt Ideal) ℓ) : Prop :=
  ∀ c : Dev Cert.MergeIdeal.nD,
    (Cert.Pre_finite_ls.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16))) = (fun _ => 1#1)

def Pre_MergePlainIdeal (m : (ℓ : Loc Cert.MergePlainIdeal.nD Cert.MergePlainIdeal.τ Cert.MergePlainIdeal.sig) → Buf (Elt Ideal) ℓ) : Prop :=
  True

def Pre_MergePlainIdeal_finite_ls [hPre_finite_ls : Cert.Pre_finite_ls.Facts] (m : (ℓ : Loc Cert.MergePlainIdeal.nD Cert.MergePlainIdeal.τ Cert.MergePlainIdeal.sig) → Buf (Elt Ideal) ℓ) : Prop :=
  ∀ c : Dev Cert.MergePlainIdeal.nD,
    (Cert.Pre_finite_ls.fn (F := Ideal) (m ((c.tc : Thread Cert.MergePlainIdeal.nD Cert.MergePlainIdeal.τ).loc Cert.MergePlainIdeal.main_arg0)) (m ((c.tc : Thread Cert.MergePlainIdeal.nD Cert.MergePlainIdeal.τ).loc Cert.MergePlainIdeal.main_arg1)) (m ((c.tc : Thread Cert.MergePlainIdeal.nD Cert.MergePlainIdeal.τ).loc Cert.MergePlainIdeal.main_arg2)) (m ((c.tc : Thread Cert.MergePlainIdeal.nD Cert.MergePlainIdeal.τ).loc Cert.MergePlainIdeal.main_arg3)) (m ((c.tc : Thread Cert.MergePlainIdeal.nD Cert.MergePlainIdeal.τ).loc Cert.MergePlainIdeal.main_arg4)) (m ((c.tc : Thread Cert.MergePlainIdeal.nD Cert.MergePlainIdeal.τ).loc Cert.MergePlainIdeal.main_arg5)) (m ((c.tc : Thread Cert.MergePlainIdeal.nD Cert.MergePlainIdeal.τ).loc Cert.MergePlainIdeal.main_arg6)) (m ((c.tc : Thread Cert.MergePlainIdeal.nD Cert.MergePlainIdeal.τ).loc Cert.MergePlainIdeal.main_arg7)) (m ((c.tc : Thread Cert.MergePlainIdeal.nD Cert.MergePlainIdeal.τ).loc Cert.MergePlainIdeal.main_arg8)) (m ((c.tc : Thread Cert.MergePlainIdeal.nD Cert.MergePlainIdeal.τ).loc Cert.MergePlainIdeal.main_arg9)) (m ((c.tc : Thread Cert.MergePlainIdeal.nD Cert.MergePlainIdeal.τ).loc Cert.MergePlainIdeal.main_arg10)) (m ((c.tc : Thread Cert.MergePlainIdeal.nD Cert.MergePlainIdeal.τ).loc Cert.MergePlainIdeal.main_arg11)) (m ((c.tc : Thread Cert.MergePlainIdeal.nD Cert.MergePlainIdeal.τ).loc Cert.MergePlainIdeal.main_arg12)) (m ((c.tc : Thread Cert.MergePlainIdeal.nD Cert.MergePlainIdeal.τ).loc Cert.MergePlainIdeal.main_arg13)) (m ((c.tc : Thread Cert.MergePlainIdeal.nD Cert.MergePlainIdeal.τ).loc Cert.MergePlainIdeal.main_arg14)) (m ((c.tc : Thread Cert.MergePlainIdeal.nD Cert.MergePlainIdeal.τ).loc Cert.MergePlainIdeal.main_arg15)) (m ((c.tc : Thread Cert.MergePlainIdeal.nD Cert.MergePlainIdeal.τ).loc Cert.MergePlainIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutPlainIdeal [hMlpOutPlainIdeal : Cert.MlpOutPlainIdeal.Facts] : Prop :=
  ∀ (m : (ℓ : Loc Cert.MlpOutPlainIdeal.nD Cert.MlpOutPlainIdeal.τ Cert.MlpOutPlainIdeal.sig) → Buf (Elt Ideal) ℓ) (g : Dev Cert.MlpOutPlainIdeal.nD → PrngReg), Pre_MlpOutPlainIdeal m →
    θ_run (Cert.MlpOutPlainIdeal.defs (F := Ideal)) (onTc (τ := Cert.MlpOutPlainIdeal.τ) (Cert.MlpOutPlainIdeal.main (F := Ideal))) ⟨m, fun _ => 0, g⟩ (fun r => (∀ c : Dev Cert.MlpOutPlainIdeal.nD,
      r.2.mem ((c.tc : Thread Cert.MlpOutPlainIdeal.nD Cert.MlpOutPlainIdeal.τ).loc Cert.MlpOutPlainIdeal.main_arg0) = m ((c.tc : Thread Cert.MlpOutPlainIdeal.nD Cert.MlpOutPlainIdeal.τ).loc Cert.MlpOutPlainIdeal.main_arg0)
      ∧ r.2.mem ((c.tc : Thread Cert.MlpOutPlainIdeal.nD Cert.MlpOutPlainIdeal.τ).loc Cert.MlpOutPlainIdeal.main_arg1) = m ((c.tc : Thread Cert.MlpOutPlainIdeal.nD Cert.MlpOutPlainIdeal.τ).loc Cert.MlpOutPlainIdeal.main_arg1)
      ∧ r.2.mem ((c.tc : Thread Cert.MlpOutPlainIdeal.nD Cert.MlpOutPlainIdeal.τ).loc Cert.MlpOutPlainIdeal.main_arg2) = m ((c.tc : Thread Cert.MlpOutPlainIdeal.nD Cert.MlpOutPlainIdeal.τ).loc Cert.MlpOutPlainIdeal.main_arg2)
      ∧ r.2.mem ((c.tc : Thread Cert.MlpOutPlainIdeal.nD Cert.MlpOutPlainIdeal.τ).loc Cert.MlpOutPlainIdeal.main_arg3) = m ((c.tc : Thread Cert.MlpOutPlainIdeal.nD Cert.MlpOutPlainIdeal.τ).loc Cert.MlpOutPlainIdeal.main_arg3)
      ∧ r.2.mem ((c.tc : Thread Cert.MlpOutPlainIdeal.nD Cert.MlpOutPlainIdeal.τ).loc Cert.MlpOutPlainIdeal.main_arg4) = m ((c.tc : Thread Cert.MlpOutPlainIdeal.nD Cert.MlpOutPlainIdeal.τ).loc Cert.MlpOutPlainIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpPlainIdeal [hMlpPlainIdeal : Cert.MlpPlainIdeal.Facts] : Prop :=
  ∀ (m : (ℓ : Loc Cert.MlpPlainIdeal.nD Cert.MlpPlainIdeal.τ Cert.MlpPlainIdeal.sig) → Buf (Elt Ideal) ℓ) (g : Dev Cert.MlpPlainIdeal.nD → PrngReg), Pre_MlpPlainIdeal m →
    θ_run (Cert.MlpPlainIdeal.defs (F := Ideal)) (onTc (τ := Cert.MlpPlainIdeal.τ) (Cert.MlpPlainIdeal.main (F := Ideal))) ⟨m, fun _ => 0, g⟩ (fun r => (∀ c : Dev Cert.MlpPlainIdeal.nD,
      r.2.mem ((c.tc : Thread Cert.MlpPlainIdeal.nD Cert.MlpPlainIdeal.τ).loc Cert.MlpPlainIdeal.main_arg0) = m ((c.tc : Thread Cert.MlpPlainIdeal.nD Cert.MlpPlainIdeal.τ).loc Cert.MlpPlainIdeal.main_arg0)
      ∧ r.2.mem ((c.tc : Thread Cert.MlpPlainIdeal.nD Cert.MlpPlainIdeal.τ).loc Cert.MlpPlainIdeal.main_arg1) = m ((c.tc : Thread Cert.MlpPlainIdeal.nD Cert.MlpPlainIdeal.τ).loc Cert.MlpPlainIdeal.main_arg1)
      ∧ r.2.mem ((c.tc : Thread Cert.MlpPlainIdeal.nD Cert.MlpPlainIdeal.τ).loc Cert.MlpPlainIdeal.main_arg2) = m ((c.tc : Thread Cert.MlpPlainIdeal.nD Cert.MlpPlainIdeal.τ).loc Cert.MlpPlainIdeal.main_arg2)
      ∧ r.2.mem ((c.tc : Thread Cert.MlpPlainIdeal.nD Cert.MlpPlainIdeal.τ).loc Cert.MlpPlainIdeal.main_arg3) = m ((c.tc : Thread Cert.MlpPlainIdeal.nD Cert.MlpPlainIdeal.τ).loc Cert.MlpPlainIdeal.main_arg3)
      ∧ r.2.mem ((c.tc : Thread Cert.MlpPlainIdeal.nD Cert.MlpPlainIdeal.τ).loc Cert.MlpPlainIdeal.main_arg4) = m ((c.tc : Thread Cert.MlpPlainIdeal.nD Cert.MlpPlainIdeal.τ).loc Cert.MlpPlainIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GatePlainIdeal [hGatePlainIdeal : Cert.GatePlainIdeal.Facts] : Prop :=
  ∀ (m : (ℓ : Loc Cert.GatePlainIdeal.nD Cert.GatePlainIdeal.τ Cert.GatePlainIdeal.sig) → Buf (Elt Ideal) ℓ) (g : Dev Cert.GatePlainIdeal.nD → PrngReg), Pre_GatePlainIdeal m →
    θ_run (Cert.GatePlainIdeal.defs (F := Ideal)) (onTc (τ := Cert.GatePlainIdeal.τ) (Cert.GatePlainIdeal.main (F := Ideal))) ⟨m, fun _ => 0, g⟩ (fun r => (∀ c : Dev Cert.GatePlainIdeal.nD,
      r.2.mem ((c.tc : Thread Cert.GatePlainIdeal.nD Cert.GatePlainIdeal.τ).loc Cert.GatePlainIdeal.main_arg0) = m ((c.tc : Thread Cert.GatePlainIdeal.nD Cert.GatePlainIdeal.τ).loc Cert.GatePlainIdeal.main_arg0)
      ∧ r.2.mem ((c.tc : Thread Cert.GatePlainIdeal.nD Cert.GatePlainIdeal.τ).loc Cert.GatePlainIdeal.main_arg1) = m ((c.tc : Thread Cert.GatePlainIdeal.nD Cert.GatePlainIdeal.τ).loc Cert.GatePlainIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SamplePlainIdeal [hSamplePlainIdeal : Cert.SamplePlainIdeal.Facts] : Prop :=
  ∀ (m : (ℓ : Loc Cert.SamplePlainIdeal.nD Cert.SamplePlainIdeal.τ Cert.SamplePlainIdeal.sig) → Buf (Elt Ideal) ℓ) (g : Dev Cert.SamplePlainIdeal.nD → PrngReg), Pre_SamplePlainIdeal m →
    θ_run (Cert.SamplePlainIdeal.defs (F := Ideal)) (onTc (τ := Cert.SamplePlainIdeal.τ) (Cert.SamplePlainIdeal.main (F := Ideal))) ⟨m, fun _ => 0, g⟩ (fun r => (∀ c : Dev Cert.SamplePlainIdeal.nD,
      r.2.mem ((c.tc : Thread Cert.SamplePlainIdeal.nD Cert.SamplePlainIdeal.τ).loc Cert.SamplePlainIdeal.main_arg0) = m ((c.tc : Thread Cert.SamplePlainIdeal.nD Cert.SamplePlainIdeal.τ).loc Cert.SamplePlainIdeal.main_arg0)
      ∧ r.2.mem ((c.tc : Thread Cert.SamplePlainIdeal.nD Cert.SamplePlainIdeal.τ).loc Cert.SamplePlainIdeal.main_arg1) = m ((c.tc : Thread Cert.SamplePlainIdeal.nD Cert.SamplePlainIdeal.τ).loc Cert.SamplePlainIdeal.main_arg1)
      ∧ r.2.mem ((c.tc : Thread Cert.SamplePlainIdeal.nD Cert.SamplePlainIdeal.τ).loc Cert.SamplePlainIdeal.main_arg2) = m ((c.tc : Thread Cert.SamplePlainIdeal.nD Cert.SamplePlainIdeal.τ).loc Cert.SamplePlainIdeal.main_arg2)
      ∧ r.2.mem ((c.tc : Thread Cert.SamplePlainIdeal.nD Cert.SamplePlainIdeal.τ).loc Cert.SamplePlainIdeal.main_arg3) = m ((c.tc : Thread Cert.SamplePlainIdeal.nD Cert.SamplePlainIdeal.τ).loc Cert.SamplePlainIdeal.main_arg3)
      ∧ r.2.mem ((c.tc : Thread Cert.SamplePlainIdeal.nD Cert.SamplePlainIdeal.τ).loc Cert.SamplePlainIdeal.main_arg4) = m ((c.tc : Thread Cert.SamplePlainIdeal.nD Cert.SamplePlainIdeal.τ).loc Cert.SamplePlainIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixPlainIdeal [hMixPlainIdeal : Cert.MixPlainIdeal.Facts] : Prop :=
  ∀ (m : (ℓ : Loc Cert.MixPlainIdeal.nD Cert.MixPlainIdeal.τ Cert.MixPlainIdeal.sig) → Buf (Elt Ideal) ℓ) (g : Dev Cert.MixPlainIdeal.nD → PrngReg), Pre_MixPlainIdeal m →
    θ_run (Cert.MixPlainIdeal.defs (F := Ideal)) (onTc (τ := Cert.MixPlainIdeal.τ) (Cert.MixPlainIdeal.main (F := Ideal))) ⟨m, fun _ => 0, g⟩ (fun r => (∀ c : Dev Cert.MixPlainIdeal.nD,
      r.2.mem ((c.tc : Thread Cert.MixPlainIdeal.nD Cert.MixPlainIdeal.τ).loc Cert.MixPlainIdeal.main_arg0) = m ((c.tc : Thread Cert.MixPlainIdeal.nD Cert.MixPlainIdeal.τ).loc Cert.MixPlainIdeal.main_arg0)
      ∧ r.2.mem ((c.tc : Thread Cert.MixPlainIdeal.nD Cert.MixPlainIdeal.τ).loc Cert.MixPlainIdeal.main_arg1) = m ((c.tc : Thread Cert.MixPlainIdeal.nD Cert.MixPlainIdeal.τ).loc Cert.MixPlainIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeIdeal_pre_finite_ls [hMergeIdeal : Cert.MergeIdeal.Facts] [hPre_finite_ls : Cert.Pre_finite_ls.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_ls m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergePlainIdeal [hMergePlainIdeal : Cert.MergePlainIdeal.Facts] : Prop :=
  ∀ (m : (ℓ : Loc Cert.MergePlainIdeal.nD Cert.MergePlainIdeal.τ Cert.MergePlainIdeal.sig) → Buf (Elt Ideal) ℓ) (g : Dev Cert.MergePlainIdeal.nD → PrngReg), Pre_MergePlainIdeal m →
    θ_run (Cert.MergePlainIdeal.defs (F := Ideal)) (onTc (τ := Cert.MergePlainIdeal.τ) (Cert.MergePlainIdeal.main (F := Ideal))) ⟨m, fun _ => 0, g⟩ (fun r => (∀ c : Dev Cert.MergePlainIdeal.nD,
      r.2.mem ((c.tc : Thread Cert.MergePlainIdeal.nD Cert.MergePlainIdeal.τ).loc Cert.MergePlainIdeal.main_arg0) = m ((c.tc : Thread Cert.MergePlainIdeal.nD Cert.MergePlainIdeal.τ).loc Cert.MergePlainIdeal.main_arg0)
      ∧ r.2.mem ((c.tc : Thread Cert.MergePlainIdeal.nD Cert.MergePlainIdeal.τ).loc Cert.MergePlainIdeal.main_arg1) = m ((c.tc : Thread Cert.MergePlainIdeal.nD Cert.MergePlainIdeal.τ).loc Cert.MergePlainIdeal.main_arg1)
      ∧ r.2.mem ((c.tc : Thread Cert.MergePlainIdeal.nD Cert.MergePlainIdeal.τ).loc Cert.MergePlainIdeal.main_arg2) = m ((c.tc : Thread Cert.MergePlainIdeal.nD Cert.MergePlainIdeal.τ).loc Cert.MergePlainIdeal.main_arg2)
      ∧ r.2.mem ((c.tc : Thread Cert.MergePlainIdeal.nD Cert.MergePlainIdeal.τ).loc Cert.MergePlainIdeal.main_arg3) = m ((c.tc : Thread Cert.MergePlainIdeal.nD Cert.MergePlainIdeal.τ).loc Cert.MergePlainIdeal.main_arg3)
      ∧ r.2.mem ((c.tc : Thread Cert.MergePlainIdeal.nD Cert.MergePlainIdeal.τ).loc Cert.MergePlainIdeal.main_arg4) = m ((c.tc : Thread Cert.MergePlainIdeal.nD Cert.MergePlainIdeal.τ).loc Cert.MergePlainIdeal.main_arg4)
      ∧ r.2.mem ((c.tc : Thread Cert.MergePlainIdeal.nD Cert.MergePlainIdeal.τ).loc Cert.MergePlainIdeal.main_arg5) = m ((c.tc : Thread Cert.MergePlainIdeal.nD Cert.MergePlainIdeal.τ).loc Cert.MergePlainIdeal.main_arg5)
      ∧ r.2.mem ((c.tc : Thread Cert.MergePlainIdeal.nD Cert.MergePlainIdeal.τ).loc Cert.MergePlainIdeal.main_arg6) = m ((c.tc : Thread Cert.MergePlainIdeal.nD Cert.MergePlainIdeal.τ).loc Cert.MergePlainIdeal.main_arg6)
      ∧ r.2.mem ((c.tc : Thread Cert.MergePlainIdeal.nD Cert.MergePlainIdeal.τ).loc Cert.MergePlainIdeal.main_arg7) = m ((c.tc : Thread Cert.MergePlainIdeal.nD Cert.MergePlainIdeal.τ).loc Cert.MergePlainIdeal.main_arg7)
      ∧ r.2.mem ((c.tc : Thread Cert.MergePlainIdeal.nD Cert.MergePlainIdeal.τ).loc Cert.MergePlainIdeal.main_arg8) = m ((c.tc : Thread Cert.MergePlainIdeal.nD Cert.MergePlainIdeal.τ).loc Cert.MergePlainIdeal.main_arg8)
      ∧ r.2.mem ((c.tc : Thread Cert.MergePlainIdeal.nD Cert.MergePlainIdeal.τ).loc Cert.MergePlainIdeal.main_arg9) = m ((c.tc : Thread Cert.MergePlainIdeal.nD Cert.MergePlainIdeal.τ).loc Cert.MergePlainIdeal.main_arg9)
      ∧ r.2.mem ((c.tc : Thread Cert.MergePlainIdeal.nD Cert.MergePlainIdeal.τ).loc Cert.MergePlainIdeal.main_arg10) = m ((c.tc : Thread Cert.MergePlainIdeal.nD Cert.MergePlainIdeal.τ).loc Cert.MergePlainIdeal.main_arg10)
      ∧ r.2.mem ((c.tc : Thread Cert.MergePlainIdeal.nD Cert.MergePlainIdeal.τ).loc Cert.MergePlainIdeal.main_arg11) = m ((c.tc : Thread Cert.MergePlainIdeal.nD Cert.MergePlainIdeal.τ).loc Cert.MergePlainIdeal.main_arg11)
      ∧ r.2.mem ((c.tc : Thread Cert.MergePlainIdeal.nD Cert.MergePlainIdeal.τ).loc Cert.MergePlainIdeal.main_arg12) = m ((c.tc : Thread Cert.MergePlainIdeal.nD Cert.MergePlainIdeal.τ).loc Cert.MergePlainIdeal.main_arg12)
      ∧ r.2.mem ((c.tc : Thread Cert.MergePlainIdeal.nD Cert.MergePlainIdeal.τ).loc Cert.MergePlainIdeal.main_arg13) = m ((c.tc : Thread Cert.MergePlainIdeal.nD Cert.MergePlainIdeal.τ).loc Cert.MergePlainIdeal.main_arg13)
      ∧ r.2.mem ((c.tc : Thread Cert.MergePlainIdeal.nD Cert.MergePlainIdeal.τ).loc Cert.MergePlainIdeal.main_arg14) = m ((c.tc : Thread Cert.MergePlainIdeal.nD Cert.MergePlainIdeal.τ).loc Cert.MergePlainIdeal.main_arg14)
      ∧ r.2.mem ((c.tc : Thread Cert.MergePlainIdeal.nD Cert.MergePlainIdeal.τ).loc Cert.MergePlainIdeal.main_arg15) = m ((c.tc : Thread Cert.MergePlainIdeal.nD Cert.MergePlainIdeal.τ).loc Cert.MergePlainIdeal.main_arg15)
      ∧ r.2.mem ((c.tc : Thread Cert.MergePlainIdeal.nD Cert.MergePlainIdeal.τ).loc Cert.MergePlainIdeal.main_arg16) = m ((c.tc : Thread Cert.MergePlainIdeal.nD Cert.MergePlainIdeal.τ).loc Cert.MergePlainIdeal.main_arg16))
      ∧ r.2.sem = fun _ => 0)

def quiescent_MergePlainIdeal_pre_finite_ls [hMergePlainIdeal : Cert.MergePlainIdeal.Facts] [hPre_finite_ls : Cert.Pre_finite_ls.Facts] : Prop :=
  ∀ (m : (ℓ : Loc Cert.MergePlainIdeal.nD Cert.MergePlainIdeal.τ Cert.MergePlainIdeal.sig) → Buf (Elt Ideal) ℓ) (g : Dev Cert.MergePlainIdeal.nD → PrngReg), Pre_MergePlainIdeal_finite_ls m →
    θ_run (Cert.MergePlainIdeal.defs (F := Ideal)) (onTc (τ := Cert.MergePlainIdeal.τ) (Cert.MergePlainIdeal.main (F := Ideal))) ⟨m, fun _ => 0, g⟩ (fun r => (∀ c : Dev Cert.MergePlainIdeal.nD,
      r.2.mem ((c.tc : Thread Cert.MergePlainIdeal.nD Cert.MergePlainIdeal.τ).loc Cert.MergePlainIdeal.main_arg0) = m ((c.tc : Thread Cert.MergePlainIdeal.nD Cert.MergePlainIdeal.τ).loc Cert.MergePlainIdeal.main_arg0)
      ∧ r.2.mem ((c.tc : Thread Cert.MergePlainIdeal.nD Cert.MergePlainIdeal.τ).loc Cert.MergePlainIdeal.main_arg1) = m ((c.tc : Thread Cert.MergePlainIdeal.nD Cert.MergePlainIdeal.τ).loc Cert.MergePlainIdeal.main_arg1)
      ∧ r.2.mem ((c.tc : Thread Cert.MergePlainIdeal.nD Cert.MergePlainIdeal.τ).loc Cert.MergePlainIdeal.main_arg2) = m ((c.tc : Thread Cert.MergePlainIdeal.nD Cert.MergePlainIdeal.τ).loc Cert.MergePlainIdeal.main_arg2)
      ∧ r.2.mem ((c.tc : Thread Cert.MergePlainIdeal.nD Cert.MergePlainIdeal.τ).loc Cert.MergePlainIdeal.main_arg3) = m ((c.tc : Thread Cert.MergePlainIdeal.nD Cert.MergePlainIdeal.τ).loc Cert.MergePlainIdeal.main_arg3)
      ∧ r.2.mem ((c.tc : Thread Cert.MergePlainIdeal.nD Cert.MergePlainIdeal.τ).loc Cert.MergePlainIdeal.main_arg4) = m ((c.tc : Thread Cert.MergePlainIdeal.nD Cert.MergePlainIdeal.τ).loc Cert.MergePlainIdeal.main_arg4)
      ∧ r.2.mem ((c.tc : Thread Cert.MergePlainIdeal.nD Cert.MergePlainIdeal.τ).loc Cert.MergePlainIdeal.main_arg5) = m ((c.tc : Thread Cert.MergePlainIdeal.nD Cert.MergePlainIdeal.τ).loc Cert.MergePlainIdeal.main_arg5)
      ∧ r.2.mem ((c.tc : Thread Cert.MergePlainIdeal.nD Cert.MergePlainIdeal.τ).loc Cert.MergePlainIdeal.main_arg6) = m ((c.tc : Thread Cert.MergePlainIdeal.nD Cert.MergePlainIdeal.τ).loc Cert.MergePlainIdeal.main_arg6)
      ∧ r.2.mem ((c.tc : Thread Cert.MergePlainIdeal.nD Cert.MergePlainIdeal.τ).loc Cert.MergePlainIdeal.main_arg7) = m ((c.tc : Thread Cert.MergePlainIdeal.nD Cert.MergePlainIdeal.τ).loc Cert.MergePlainIdeal.main_arg7)
      ∧ r.2.mem ((c.tc : Thread Cert.MergePlainIdeal.nD Cert.MergePlainIdeal.τ).loc Cert.MergePlainIdeal.main_arg8) = m ((c.tc : Thread Cert.MergePlainIdeal.nD Cert.MergePlainIdeal.τ).loc Cert.MergePlainIdeal.main_arg8)
      ∧ r.2.mem ((c.tc : Thread Cert.MergePlainIdeal.nD Cert.MergePlainIdeal.τ).loc Cert.MergePlainIdeal.main_arg9) = m ((c.tc : Thread Cert.MergePlainIdeal.nD Cert.MergePlainIdeal.τ).loc Cert.MergePlainIdeal.main_arg9)
      ∧ r.2.mem ((c.tc : Thread Cert.MergePlainIdeal.nD Cert.MergePlainIdeal.τ).loc Cert.MergePlainIdeal.main_arg10) = m ((c.tc : Thread Cert.MergePlainIdeal.nD Cert.MergePlainIdeal.τ).loc Cert.MergePlainIdeal.main_arg10)
      ∧ r.2.mem ((c.tc : Thread Cert.MergePlainIdeal.nD Cert.MergePlainIdeal.τ).loc Cert.MergePlainIdeal.main_arg11) = m ((c.tc : Thread Cert.MergePlainIdeal.nD Cert.MergePlainIdeal.τ).loc Cert.MergePlainIdeal.main_arg11)
      ∧ r.2.mem ((c.tc : Thread Cert.MergePlainIdeal.nD Cert.MergePlainIdeal.τ).loc Cert.MergePlainIdeal.main_arg12) = m ((c.tc : Thread Cert.MergePlainIdeal.nD Cert.MergePlainIdeal.τ).loc Cert.MergePlainIdeal.main_arg12)
      ∧ r.2.mem ((c.tc : Thread Cert.MergePlainIdeal.nD Cert.MergePlainIdeal.τ).loc Cert.MergePlainIdeal.main_arg13) = m ((c.tc : Thread Cert.MergePlainIdeal.nD Cert.MergePlainIdeal.τ).loc Cert.MergePlainIdeal.main_arg13)
      ∧ r.2.mem ((c.tc : Thread Cert.MergePlainIdeal.nD Cert.MergePlainIdeal.τ).loc Cert.MergePlainIdeal.main_arg14) = m ((c.tc : Thread Cert.MergePlainIdeal.nD Cert.MergePlainIdeal.τ).loc Cert.MergePlainIdeal.main_arg14)
      ∧ r.2.mem ((c.tc : Thread Cert.MergePlainIdeal.nD Cert.MergePlainIdeal.τ).loc Cert.MergePlainIdeal.main_arg15) = m ((c.tc : Thread Cert.MergePlainIdeal.nD Cert.MergePlainIdeal.τ).loc Cert.MergePlainIdeal.main_arg15)
      ∧ r.2.mem ((c.tc : Thread Cert.MergePlainIdeal.nD Cert.MergePlainIdeal.τ).loc Cert.MergePlainIdeal.main_arg16) = m ((c.tc : Thread Cert.MergePlainIdeal.nD Cert.MergePlainIdeal.τ).loc Cert.MergePlainIdeal.main_arg16))
      ∧ r.2.sem = fun _ => 0)

def preserves_Kernel_KernelIdeal : Prop :=
  IdealRules.named_const.Statement Cert.KernelIdeal.κ "qk_scale" .f32 0x3E38AA3B#32 ((8⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpOut_MlpOutIdeal : Prop :=
  True

def algebraic_MlpOutIdeal_MlpOutPlainIdeal [hMlpOutIdeal : Cert.MlpOutIdeal.Facts] [hMlpOutPlainIdeal : Cert.MlpOutPlainIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutPlainIdeal.nD Cert.MlpOutPlainIdeal.τ Cert.MlpOutPlainIdeal.sig) → Buf (Elt Ideal) ℓ) (g' : Dev Cert.MlpOutPlainIdeal.nD → PrngReg), Pre_MlpOutIdeal m →
    (∀ c : Dev Cert.MlpOutIdeal.nD,
      m' ((c.tc : Thread Cert.MlpOutPlainIdeal.nD Cert.MlpOutPlainIdeal.τ).loc Cert.MlpOutPlainIdeal.main_arg0) = m ((c.tc : Thread Cert.MlpOutIdeal.nD Cert.MlpOutIdeal.τ).loc Cert.MlpOutIdeal.main_arg0)
      ∧ m' ((c.tc : Thread Cert.MlpOutPlainIdeal.nD Cert.MlpOutPlainIdeal.τ).loc Cert.MlpOutPlainIdeal.main_arg1) = m ((c.tc : Thread Cert.MlpOutIdeal.nD Cert.MlpOutIdeal.τ).loc Cert.MlpOutIdeal.main_arg1)
      ∧ m' ((c.tc : Thread Cert.MlpOutPlainIdeal.nD Cert.MlpOutPlainIdeal.τ).loc Cert.MlpOutPlainIdeal.main_arg2) = m ((c.tc : Thread Cert.MlpOutIdeal.nD Cert.MlpOutIdeal.τ).loc Cert.MlpOutIdeal.main_arg2)
      ∧ m' ((c.tc : Thread Cert.MlpOutPlainIdeal.nD Cert.MlpOutPlainIdeal.τ).loc Cert.MlpOutPlainIdeal.main_arg3) = m ((c.tc : Thread Cert.MlpOutIdeal.nD Cert.MlpOutIdeal.τ).loc Cert.MlpOutIdeal.main_arg3)
      ∧ m' ((c.tc : Thread Cert.MlpOutPlainIdeal.nD Cert.MlpOutPlainIdeal.τ).loc Cert.MlpOutPlainIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v3)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v3) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutPlainIdeal.defs (F := Ideal)) (onTc (τ := Cert.MlpOutPlainIdeal.τ) (Cert.MlpOutPlainIdeal.main (F := Ideal))) ⟨m', fun _ => 0, g'⟩ (fun r => ∀ c : Dev Cert.MlpOutPlainIdeal.nD,
          r.2.mem ((c.tc : Thread Cert.MlpOutPlainIdeal.nD Cert.MlpOutPlainIdeal.τ).loc Cert.MlpOutPlainIdeal.main_v22) = v0 c
          ∧ r.2.mem ((c.tc : Thread Cert.MlpOutPlainIdeal.nD Cert.MlpOutPlainIdeal.τ).loc Cert.MlpOutPlainIdeal.main_arg0) = m' ((c.tc : Thread Cert.MlpOutPlainIdeal.nD Cert.MlpOutPlainIdeal.τ).loc Cert.MlpOutPlainIdeal.main_arg0)
          ∧ r.2.mem ((c.tc : Thread Cert.MlpOutPlainIdeal.nD Cert.MlpOutPlainIdeal.τ).loc Cert.MlpOutPlainIdeal.main_arg1) = m' ((c.tc : Thread Cert.MlpOutPlainIdeal.nD Cert.MlpOutPlainIdeal.τ).loc Cert.MlpOutPlainIdeal.main_arg1)
          ∧ r.2.mem ((c.tc : Thread Cert.MlpOutPlainIdeal.nD Cert.MlpOutPlainIdeal.τ).loc Cert.MlpOutPlainIdeal.main_arg2) = m' ((c.tc : Thread Cert.MlpOutPlainIdeal.nD Cert.MlpOutPlainIdeal.τ).loc Cert.MlpOutPlainIdeal.main_arg2)
          ∧ r.2.mem ((c.tc : Thread Cert.MlpOutPlainIdeal.nD Cert.MlpOutPlainIdeal.τ).loc Cert.MlpOutPlainIdeal.main_arg3) = m' ((c.tc : Thread Cert.MlpOutPlainIdeal.nD Cert.MlpOutPlainIdeal.τ).loc Cert.MlpOutPlainIdeal.main_arg3)
          ∧ r.2.mem ((c.tc : Thread Cert.MlpOutPlainIdeal.nD Cert.MlpOutPlainIdeal.τ).loc Cert.MlpOutPlainIdeal.main_arg4) = m' ((c.tc : Thread Cert.MlpOutPlainIdeal.nD Cert.MlpOutPlainIdeal.τ).loc Cert.MlpOutPlainIdeal.main_arg4))

def preserves_Mlp_MlpIdeal : Prop :=
  True

def algebraic_MlpIdeal_MlpPlainIdeal [hMlpIdeal : Cert.MlpIdeal.Facts] [hMlpPlainIdeal : Cert.MlpPlainIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpPlainIdeal.nD Cert.MlpPlainIdeal.τ Cert.MlpPlainIdeal.sig) → Buf (Elt Ideal) ℓ) (g' : Dev Cert.MlpPlainIdeal.nD → PrngReg), Pre_MlpIdeal m →
    (∀ c : Dev Cert.MlpIdeal.nD,
      m' ((c.tc : Thread Cert.MlpPlainIdeal.nD Cert.MlpPlainIdeal.τ).loc Cert.MlpPlainIdeal.main_arg0) = m ((c.tc : Thread Cert.MlpIdeal.nD Cert.MlpIdeal.τ).loc Cert.MlpIdeal.main_arg0)
      ∧ m' ((c.tc : Thread Cert.MlpPlainIdeal.nD Cert.MlpPlainIdeal.τ).loc Cert.MlpPlainIdeal.main_arg1) = m ((c.tc : Thread Cert.MlpIdeal.nD Cert.MlpIdeal.τ).loc Cert.MlpIdeal.main_arg1)
      ∧ m' ((c.tc : Thread Cert.MlpPlainIdeal.nD Cert.MlpPlainIdeal.τ).loc Cert.MlpPlainIdeal.main_arg2) = m ((c.tc : Thread Cert.MlpIdeal.nD Cert.MlpIdeal.τ).loc Cert.MlpIdeal.main_arg2)
      ∧ m' ((c.tc : Thread Cert.MlpPlainIdeal.nD Cert.MlpPlainIdeal.τ).loc Cert.MlpPlainIdeal.main_arg3) = m ((c.tc : Thread Cert.MlpIdeal.nD Cert.MlpIdeal.τ).loc Cert.MlpIdeal.main_arg3)
      ∧ m' ((c.tc : Thread Cert.MlpPlainIdeal.nD Cert.MlpPlainIdeal.τ).loc Cert.MlpPlainIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3_0)) (v1 : (c : Dev Cert.MlpIdeal.nD) → Buf (Elt Ideal) ((c.tc : Thread Cert.MlpIdeal.nD Cert.MlpIdeal.τ).loc Cert.MlpIdeal.main_v3_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3_0) = v0 c
          ∧ r.2.mem ((c.tc : Thread Cert.MlpIdeal.nD Cert.MlpIdeal.τ).loc Cert.MlpIdeal.main_v3_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpPlainIdeal.defs (F := Ideal)) (onTc (τ := Cert.MlpPlainIdeal.τ) (Cert.MlpPlainIdeal.main (F := Ideal))) ⟨m', fun _ => 0, g'⟩ (fun r => ∀ c : Dev Cert.MlpPlainIdeal.nD,
          r.2.mem ((c.tc : Thread Cert.MlpPlainIdeal.nD Cert.MlpPlainIdeal.τ).loc Cert.MlpPlainIdeal.main_v9) = v0 c
          ∧ r.2.mem ((c.tc : Thread Cert.MlpPlainIdeal.nD Cert.MlpPlainIdeal.τ).loc Cert.MlpPlainIdeal.main_v23) = v1 c
          ∧ r.2.mem ((c.tc : Thread Cert.MlpPlainIdeal.nD Cert.MlpPlainIdeal.τ).loc Cert.MlpPlainIdeal.main_arg0) = m' ((c.tc : Thread Cert.MlpPlainIdeal.nD Cert.MlpPlainIdeal.τ).loc Cert.MlpPlainIdeal.main_arg0)
          ∧ r.2.mem ((c.tc : Thread Cert.MlpPlainIdeal.nD Cert.MlpPlainIdeal.τ).loc Cert.MlpPlainIdeal.main_arg1) = m' ((c.tc : Thread Cert.MlpPlainIdeal.nD Cert.MlpPlainIdeal.τ).loc Cert.MlpPlainIdeal.main_arg1)
          ∧ r.2.mem ((c.tc : Thread Cert.MlpPlainIdeal.nD Cert.MlpPlainIdeal.τ).loc Cert.MlpPlainIdeal.main_arg2) = m' ((c.tc : Thread Cert.MlpPlainIdeal.nD Cert.MlpPlainIdeal.τ).loc Cert.MlpPlainIdeal.main_arg2)
          ∧ r.2.mem ((c.tc : Thread Cert.MlpPlainIdeal.nD Cert.MlpPlainIdeal.τ).loc Cert.MlpPlainIdeal.main_arg3) = m' ((c.tc : Thread Cert.MlpPlainIdeal.nD Cert.MlpPlainIdeal.τ).loc Cert.MlpPlainIdeal.main_arg3)
          ∧ r.2.mem ((c.tc : Thread Cert.MlpPlainIdeal.nD Cert.MlpPlainIdeal.τ).loc Cert.MlpPlainIdeal.main_arg4) = m' ((c.tc : Thread Cert.MlpPlainIdeal.nD Cert.MlpPlainIdeal.τ).loc Cert.MlpPlainIdeal.main_arg4))

def preserves_Gate_GateIdeal : Prop :=
  True

def algebraic_GateIdeal_GatePlainIdeal [hGateIdeal : Cert.GateIdeal.Facts] [hGatePlainIdeal : Cert.GatePlainIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GatePlainIdeal.nD Cert.GatePlainIdeal.τ Cert.GatePlainIdeal.sig) → Buf (Elt Ideal) ℓ) (g' : Dev Cert.GatePlainIdeal.nD → PrngReg), Pre_GateIdeal m →
    (∀ c : Dev Cert.GateIdeal.nD,
      m' ((c.tc : Thread Cert.GatePlainIdeal.nD Cert.GatePlainIdeal.τ).loc Cert.GatePlainIdeal.main_arg0) = m ((c.tc : Thread Cert.GateIdeal.nD Cert.GateIdeal.τ).loc Cert.GateIdeal.main_arg0)
      ∧ m' ((c.tc : Thread Cert.GatePlainIdeal.nD Cert.GatePlainIdeal.τ).loc Cert.GatePlainIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GatePlainIdeal.defs (F := Ideal)) (onTc (τ := Cert.GatePlainIdeal.τ) (Cert.GatePlainIdeal.main (F := Ideal))) ⟨m', fun _ => 0, g'⟩ (fun r => ∀ c : Dev Cert.GatePlainIdeal.nD,
          r.2.mem ((c.tc : Thread Cert.GatePlainIdeal.nD Cert.GatePlainIdeal.τ).loc Cert.GatePlainIdeal.main_v11) = v0 c
          ∧ r.2.mem ((c.tc : Thread Cert.GatePlainIdeal.nD Cert.GatePlainIdeal.τ).loc Cert.GatePlainIdeal.main_arg0) = m' ((c.tc : Thread Cert.GatePlainIdeal.nD Cert.GatePlainIdeal.τ).loc Cert.GatePlainIdeal.main_arg0)
          ∧ r.2.mem ((c.tc : Thread Cert.GatePlainIdeal.nD Cert.GatePlainIdeal.τ).loc Cert.GatePlainIdeal.main_arg1) = m' ((c.tc : Thread Cert.GatePlainIdeal.nD Cert.GatePlainIdeal.τ).loc Cert.GatePlainIdeal.main_arg1))

def preserves_Sample_SampleIdeal : Prop :=
  True

def algebraic_SampleIdeal_SamplePlainIdeal [hSampleIdeal : Cert.SampleIdeal.Facts] [hSamplePlainIdeal : Cert.SamplePlainIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SamplePlainIdeal.nD Cert.SamplePlainIdeal.τ Cert.SamplePlainIdeal.sig) → Buf (Elt Ideal) ℓ) (g' : Dev Cert.SamplePlainIdeal.nD → PrngReg), Pre_SampleIdeal m →
    (∀ c : Dev Cert.SampleIdeal.nD,
      m' ((c.tc : Thread Cert.SamplePlainIdeal.nD Cert.SamplePlainIdeal.τ).loc Cert.SamplePlainIdeal.main_arg0) = m ((c.tc : Thread Cert.SampleIdeal.nD Cert.SampleIdeal.τ).loc Cert.SampleIdeal.main_arg0)
      ∧ m' ((c.tc : Thread Cert.SamplePlainIdeal.nD Cert.SamplePlainIdeal.τ).loc Cert.SamplePlainIdeal.main_arg1) = m ((c.tc : Thread Cert.SampleIdeal.nD Cert.SampleIdeal.τ).loc Cert.SampleIdeal.main_arg1)
      ∧ m' ((c.tc : Thread Cert.SamplePlainIdeal.nD Cert.SamplePlainIdeal.τ).loc Cert.SamplePlainIdeal.main_arg2) = m ((c.tc : Thread Cert.SampleIdeal.nD Cert.SampleIdeal.τ).loc Cert.SampleIdeal.main_arg2)
      ∧ m' ((c.tc : Thread Cert.SamplePlainIdeal.nD Cert.SamplePlainIdeal.τ).loc Cert.SamplePlainIdeal.main_arg3) = m ((c.tc : Thread Cert.SampleIdeal.nD Cert.SampleIdeal.τ).loc Cert.SampleIdeal.main_arg3)
      ∧ m' ((c.tc : Thread Cert.SamplePlainIdeal.nD Cert.SamplePlainIdeal.τ).loc Cert.SamplePlainIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v3) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SamplePlainIdeal.defs (F := Ideal)) (onTc (τ := Cert.SamplePlainIdeal.τ) (Cert.SamplePlainIdeal.main (F := Ideal))) ⟨m', fun _ => 0, g'⟩ (fun r => ∀ c : Dev Cert.SamplePlainIdeal.nD,
          r.2.mem ((c.tc : Thread Cert.SamplePlainIdeal.nD Cert.SamplePlainIdeal.τ).loc Cert.SamplePlainIdeal.main_v22) = v0 c
          ∧ r.2.mem ((c.tc : Thread Cert.SamplePlainIdeal.nD Cert.SamplePlainIdeal.τ).loc Cert.SamplePlainIdeal.main_arg0) = m' ((c.tc : Thread Cert.SamplePlainIdeal.nD Cert.SamplePlainIdeal.τ).loc Cert.SamplePlainIdeal.main_arg0)
          ∧ r.2.mem ((c.tc : Thread Cert.SamplePlainIdeal.nD Cert.SamplePlainIdeal.τ).loc Cert.SamplePlainIdeal.main_arg1) = m' ((c.tc : Thread Cert.SamplePlainIdeal.nD Cert.SamplePlainIdeal.τ).loc Cert.SamplePlainIdeal.main_arg1)
          ∧ r.2.mem ((c.tc : Thread Cert.SamplePlainIdeal.nD Cert.SamplePlainIdeal.τ).loc Cert.SamplePlainIdeal.main_arg2) = m' ((c.tc : Thread Cert.SamplePlainIdeal.nD Cert.SamplePlainIdeal.τ).loc Cert.SamplePlainIdeal.main_arg2)
          ∧ r.2.mem ((c.tc : Thread Cert.SamplePlainIdeal.nD Cert.SamplePlainIdeal.τ).loc Cert.SamplePlainIdeal.main_arg3) = m' ((c.tc : Thread Cert.SamplePlainIdeal.nD Cert.SamplePlainIdeal.τ).loc Cert.SamplePlainIdeal.main_arg3)
          ∧ r.2.mem ((c.tc : Thread Cert.SamplePlainIdeal.nD Cert.SamplePlainIdeal.τ).loc Cert.SamplePlainIdeal.main_arg4) = m' ((c.tc : Thread Cert.SamplePlainIdeal.nD Cert.SamplePlainIdeal.τ).loc Cert.SamplePlainIdeal.main_arg4))

def preserves_Mix_MixIdeal : Prop :=
  True

def algebraic_MixIdeal_MixPlainIdeal [hMixIdeal : Cert.MixIdeal.Facts] [hMixPlainIdeal : Cert.MixPlainIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixPlainIdeal.nD Cert.MixPlainIdeal.τ Cert.MixPlainIdeal.sig) → Buf (Elt Ideal) ℓ) (g' : Dev Cert.MixPlainIdeal.nD → PrngReg), Pre_MixIdeal m →
    (∀ c : Dev Cert.MixIdeal.nD,
      m' ((c.tc : Thread Cert.MixPlainIdeal.nD Cert.MixPlainIdeal.τ).loc Cert.MixPlainIdeal.main_arg0) = m ((c.tc : Thread Cert.MixIdeal.nD Cert.MixIdeal.τ).loc Cert.MixIdeal.main_arg0)
      ∧ m' ((c.tc : Thread Cert.MixPlainIdeal.nD Cert.MixPlainIdeal.τ).loc Cert.MixPlainIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixPlainIdeal.defs (F := Ideal)) (onTc (τ := Cert.MixPlainIdeal.τ) (Cert.MixPlainIdeal.main (F := Ideal))) ⟨m', fun _ => 0, g'⟩ (fun r => ∀ c : Dev Cert.MixPlainIdeal.nD,
          r.2.mem ((c.tc : Thread Cert.MixPlainIdeal.nD Cert.MixPlainIdeal.τ).loc Cert.MixPlainIdeal.main_v5) = v0 c
          ∧ r.2.mem ((c.tc : Thread Cert.MixPlainIdeal.nD Cert.MixPlainIdeal.τ).loc Cert.MixPlainIdeal.main_v8) = v1 c
          ∧ r.2.mem ((c.tc : Thread Cert.MixPlainIdeal.nD Cert.MixPlainIdeal.τ).loc Cert.MixPlainIdeal.main_v11) = v2 c
          ∧ r.2.mem ((c.tc : Thread Cert.MixPlainIdeal.nD Cert.MixPlainIdeal.τ).loc Cert.MixPlainIdeal.main_arg0) = m' ((c.tc : Thread Cert.MixPlainIdeal.nD Cert.MixPlainIdeal.τ).loc Cert.MixPlainIdeal.main_arg0)
          ∧ r.2.mem ((c.tc : Thread Cert.MixPlainIdeal.nD Cert.MixPlainIdeal.τ).loc Cert.MixPlainIdeal.main_arg1) = m' ((c.tc : Thread Cert.MixPlainIdeal.nD Cert.MixPlainIdeal.τ).loc Cert.MixPlainIdeal.main_arg1))

def preserves_Merge_MergeIdeal : Prop :=
  IdealRules.named_const.Statement Cert.MergeIdeal.κ "log2_e" .f32 0x3FB8AA3B#32 (((Real.log 2)⁻¹ : ℝ) : EReal)

def algebraic_MergeIdeal_MergePlainIdeal_pre_finite_ls [hMergeIdeal : Cert.MergeIdeal.Facts] [hMergePlainIdeal : Cert.MergePlainIdeal.Facts] [hPre_finite_ls : Cert.Pre_finite_ls.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergePlainIdeal.nD Cert.MergePlainIdeal.τ Cert.MergePlainIdeal.sig) → Buf (Elt Ideal) ℓ) (g' : Dev Cert.MergePlainIdeal.nD → PrngReg), Pre_MergeIdeal_finite_ls m →
    (∀ c : Dev Cert.MergeIdeal.nD,
      m' ((c.tc : Thread Cert.MergePlainIdeal.nD Cert.MergePlainIdeal.τ).loc Cert.MergePlainIdeal.main_arg0) = m ((c.tc : Thread Cert.MergeIdeal.nD Cert.MergeIdeal.τ).loc Cert.MergeIdeal.main_arg0)
      ∧ m' ((c.tc : Thread Cert.MergePlainIdeal.nD Cert.MergePlainIdeal.τ).loc Cert.MergePlainIdeal.main_arg1) = m ((c.tc : Thread Cert.MergeIdeal.nD Cert.MergeIdeal.τ).loc Cert.MergeIdeal.main_arg1)
      ∧ m' ((c.tc : Thread Cert.MergePlainIdeal.nD Cert.MergePlainIdeal.τ).loc Cert.MergePlainIdeal.main_arg2) = m ((c.tc : Thread Cert.MergeIdeal.nD Cert.MergeIdeal.τ).loc Cert.MergeIdeal.main_arg2)
      ∧ m' ((c.tc : Thread Cert.MergePlainIdeal.nD Cert.MergePlainIdeal.τ).loc Cert.MergePlainIdeal.main_arg3) = m ((c.tc : Thread Cert.MergeIdeal.nD Cert.MergeIdeal.τ).loc Cert.MergeIdeal.main_arg3)
      ∧ m' ((c.tc : Thread Cert.MergePlainIdeal.nD Cert.MergePlainIdeal.τ).loc Cert.MergePlainIdeal.main_arg4) = m ((c.tc : Thread Cert.MergeIdeal.nD Cert.MergeIdeal.τ).loc Cert.MergeIdeal.main_arg4)
      ∧ m' ((c.tc : Thread Cert.MergePlainIdeal.nD Cert.MergePlainIdeal.τ).loc Cert.MergePlainIdeal.main_arg5) = m ((c.tc : Thread Cert.MergeIdeal.nD Cert.MergeIdeal.τ).loc Cert.MergeIdeal.main_arg5)
      ∧ m' ((c.tc : Thread Cert.MergePlainIdeal.nD Cert.MergePlainIdeal.τ).loc Cert.MergePlainIdeal.main_arg6) = m ((c.tc : Thread Cert.MergeIdeal.nD Cert.MergeIdeal.τ).loc Cert.MergeIdeal.main_arg6)
      ∧ m' ((c.tc : Thread Cert.MergePlainIdeal.nD Cert.MergePlainIdeal.τ).loc Cert.MergePlainIdeal.main_arg7) = m ((c.tc : Thread Cert.MergeIdeal.nD Cert.MergeIdeal.τ).loc Cert.MergeIdeal.main_arg7)
      ∧ m' ((c.tc : Thread Cert.MergePlainIdeal.nD Cert.MergePlainIdeal.τ).loc Cert.MergePlainIdeal.main_arg8) = m ((c.tc : Thread Cert.MergeIdeal.nD Cert.MergeIdeal.τ).loc Cert.MergeIdeal.main_arg8)
      ∧ m' ((c.tc : Thread Cert.MergePlainIdeal.nD Cert.MergePlainIdeal.τ).loc Cert.MergePlainIdeal.main_arg9) = m ((c.tc : Thread Cert.MergeIdeal.nD Cert.MergeIdeal.τ).loc Cert.MergeIdeal.main_arg9)
      ∧ m' ((c.tc : Thread Cert.MergePlainIdeal.nD Cert.MergePlainIdeal.τ).loc Cert.MergePlainIdeal.main_arg10) = m ((c.tc : Thread Cert.MergeIdeal.nD Cert.MergeIdeal.τ).loc Cert.MergeIdeal.main_arg10)
      ∧ m' ((c.tc : Thread Cert.MergePlainIdeal.nD Cert.MergePlainIdeal.τ).loc Cert.MergePlainIdeal.main_arg11) = m ((c.tc : Thread Cert.MergeIdeal.nD Cert.MergeIdeal.τ).loc Cert.MergeIdeal.main_arg11)
      ∧ m' ((c.tc : Thread Cert.MergePlainIdeal.nD Cert.MergePlainIdeal.τ).loc Cert.MergePlainIdeal.main_arg12) = m ((c.tc : Thread Cert.MergeIdeal.nD Cert.MergeIdeal.τ).loc Cert.MergeIdeal.main_arg12)
      ∧ m' ((c.tc : Thread Cert.MergePlainIdeal.nD Cert.MergePlainIdeal.τ).loc Cert.MergePlainIdeal.main_arg13) = m ((c.tc : Thread Cert.MergeIdeal.nD Cert.MergeIdeal.τ).loc Cert.MergeIdeal.main_arg13)
      ∧ m' ((c.tc : Thread Cert.MergePlainIdeal.nD Cert.MergePlainIdeal.τ).loc Cert.MergePlainIdeal.main_arg14) = m ((c.tc : Thread Cert.MergeIdeal.nD Cert.MergeIdeal.τ).loc Cert.MergeIdeal.main_arg14)
      ∧ m' ((c.tc : Thread Cert.MergePlainIdeal.nD Cert.MergePlainIdeal.τ).loc Cert.MergePlainIdeal.main_arg15) = m ((c.tc : Thread Cert.MergeIdeal.nD Cert.MergeIdeal.τ).loc Cert.MergeIdeal.main_arg15)
      ∧ m' ((c.tc : Thread Cert.MergePlainIdeal.nD Cert.MergePlainIdeal.τ).loc Cert.MergePlainIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergePlainIdeal.defs (F := Ideal)) (onTc (τ := Cert.MergePlainIdeal.τ) (Cert.MergePlainIdeal.main (F := Ideal))) ⟨m', fun _ => 0, g'⟩ (fun r => ∀ c : Dev Cert.MergePlainIdeal.nD,
          r.2.mem ((c.tc : Thread Cert.MergePlainIdeal.nD Cert.MergePlainIdeal.τ).loc Cert.MergePlainIdeal.main_v63) = v0 c
          ∧ r.2.mem ((c.tc : Thread Cert.MergePlainIdeal.nD Cert.MergePlainIdeal.τ).loc Cert.MergePlainIdeal.main_v77) = v1 c
          ∧ r.2.mem ((c.tc : Thread Cert.MergePlainIdeal.nD Cert.MergePlainIdeal.τ).loc Cert.MergePlainIdeal.main_arg0) = m' ((c.tc : Thread Cert.MergePlainIdeal.nD Cert.MergePlainIdeal.τ).loc Cert.MergePlainIdeal.main_arg0)
          ∧ r.2.mem ((c.tc : Thread Cert.MergePlainIdeal.nD Cert.MergePlainIdeal.τ).loc Cert.MergePlainIdeal.main_arg1) = m' ((c.tc : Thread Cert.MergePlainIdeal.nD Cert.MergePlainIdeal.τ).loc Cert.MergePlainIdeal.main_arg1)
          ∧ r.2.mem ((c.tc : Thread Cert.MergePlainIdeal.nD Cert.MergePlainIdeal.τ).loc Cert.MergePlainIdeal.main_arg2) = m' ((c.tc : Thread Cert.MergePlainIdeal.nD Cert.MergePlainIdeal.τ).loc Cert.MergePlainIdeal.main_arg2)
          ∧ r.2.mem ((c.tc : Thread Cert.MergePlainIdeal.nD Cert.MergePlainIdeal.τ).loc Cert.MergePlainIdeal.main_arg3) = m' ((c.tc : Thread Cert.MergePlainIdeal.nD Cert.MergePlainIdeal.τ).loc Cert.MergePlainIdeal.main_arg3)
          ∧ r.2.mem ((c.tc : Thread Cert.MergePlainIdeal.nD Cert.MergePlainIdeal.τ).loc Cert.MergePlainIdeal.main_arg4) = m' ((c.tc : Thread Cert.MergePlainIdeal.nD Cert.MergePlainIdeal.τ).loc Cert.MergePlainIdeal.main_arg4)
          ∧ r.2.mem ((c.tc : Thread Cert.MergePlainIdeal.nD Cert.MergePlainIdeal.τ).loc Cert.MergePlainIdeal.main_arg5) = m' ((c.tc : Thread Cert.MergePlainIdeal.nD Cert.MergePlainIdeal.τ).loc Cert.MergePlainIdeal.main_arg5)
          ∧ r.2.mem ((c.tc : Thread Cert.MergePlainIdeal.nD Cert.MergePlainIdeal.τ).loc Cert.MergePlainIdeal.main_arg6) = m' ((c.tc : Thread Cert.MergePlainIdeal.nD Cert.MergePlainIdeal.τ).loc Cert.MergePlainIdeal.main_arg6)
          ∧ r.2.mem ((c.tc : Thread Cert.MergePlainIdeal.nD Cert.MergePlainIdeal.τ).loc Cert.MergePlainIdeal.main_arg7) = m' ((c.tc : Thread Cert.MergePlainIdeal.nD Cert.MergePlainIdeal.τ).loc Cert.MergePlainIdeal.main_arg7)
          ∧ r.2.mem ((c.tc : Thread Cert.MergePlainIdeal.nD Cert.MergePlainIdeal.τ).loc Cert.MergePlainIdeal.main_arg8) = m' ((c.tc : Thread Cert.MergePlainIdeal.nD Cert.MergePlainIdeal.τ).loc Cert.MergePlainIdeal.main_arg8)
          ∧ r.2.mem ((c.tc : Thread Cert.MergePlainIdeal.nD Cert.MergePlainIdeal.τ).loc Cert.MergePlainIdeal.main_arg9) = m' ((c.tc : Thread Cert.MergePlainIdeal.nD Cert.MergePlainIdeal.τ).loc Cert.MergePlainIdeal.main_arg9)
          ∧ r.2.mem ((c.tc : Thread Cert.MergePlainIdeal.nD Cert.MergePlainIdeal.τ).loc Cert.MergePlainIdeal.main_arg10) = m' ((c.tc : Thread Cert.MergePlainIdeal.nD Cert.MergePlainIdeal.τ).loc Cert.MergePlainIdeal.main_arg10)
          ∧ r.2.mem ((c.tc : Thread Cert.MergePlainIdeal.nD Cert.MergePlainIdeal.τ).loc Cert.MergePlainIdeal.main_arg11) = m' ((c.tc : Thread Cert.MergePlainIdeal.nD Cert.MergePlainIdeal.τ).loc Cert.MergePlainIdeal.main_arg11)
          ∧ r.2.mem ((c.tc : Thread Cert.MergePlainIdeal.nD Cert.MergePlainIdeal.τ).loc Cert.MergePlainIdeal.main_arg12) = m' ((c.tc : Thread Cert.MergePlainIdeal.nD Cert.MergePlainIdeal.τ).loc Cert.MergePlainIdeal.main_arg12)
          ∧ r.2.mem ((c.tc : Thread Cert.MergePlainIdeal.nD Cert.MergePlainIdeal.τ).loc Cert.MergePlainIdeal.main_arg13) = m' ((c.tc : Thread Cert.MergePlainIdeal.nD Cert.MergePlainIdeal.τ).loc Cert.MergePlainIdeal.main_arg13)
          ∧ r.2.mem ((c.tc : Thread Cert.MergePlainIdeal.nD Cert.MergePlainIdeal.τ).loc Cert.MergePlainIdeal.main_arg14) = m' ((c.tc : Thread Cert.MergePlainIdeal.nD Cert.MergePlainIdeal.τ).loc Cert.MergePlainIdeal.main_arg14)
          ∧ r.2.mem ((c.tc : Thread Cert.MergePlainIdeal.nD Cert.MergePlainIdeal.τ).loc Cert.MergePlainIdeal.main_arg15) = m' ((c.tc : Thread Cert.MergePlainIdeal.nD Cert.MergePlainIdeal.τ).loc Cert.MergePlainIdeal.main_arg15)
          ∧ r.2.mem ((c.tc : Thread Cert.MergePlainIdeal.nD Cert.MergePlainIdeal.τ).loc Cert.MergePlainIdeal.main_arg16) = m' ((c.tc : Thread Cert.MergePlainIdeal.nD Cert.MergePlainIdeal.τ).loc Cert.MergePlainIdeal.main_arg16))

def Claim : Prop :=
  ∃ (hKernel : Cert.Kernel.Facts) (hKernelIdeal : Cert.KernelIdeal.Facts) (hReferenceIdeal : Cert.ReferenceIdeal.Facts) (hMlpOut : Cert.MlpOut.Facts) (hMlpOutIdeal : Cert.MlpOutIdeal.Facts) (hMlpOutPlainIdeal : Cert.MlpOutPlainIdeal.Facts) (hMlp : Cert.Mlp.Facts) (hMlpIdeal : Cert.MlpIdeal.Facts) (hMlpPlainIdeal : Cert.MlpPlainIdeal.Facts) (hGate : Cert.Gate.Facts) (hGateIdeal : Cert.GateIdeal.Facts) (hGatePlainIdeal : Cert.GatePlainIdeal.Facts) (hSample : Cert.Sample.Facts) (hSampleIdeal : Cert.SampleIdeal.Facts) (hSamplePlainIdeal : Cert.SamplePlainIdeal.Facts) (hMix : Cert.Mix.Facts) (hMixIdeal : Cert.MixIdeal.Facts) (hMixPlainIdeal : Cert.MixPlainIdeal.Facts) (hMerge : Cert.Merge.Facts) (hMergeIdeal : Cert.MergeIdeal.Facts) (hMergePlainIdeal : Cert.MergePlainIdeal.Facts) (hPre_finite_qk : Cert.Pre_finite_qk.Facts) (hPre_finite_ls : Cert.Pre_finite_ls.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_MlpOut (hMlpOut := hMlpOut)
    ∧ quiescent_MlpOutIdeal (hMlpOutIdeal := hMlpOutIdeal)
    ∧ quiescent_MlpOutPlainIdeal (hMlpOutPlainIdeal := hMlpOutPlainIdeal)
    ∧ quiescent_Mlp (hMlp := hMlp)
    ∧ quiescent_MlpIdeal (hMlpIdeal := hMlpIdeal)
    ∧ quiescent_MlpPlainIdeal (hMlpPlainIdeal := hMlpPlainIdeal)
    ∧ quiescent_Gate (hGate := hGate)
    ∧ quiescent_GateIdeal (hGateIdeal := hGateIdeal)
    ∧ quiescent_GatePlainIdeal (hGatePlainIdeal := hGatePlainIdeal)
    ∧ quiescent_Sample (hSample := hSample)
    ∧ quiescent_SampleIdeal (hSampleIdeal := hSampleIdeal)
    ∧ quiescent_SamplePlainIdeal (hSamplePlainIdeal := hSamplePlainIdeal)
    ∧ quiescent_Mix (hMix := hMix)
    ∧ quiescent_MixIdeal (hMixIdeal := hMixIdeal)
    ∧ quiescent_MixPlainIdeal (hMixPlainIdeal := hMixPlainIdeal)
    ∧ quiescent_Merge (hMerge := hMerge)
    ∧ quiescent_MergeIdeal (hMergeIdeal := hMergeIdeal)
    ∧ quiescent_MergeIdeal_pre_finite_ls (hMergeIdeal := hMergeIdeal) (hPre_finite_ls := hPre_finite_ls)
    ∧ quiescent_MergePlainIdeal (hMergePlainIdeal := hMergePlainIdeal)
    ∧ quiescent_MergePlainIdeal_pre_finite_ls (hMergePlainIdeal := hMergePlainIdeal) (hPre_finite_ls := hPre_finite_ls)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_MlpOut_MlpOutIdeal
    ∧ algebraic_MlpOutIdeal_MlpOutPlainIdeal (hMlpOutIdeal := hMlpOutIdeal) (hMlpOutPlainIdeal := hMlpOutPlainIdeal)
    ∧ preserves_Mlp_MlpIdeal
    ∧ algebraic_MlpIdeal_MlpPlainIdeal (hMlpIdeal := hMlpIdeal) (hMlpPlainIdeal := hMlpPlainIdeal)
    ∧ preserves_Gate_GateIdeal
    ∧ algebraic_GateIdeal_GatePlainIdeal (hGateIdeal := hGateIdeal) (hGatePlainIdeal := hGatePlainIdeal)
    ∧ preserves_Sample_SampleIdeal
    ∧ algebraic_SampleIdeal_SamplePlainIdeal (hSampleIdeal := hSampleIdeal) (hSamplePlainIdeal := hSamplePlainIdeal)
    ∧ preserves_Mix_MixIdeal
    ∧ algebraic_MixIdeal_MixPlainIdeal (hMixIdeal := hMixIdeal) (hMixPlainIdeal := hMixPlainIdeal)
    ∧ preserves_Merge_MergeIdeal
    ∧ algebraic_MergeIdeal_MergePlainIdeal_pre_finite_ls (hMergeIdeal := hMergeIdeal) (hMergePlainIdeal := hMergePlainIdeal) (hPre_finite_ls := hPre_finite_ls)
-- ==== Pre_finite_ls.lean ====
abbrev S16384x2048 : Shape := ⟨2, ![16384, 2048]⟩
abbrev S16384x512 : Shape := ⟨2, ![16384, 512]⟩
abbrev S2x1x8192x256 : Shape := ⟨4, ![2, 1, 8192, 256]⟩
abbrev S2x4x2048x256 : Shape := ⟨4, ![2, 4, 2048, 256]⟩
abbrev S2x16x512x256 : Shape := ⟨4, ![2, 16, 512, 256]⟩
abbrev S16384x8192 : Shape := ⟨2, ![16384, 8192]⟩
abbrev S4x512x2048 : Shape := ⟨3, ![4, 512, 2048]⟩
abbrev S4x256x2048 : Shape := ⟨3, ![4, 256, 2048]⟩
abbrev S4x2048x2048 : Shape := ⟨3, ![4, 2048, 2048]⟩
abbrev S2048 : Shape := ⟨1, ![2048]⟩
abbrev S_ : Shape := ⟨0, ![]⟩

class Facts : Prop where
  bcast_S_S2x1x8192x256 : S_.BroadcastsInDim S2x1x8192x256 (![] : Fin 0 → Fin S2x1x8192x256.rank)
  reducesTo_S2x1x8192x256_S_d0_1_2_3 : S2x1x8192x256.ReducesTo [0, 1, 2, 3] S_
  h_S_ : 0 < S_.numel
  bcast_S_S2x4x2048x256 : S_.BroadcastsInDim S2x4x2048x256 (![] : Fin 0 → Fin S2x4x2048x256.rank)
  reducesTo_S2x4x2048x256_S_d0_1_2_3 : S2x4x2048x256.ReducesTo [0, 1, 2, 3] S_
  bcast_S_S2x16x512x256 : S_.BroadcastsInDim S2x16x512x256 (![] : Fin 0 → Fin S2x16x512x256.rank)
  reducesTo_S2x16x512x256_S_d0_1_2_3 : S2x16x512x256.ReducesTo [0, 1, 2, 3] S_

variable [Facts]

def fn {F : FTy → Type} [FloatOps F] (main_arg0 : FVec F S16384x2048 .f32) (main_arg1 : FVec F S16384x512 .bf16) (main_arg2 : FVec F S2x1x8192x256 .f32) (main_arg3 : FVec F S2x4x2048x256 .f32) (main_arg4 : FVec F S2x16x512x256 .f32) (main_arg5 : FVec F S2x1x8192x256 .f32) (main_arg6 : FVec F S2x4x2048x256 .f32) (main_arg7 : FVec F S2x16x512x256 .f32) (main_arg8 : FVec F S16384x512 .bf16) (main_arg9 : FVec F S16384x512 .bf16) (main_arg10 : FVec F S16384x8192 .bf16) (main_arg11 : FVec F S4x512x2048 .f32) (main_arg12 : FVec F S4x256x2048 .f32) (main_arg13 : FVec F S4x512x2048 .f32) (main_arg14 : FVec F S4x512x2048 .f32) (main_arg15 : FVec F S4x2048x2048 .f32) (main_arg16 : FVec F S2048 .f32) : IVec S_ 1 :=
  let main_v0 : FVec F S2x1x8192x256 .f32 := Host.absf main_arg5
  let main_cst : FVec F S_ .f32 := constant S_ .f32 0x7F800000#32
  let main_v1 : FVec F S2x1x8192x256 .f32 := broadcastInDim S2x1x8192x256 ![] bcast_S_S2x1x8192x256 main_cst
  let main_v2 : IVec S2x1x8192x256 1 := cmpf .olt main_v0 main_v1
  let main_c : IVec S_ 1 := constantI S_ 1 1#1
  let main_v3 : IVec S_ 1 := (fun x v => Host.reduce IntOp.andi x v reducesTo_S2x1x8192x256_S_d0_1_2_3 h_S_) main_v2 main_c
  let main_v4 : FVec F S2x4x2048x256 .f32 := Host.absf main_arg6
  let main_cst_0 : FVec F S_ .f32 := constant S_ .f32 0x7F800000#32
  let main_v5 : FVec F S2x4x2048x256 .f32 := broadcastInDim S2x4x2048x256 ![] bcast_S_S2x4x2048x256 main_cst_0
  let main_v6 : IVec S2x4x2048x256 1 := cmpf .olt main_v4 main_v5
  let main_c_1 : IVec S_ 1 := constantI S_ 1 1#1
  let main_v7 : IVec S_ 1 := (fun x v => Host.reduce IntOp.andi x v reducesTo_S2x4x2048x256_S_d0_1_2_3 h_S_) main_v6 main_c_1
  let main_v8 : FVec F S2x16x512x256 .f32 := Host.absf main_arg7
  let main_cst_2 : FVec F S_ .f32 := constant S_ .f32 0x7F800000#32
  let main_v9 : FVec F S2x16x512x256 .f32 := broadcastInDim S2x16x512x256 ![] bcast_S_S2x16x512x256 main_cst_2
  let main_v10 : IVec S2x16x512x256 1 := cmpf .olt main_v8 main_v9
  let main_c_3 : IVec S_ 1 := constantI S_ 1 1#1
  let main_v11 : IVec S_ 1 := (fun x v => Host.reduce IntOp.andi x v reducesTo_S2x16x512x256_S_d0_1_2_3 h_S_) main_v10 main_c_3
  let main_v12 : IVec S_ 1 := andi main_v7 main_v11
  let main_v13 : IVec S_ 1 := andi main_v3 main_v12
  main_v13
-- ==== Pre_finite_qk.lean ====
abbrev S16384x512 : Shape := ⟨2, ![16384, 512]⟩
abbrev S16384x128 : Shape := ⟨2, ![16384, 128]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x512 .bf16) (main_arg1 : FVec F S16384x128 .bf16) (main_arg2 : FVec F S16384x128 .bf16) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x128 .f32 := (extf .f32 · bitsLt_bf16_f32) main_arg1
  let main_v6 : FVec F S16384x128 .f32 := Host.absf main_v5
  let main_cst_0 : FVec F S_ .f32 := constant S_ .f32 0x7F800000#32
  let main_v7 : FVec F S16384x128 .f32 := broadcastInDim S16384x128 ![] bcast_S_S16384x128 main_cst_0
  let main_v8 : IVec S16384x128 1 := cmpf .olt main_v6 main_v7
  let main_c_1 : IVec S_ 1 := constantI S_ 1 1#1
  let main_v9 : IVec S_ 1 := (fun x v => Host.reduce IntOp.andi x v reducesTo_S16384x128_S_d0_1 h_S_) main_v8 main_c_1
  let main_v10 : IVec S_ 1 := andi main_v4 main_v9
  main_v10
-- ==== Kernel.lean ====
abbrev S16384x512 : Shape := ⟨2, ![16384, 512]⟩
abbrev S16384x128 : Shape := ⟨2, ![16384, 128]⟩
abbrev S16384x2x64 : Shape := ⟨3, ![16384, 2, 64]⟩
abbrev S_ : Shape := ⟨0, ![]⟩
abbrev S16384x2x128 : Shape := ⟨3, ![16384, 2, 128]⟩
abbrev S16384x256 : Shape := ⟨2, ![16384, 256]⟩
abbrev S2048x256 : Shape := ⟨2, ![2048, 256]⟩
abbrev S8192x128 : Shape := ⟨2, ![8192, 128]⟩
abbrev S4x2048x128 : Shape := ⟨3, ![4, 2048, 128]⟩
abbrev S1x128 : Shape := ⟨2, ![1, 128]⟩
abbrev S2048x128 : Shape := ⟨2, ![2048, 128]⟩
abbrev S1x2048x128 : Shape := ⟨3, ![1, 2048, 128]⟩
abbrev S1024x128 : Shape := ⟨2, ![1024, 128]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 14
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S16384x2x64, .bf16⟩
  | .hbm, ⟨4, _⟩ => ⟨S16384x2x64, .bf16⟩
  | .hbm, ⟨5, _⟩ => ⟨S_, .bf16⟩
  | .hbm, ⟨6, _⟩ => ⟨S16384x2x64, .bf16⟩
  | .hbm, ⟨7, _⟩ => ⟨S16384x2x128, .bf16⟩
  | .hbm, ⟨8, _⟩ => ⟨S16384x256, .bf16⟩
  | .hbm, ⟨9, _⟩ => ⟨S16384x2x128, .bf16⟩
  | .hbm, ⟨10, _⟩ => ⟨S16384x256, .bf16⟩
  | .hbm, ⟨11, _⟩ => ⟨S16384x2x128, .bf16⟩
  | .hbm, ⟨12, _⟩ => ⟨S16384x256, .bf16⟩
  | .hbm, ⟨13, _⟩ => ⟨S16384x512, .bf16⟩
  | .local _ .vmem, ⟨0, _⟩ => ⟨S2048x256, .bf16⟩
  | .local _ .vmem, ⟨1, _⟩ => ⟨S2048x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S2048x256, .bf16⟩
  | .local _ .vmem, ⟨9, _⟩ => ⟨S2048x256, .bf16⟩
  | .local _ .vmem, ⟨10, _⟩ => ⟨S4x2048x128, .bf16⟩
  | .local _ .vmem, ⟨11, _⟩ => ⟨S4x2048x128, .f32⟩
  | .local _ .vmem, ⟨12, _⟩ => ⟨S4x2048x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

@[reducible] def k0_t1_loop : Scf.Loop 32 :=
  let c0_i32 : BitVec 32 := 0#32
  let c8_i32 : BitVec 32 := 8#32
  let v61 : BitVec 32 := Scalar.addi c0_i32 c8_i32
  let c1_i32 : BitVec 32 := 1#32
  ⟨c0_i32, v61, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v92 : BitVec 32 := Scalar.muli arg11 c1024_i32
  v92
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c1024_i32 : BitVec 32 := 1024#32
  let v92 : BitVec 32 := Scalar.muli arg11 c1024_i32
  let v93 : BitVec 32 := v92
  let v94 : Index := Scalar.indexCast v93
  let c0_54 : Index := 0#32
  ![v94.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "qk_scale" => some ((8⁻¹ * (Real.log 2)⁻¹ : ℝ) : EReal)
  | _ => none
-- ==== ReferenceIdeal.lean ====
abbrev S16384x512 : Shape := ⟨2, ![16384, 512]⟩
abbrev S16384x128 : Shape := ⟨2, ![16384, 128]⟩
abbrev S2x8192x2x4x64 : Shape := ⟨5, ![2, 8192, 2, 4, 64]⟩
abbrev S2x8192x2x64 : Shape := ⟨4, ![2, 8192, 2, 64]⟩
abbrev S2x2x8192x8192x4 : Shape := ⟨5, ![2, 2, 8192, 8192, 4]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S16384x512, .f32⟩
  | .hbm, ⟨4, _⟩ => ⟨S2x8192x2x4x64, .f32⟩
  | .hbm, ⟨5, _⟩ => ⟨S16384x128, .f32⟩
  | .hbm, ⟨6, _⟩ => ⟨S2x8192x2x64, .f32⟩
  | .hbm, ⟨7, _⟩ => ⟨S16384x128, .f32⟩
  | .hbm, ⟨8, _⟩ => ⟨S2x8192x2x64, .f32⟩
  | .hbm, ⟨9, _⟩ => ⟨S2x2x8192x8192x4, .f32⟩
  | .hbm, ⟨10, _⟩ => ⟨S2x2x4x8192x8192, .f32⟩
  | .hbm, ⟨11, _⟩ => ⟨S_, .f32⟩
  | .hbm, ⟨12, _⟩ => ⟨S2x2x4x8192x8192, .f32⟩
  | .hbm, ⟨13, _⟩ => ⟨S2x2x4x8192x8192, .f32⟩
  | .hbm, ⟨14, _⟩ => ⟨S_, .f32⟩
  | .hbm, ⟨15, _⟩ => ⟨S2x2x4x8192, .f32⟩
  | .hbm, ⟨16, _⟩ => ⟨S_, .f32⟩
  | .hbm, ⟨17, _⟩ => ⟨S2x2x4x8192, .f32⟩
  | .hbm, ⟨18, _⟩ => ⟨S2x2x4x8192, .f32⟩
  | .hbm, ⟨19, _⟩ => ⟨S2x2x4x8192x1, .f32⟩
  | .hbm, ⟨20, _⟩ => ⟨S2x2x4x8192x8192, .f32⟩
  | .hbm, ⟨21, _⟩ => ⟨S2x2x4x8192x8192, .f32⟩
  | .hbm, ⟨22, _⟩ => ⟨S2x2x4x8192x8192, .f32⟩
  | .hbm, ⟨23, _⟩ => ⟨S_, .f32⟩
  | .hbm, ⟨24, _⟩ => ⟨S2x2x4x8192, .f32⟩
  | .hbm, ⟨25, _⟩ => ⟨S2x2x4x8192x1, .f32⟩
  | .hbm, ⟨26, _⟩ => ⟨S2x2x4x8192x8192, .f32⟩
  | .hbm, ⟨27, _⟩ => ⟨S2x2x4x8192x8192, .f32⟩
  | .hbm, ⟨28, _⟩ => ⟨S2x2x64x4x8192, .f32⟩
  | .hbm, ⟨29, _⟩ => ⟨S2x8192x2x4x64, .f32⟩
  | .hbm, ⟨30, _⟩ => ⟨S16384x512, .f32⟩
  | .hbm, ⟨31, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== MlpOut.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_28 : BitVec 32 := 0#32
  let v37 : BitVec 1 := Scalar.cmpi .ne v36 c0_i32_28
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpOutIdeal.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_28 : BitVec 32 := 0#32
  let v37 : BitVec 1 := Scalar.cmpi .ne v36 c0_i32_28
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpOutPlainIdeal.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S16384x2048, .f32⟩
  | .hbm, ⟨6, _⟩ => ⟨S1x2048x8192, .f32⟩
  | .hbm, ⟨7, _⟩ => ⟨S2048x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S1x8192x2048, .f32⟩
  | .hbm, ⟨14, _⟩ => ⟨S8192x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Mlp.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_28 : BitVec 32 := 0#32
  let v37 : BitVec 1 := Scalar.cmpi .ne v36 c0_i32_28
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpPlainIdeal.lean ====
abbrev S16384x2048 : Shape := ⟨2, ![16384, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩
abbrev S1x8192x2048 : Shape := ⟨3, ![1, 8192, 2048]⟩
abbrev S8192x2048 : Shape := ⟨2, ![8192, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S16384x2048, .f32⟩
  | .hbm, ⟨6, _⟩ => ⟨S1x2048x8192, .f32⟩
  | .hbm, ⟨7, _⟩ => ⟨S2048x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S1x8192x2048, .f32⟩
  | .hbm, ⟨14, _⟩ => ⟨S8192x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Gate.lean ====
abbrev S16384x2048 : Shape := ⟨2, ![16384, 2048]⟩
abbrev S4x2048x8192 : Shape := ⟨3, ![4, 2048, 8192]⟩
abbrev S16384x8192 : Shape := ⟨2, ![16384, 8192]⟩
abbrev S2048x2048 : Shape := ⟨2, ![2048, 2048]⟩
abbrev S1x2048x2048 : Shape := ⟨3, ![1, 2048, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x2048x8192, .bf16⟩
  | .hbm, ⟨2, _⟩ => ⟨S16384x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S2048x2048, .bf16⟩
  | .local _ .vmem, ⟨5, _⟩ => ⟨S2048x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatePlainIdeal.lean ====
abbrev S16384x2048 : Shape := ⟨2, ![16384, 2048]⟩
abbrev S4x2048x8192 : Shape := ⟨3, ![4, 2048, 8192]⟩
abbrev S1x2048x8192 : Shape := ⟨3, ![1, 2048, 8192]⟩
abbrev S2048x8192 : Shape := ⟨2, ![2048, 8192]⟩
abbrev S16384x8192 : Shape := ⟨2, ![16384, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x8192, .bf16⟩
  | .hbm, ⟨2, _⟩ => ⟨S16384x2048, .f32⟩
  | .hbm, ⟨3, _⟩ => ⟨S1x2048x8192, .bf16⟩
  | .hbm, ⟨4, _⟩ => ⟨S2048x8192, .bf16⟩
  | .hbm, ⟨5, _⟩ => ⟨S2048x8192, .f32⟩
  | .hbm, ⟨6, _⟩ => ⟨S16384x8192, .f32⟩
  | .hbm, ⟨7, _⟩ => ⟨S16384x8192, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S_, .f32⟩
  | .hbm, ⟨13, _⟩ => ⟨S16384x8192, .f32⟩
  | .hbm, ⟨14, _⟩ => ⟨S16384x8192, .f32⟩
  | .hbm, ⟨15, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Sample.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x2048x8192, .bf16⟩
  | .hbm, ⟨6, _⟩ => ⟨S4x8192x2048, .bf16⟩
  | .hbm, ⟨7, _⟩ => ⟨S1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let v36 : BitVec 32 := Scalar.extui v35
  let c0_i32_28 : BitVec 32 := 0#32
  let v37 : BitVec 1 := Scalar.cmpi .ne v36 c0_i32_28
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== SamplePlainIdeal.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8192x2048, .f32⟩
  | .hbm, ⟨6, _⟩ => ⟨S1x2048x8192, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Mix.lean ====
abbrev S16384x2048 : Shape := ⟨2, ![16384, 2048]⟩
abbrev S4x2048x5376 : Shape := ⟨3, ![4, 2048, 5376]⟩
abbrev S16384x5376 : Shape := ⟨2, ![16384, 5376]⟩
abbrev S2x4x2048x768 : Shape := ⟨4, ![2, 4, 2048, 768]⟩
abbrev S2x16x512x768 : Shape := ⟨4, ![2, 16, 512, 768]⟩
abbrev S1024x2048 : Shape := ⟨2, ![1024, 2048]⟩
abbrev S1x2048x1792 : Shape := ⟨3, ![1, 2048, 1792]⟩
abbrev S1024x1792 : Shape := ⟨2, ![1024, 1792]⟩
abbrev S1x4x256x768 : Shape := ⟨4, ![1, 4, 256, 768]⟩
abbrev S1x16x64x768 : Shape := ⟨4, ![1, 16, 64, 768]⟩
abbrev S12x1024x128 : Shape := ⟨3, ![12, 1024, 128]⟩
abbrev S6x1024x128 : Shape := ⟨3, ![6, 1024, 128]⟩
abbrev S256x2048 : Shape := ⟨2, ![256, 2048]⟩
abbrev S2048x1792 : Shape := ⟨2, ![2048, 1792]⟩
abbrev S256x1792 : Shape := ⟨2, ![256, 1792]⟩
abbrev S256x128 : Shape := ⟨2, ![256, 128]⟩
abbrev S1x256x128 : Shape := ⟨3, ![1, 256, 128]⟩
abbrev S1x1x256x128 : Shape := ⟨4, ![1, 1, 256, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S4x2048x5376, .bf16⟩
  | .hbm, ⟨2, _⟩ => ⟨S16384x5376, .bf16⟩
  | .hbm, ⟨3, _⟩ => ⟨S2x4x2048x768, .bf16⟩
  | .hbm, ⟨4, _⟩ => ⟨S2x16x512x768, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1x4x256x768, .bf16⟩
  | .local _ .vmem, ⟨7, _⟩ => ⟨S1x4x256x768, .bf16⟩
  | .local _ .vmem, ⟨8, _⟩ => ⟨S1x16x64x768, .bf16⟩
  | .local _ .vmem, ⟨9, _⟩ => ⟨S1x16x64x768, .bf16⟩
  | .local _ .vmem, ⟨10, _⟩ => ⟨S12x1024x128, .f32⟩
  | .local _ .vmem, ⟨11, _⟩ => ⟨S6x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c2_i32 : BitVec 32 := 2#32
  let v216 : BitVec 1 := Scalar.cmpi .eq arg1 c2_i32
  let v217 : BitVec 32 := Scalar.extui v216
  let c0_i32 : BitVec 32 := 0#32
  let v218 : BitVec 1 := Scalar.cmpi .ne v217 c0_i32
  v218

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x64x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixPlainIdeal.lean ====
abbrev S16384x2048 : Shape := ⟨2, ![16384, 2048]⟩
abbrev S4x2048x5376 : Shape := ⟨3, ![4, 2048, 5376]⟩
abbrev S1x2048x5376 : Shape := ⟨3, ![1, 2048, 5376]⟩
abbrev S2048x5376 : Shape := ⟨2, ![2048, 5376]⟩
abbrev S16384x5376 : Shape := ⟨2, ![16384, 5376]⟩
abbrev S16384x768 : Shape := ⟨2, ![16384, 768]⟩
abbrev S2x2048x4x768 : Shape := ⟨4, ![2, 2048, 4, 768]⟩
abbrev S2x4x2048x768 : Shape := ⟨4, ![2, 4, 2048, 768]⟩
abbrev S2x512x16x768 : Shape := ⟨4, ![2, 512, 16, 768]⟩
abbrev S2x16x512x768 : Shape := ⟨4, ![2, 16, 512, 768]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x5376, .bf16⟩
  | .hbm, ⟨2, _⟩ => ⟨S16384x2048, .f32⟩
  | .hbm, ⟨3, _⟩ => ⟨S1x2048x5376, .bf16⟩
  | .hbm, ⟨4, _⟩ => ⟨S2048x5376, .bf16⟩
  | .hbm, ⟨5, _⟩ => ⟨S2048x5376, .f32⟩
  | .hbm, ⟨6, _⟩ => ⟨S16384x5376, .f32⟩
  | .hbm, ⟨7, _⟩ => ⟨S16384x5376, .bf16⟩
  | .hbm, ⟨8, _⟩ => ⟨S16384x768, .bf16⟩
  | .hbm, ⟨9, _⟩ => ⟨S2x2048x4x768, .bf16⟩
  | .hbm, ⟨10, _⟩ => ⟨S2x4x2048x768, .bf16⟩
  | .hbm, ⟨11, _⟩ => ⟨S16384x768, .bf16⟩
  | .hbm, ⟨12, _⟩ => ⟨S2x512x16x768, .bf16⟩
  | .hbm, ⟨13, _⟩ => ⟨S2x16x512x768, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Merge.lean ====
abbrev S16384x2048 : Shape := ⟨2, ![16384, 2048]⟩
abbrev S16384x512 : Shape := ⟨2, ![16384, 512]⟩
abbrev S2x1x8192x256 : Shape := ⟨4, ![2, 1, 8192, 256]⟩
abbrev S2x4x2048x256 : Shape := ⟨4, ![2, 4, 2048, 256]⟩
abbrev S2x16x512x256 : Shape := ⟨4, ![2, 16, 512, 256]⟩
abbrev S16384x8192 : Shape := ⟨2, ![16384, 8192]⟩
abbrev S4x512x2048 : Shape := ⟨3, ![4, 512, 2048]⟩
abbrev S4x256x2048 : Shape := ⟨3, ![4, 256, 2048]⟩
abbrev S4x2048x2048 : Shape := ⟨3, ![4, 2048, 2048]⟩
abbrev S2048 : Shape := ⟨1, ![2048]⟩
abbrev S1x2048 : Shape := ⟨2, ![1, 2048]⟩
abbrev S256x2048 : Shape := ⟨2, ![256, 2048]⟩
abbrev S256x512 : Shape := ⟨2, ![256, 512]⟩
abbrev S1x1x256x256 : Shape := ⟨4, ![1, 1, 256, 256]⟩
abbrev S1x4x64x256 : Shape := ⟨4, ![1, 4, 64, 256]⟩
abbrev S1x16x16x256 : Shape := ⟨4, ![1, 16, 16, 256]⟩
abbrev S1x512x2048 : Shape := ⟨3, ![1, 512, 2048]⟩
abbrev S1x256x2048 : Shape := ⟨3, ![1, 256, 2048]⟩
abbrev S1x2048x2048 : Shape := ⟨3, ![1, 2048, 2048]⟩
abbrev S4x2x256x128 : Shape := ⟨4, ![4, 2, 256, 128]⟩
abbrev S256x256 : Shape := ⟨2, ![256, 256]⟩
abbrev S1x1x64x128 : Shape := ⟨4, ![1, 1, 64, 128]⟩
abbrev S64x128 : Shape := ⟨2, ![64, 128]⟩
abbrev S1x1x256x128 : Shape := ⟨4, ![1, 1, 256, 128]⟩
abbrev S256x128 : Shape := ⟨2, ![256, 128]⟩
abbrev S1x1x16x128 : Shape := ⟨4, ![1, 1, 16, 128]⟩
abbrev S16x128 : Shape := ⟨2, ![16, 128]⟩
abbrev S512x2048 : Shape := ⟨2, ![512, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 25
  | .vmem => 39
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S2x1x8192x256, .f32⟩
  | .hbm, ⟨3, _⟩ => ⟨S2x4x2048x256, .f32⟩
  | .hbm, ⟨4, _⟩ => ⟨S2x16x512x256, .f32⟩
  | .hbm, ⟨5, _⟩ => ⟨S2x1x8192x256, .f32⟩
  | .hbm, ⟨6, _⟩ => ⟨S2x4x2048x256, .f32⟩
  | .hbm, ⟨7, _⟩ => ⟨S2x16x512x256, .f32⟩
  | .hbm, ⟨8, _⟩ => ⟨S16384x512, .bf16⟩
  | .hbm, ⟨9, _⟩ => ⟨S16384x512, .bf16⟩
  | .hbm, ⟨10, _⟩ => ⟨S16384x8192, .bf16⟩
  | .hbm, ⟨11, _⟩ => ⟨S4x512x2048, .f32⟩
  | .hbm, ⟨12, _⟩ => ⟨S4x256x2048, .f32⟩
  | .hbm, ⟨13, _⟩ => ⟨S4x512x2048, .f32⟩
  | .hbm, ⟨14, _⟩ => ⟨S4x512x2048, .f32⟩
  | .hbm, ⟨15, _⟩ => ⟨S4x2048x2048, .f32⟩
  | .hbm, ⟨16, _⟩ => ⟨S2048, .f32⟩
  | .hbm, ⟨17, _⟩ => ⟨S4x512x2048, .bf16⟩
  | .hbm, ⟨18, _⟩ => ⟨S4x256x2048, .bf16⟩
  | .hbm, ⟨19, _⟩ => ⟨S4x512x2048, .bf16⟩
  | .hbm, ⟨20, _⟩ => ⟨S4x512x2048, .bf16⟩
  | .hbm, ⟨21, _⟩ => ⟨S4x2048x2048, .bf16⟩
  | .hbm, ⟨22, _⟩ => ⟨S1x2048, .f32⟩
  | .hbm, ⟨23, _⟩ => ⟨S16384x2048, .f32⟩
  | .hbm, ⟨24, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S1x1x256x256, .f32⟩
  | .local _ .vmem, ⟨5, _⟩ => ⟨S1x1x256x256, .f32⟩
  | .local _ .vmem, ⟨6, _⟩ => ⟨S1x4x64x256, .f32⟩
  | .local _ .vmem, ⟨7, _⟩ => ⟨S1x4x64x256, .f32⟩
  | .local _ .vmem, ⟨8, _⟩ => ⟨S1x16x16x256, .f32⟩
  | .local _ .vmem, ⟨9, _⟩ => ⟨S1x16x16x256, .f32⟩
  | .local _ .vmem, ⟨10, _⟩ => ⟨S1x1x256x256, .f32⟩
  | .local _ .vmem, ⟨11, _⟩ => ⟨S1x1x256x256, .f32⟩
  | .local _ .vmem, ⟨12, _⟩ => ⟨S1x4x64x256, .f32⟩
  | .local _ .vmem, ⟨13, _⟩ => ⟨S1x4x64x256, .f32⟩
  | .local _ .vmem, ⟨14, _⟩ => ⟨S1x16x16x256, .f32⟩
  | .local _ .vmem, ⟨15, _⟩ => ⟨S1x16x16x256, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1x512x2048, .bf16⟩
  | .local _ .vmem, ⟨29, _⟩ => ⟨S1x256x2048, .bf16⟩
  | .local _ .vmem, ⟨30, _⟩ => ⟨S1x512x2048, .bf16⟩
  | .local _ .vmem, ⟨31, _⟩ => ⟨S1x512x2048, .bf16⟩
  | .local _ .vmem, ⟨32, _⟩ => ⟨S1x2048x2048, .bf16⟩
  | .local _ .vmem, ⟨33, _⟩ => ⟨S1x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .bf16⟩
  | .local _ .vmem, ⟨37, _⟩ => ⟨S256x2048, .bf16⟩
  | .local _ .vmem, ⟨38, _⟩ => ⟨S4x2x256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_13 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MergeIdeal.lean ====
variable {F : FTy → Type} [FloatOps F] [Named F]
def κ : String → Option EReal := fun
  | "log2_e" => some (((Real.log 2)⁻¹ : ℝ) : EReal)
  | _ => none
-- ==== MergePlainIdeal.lean ====
abbrev S16384x2048 : Shape := ⟨2, ![16384, 2048]⟩
abbrev S16384x512 : Shape := ⟨2, ![16384, 512]⟩
abbrev S2x1x8192x256 : Shape := ⟨4, ![2, 1, 8192, 256]⟩
abbrev S2x4x2048x256 : Shape := ⟨4, ![2, 4, 2048, 256]⟩
abbrev S2x16x512x256 : Shape := ⟨4, ![2, 16, 512, 256]⟩
abbrev S16384x8192 : Shape := ⟨2, ![16384, 8192]⟩
abbrev S4x512x2048 : Shape := ⟨3, ![4, 512, 2048]⟩
abbrev S4x256x2048 : Shape := ⟨3, ![4, 256, 2048]⟩
abbrev S4x2048x2048 : Shape := ⟨3, ![4, 2048, 2048]⟩
abbrev S2048 : Shape := ⟨1, ![2048]⟩
abbrev S2x8192x1x256 : Shape := ⟨4, ![2, 8192, 1, 256]⟩
abbrev S16384x256 : Shape := ⟨2, ![16384, 256]⟩
abbrev S2x2048x4x256 : Shape := ⟨4, ![2, 2048, 4, 256]⟩
abbrev S2x512x16x256 : Shape := ⟨4, ![2, 512, 16, 256]⟩
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S2x1x8192x256, .f32⟩
  | .hbm, ⟨3, _⟩ => ⟨S2x4x2048x256, .f32⟩
  | .hbm, ⟨4, _⟩ => ⟨S2x16x512x256, .f32⟩
  | .hbm, ⟨5, _⟩ => ⟨S2x1x8192x256, .f32⟩
  | .hbm, ⟨6, _⟩ => ⟨S2x4x2048x256, .f32⟩
  | .hbm, ⟨7, _⟩ => ⟨S2x16x512x256, .f32⟩
  | .hbm, ⟨8, _⟩ => ⟨S16384x512, .bf16⟩
  | .hbm, ⟨9, _⟩ => ⟨S16384x512, .bf16⟩
  | .hbm, ⟨10, _⟩ => ⟨S16384x8192, .bf16⟩
  | .hbm, ⟨11, _⟩ => ⟨S4x512x2048, .f32⟩
  | .hbm, ⟨12, _⟩ => ⟨S4x256x2048, .f32⟩
  | .hbm, ⟨13, _⟩ => ⟨S4x512x2048, .f32⟩
  | .hbm, ⟨14, _⟩ => ⟨S4x512x2048, .f32⟩
  | .hbm, ⟨15, _⟩ => ⟨S4x2048x2048, .f32⟩
  | .hbm, ⟨16, _⟩ => ⟨S2048, .f32⟩
  | .hbm, ⟨17, _⟩ => ⟨S2x8192x1x256, .f32⟩
  | .hbm, ⟨18, _⟩ => ⟨S16384x256, .f32⟩
  | .hbm, ⟨19, _⟩ => ⟨S2x2048x4x256, .f32⟩
  | .hbm, ⟨20, _⟩ => ⟨S16384x256, .f32⟩
  | .hbm, ⟨21, _⟩ => ⟨S2x512x16x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S2x8192x1x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S2x2048x4x256, .f32⟩
  | .hbm, ⟨39, _⟩ => ⟨S16384x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S2x512x16x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x512, .f32⟩
  | .hbm, ⟨48, _⟩ => ⟨S16384x2048, .bf16⟩
  | .hbm, ⟨49, _⟩ => ⟨S16384x2048, .f32⟩
  | .hbm, ⟨50, _⟩ => ⟨S1x512x2048, .f32⟩
  | .hbm, ⟨51, _⟩ => ⟨S512x2048, .f32⟩
  | .hbm, ⟨52, _⟩ => ⟨S16384x2048, .f32⟩
  | .hbm, ⟨53, _⟩ => ⟨S16384x2048, .f32⟩
  | .hbm, ⟨54, _⟩ => ⟨S16384x2048, .bf16⟩
  | .hbm, ⟨55, _⟩ => ⟨S16384x2048, .f32⟩
  | .hbm, ⟨56, _⟩ => ⟨S1x256x2048, .f32⟩
  | .hbm, ⟨57, _⟩ => ⟨S256x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x512, .f32⟩
  | .hbm, ⟨62, _⟩ => ⟨S16384x2048, .bf16⟩
  | .hbm, ⟨63, _⟩ => ⟨S16384x2048, .f32⟩
  | .hbm, ⟨64, _⟩ => ⟨S1x512x2048, .f32⟩
  | .hbm, ⟨65, _⟩ => ⟨S512x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x512, .f32⟩
  | .hbm, ⟨70, _⟩ => ⟨S16384x2048, .bf16⟩
  | .hbm, ⟨71, _⟩ => ⟨S16384x2048, .f32⟩
  | .hbm, ⟨72, _⟩ => ⟨S1x512x2048, .f32⟩
  | .hbm, ⟨73, _⟩ => ⟨S512x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S1x2048x2048, .f32⟩
  | .hbm, ⟨78, _⟩ => ⟨S2048x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x2048, .f32⟩
  | .hbm, ⟨93, _⟩ => ⟨S16384x2048, .f32⟩
  | .hbm, ⟨94, _⟩ => ⟨S1x2048, .f32⟩
  | .hbm, ⟨95, _⟩ => ⟨S16384x2048, .f32⟩
  | .hbm, ⟨96, _⟩ => ⟨S16384x2048, .f32⟩
  | .hbm, ⟨97, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst : Ref sig .tc := ⟨.hbm, 82, rfl⟩
abbrev main_v65 : Ref sig .tc := ⟨.hbm, 83, rfl⟩
abbrev main_v66 : Ref sig .tc := ⟨.hbm, 84, rfl⟩
abbrev main_cst_0 : Ref sig .tc := ⟨.hbm, 85, rfl⟩
abbrev main_v67 : Ref sig .tc := ⟨.hbm, 86, rfl⟩
abbrev main_v68 : Ref sig .tc := ⟨.hbm, 87, rfl⟩
abbrev main_cst_1 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.Softmax.lean ====
module

public import Idealize.ShloMosaic.Lib.IdealHost
public import Mathlib.Analysis.SpecialFunctions.Pow.Real
public import Mathlib.Analysis.SpecialFunctions.Log.Basic

/-!
Softmax over a long row, taken one block of columns at a time.  No array and no machine here:
scores are real numbers, values are extended reals, sums run over an initial piece of `ℕ`.
-/

@[expose] public section

noncomputable section

namespace Attn

open Idealize.ShloMosaic Finset

/-- The weight `2 ^ (s - μ)` of a column whose score is `s` when the row is shifted by `μ`. -/
def wt (μ s : ℝ) : ℝ := Real.rpow 2 (s - μ)

theorem wt_pos (μ s : ℝ) : 0 < wt μ s := Real.rpow_pos_of_pos (by norm_num) _

/-- Shifting the row by another number multiplies every weight by the same factor. -/
theorem wt_shift (μ ν s : ℝ) : wt ν μ * wt μ s = wt ν s := by
  unfold wt
  rw [show s - ν = (μ - ν) + (s - μ) by ring]
  exact (Real.rpow_add (by norm_num) _ _).symm

/-- The machine's power of two of a difference of reals is the weight. -/
theorem exp2_sub (μ s : ℝ) : Ideal.exp2 ((s : EReal) - (μ : EReal)) = (wt μ s : EReal) := by
  rw [← EReal.coe_sub, Ideal.exp2_coe]; rfl

/-- A nonnegative real goes through a sum of extended reals. -/
theorem coe_mul_sum {ι : Type*} (t : Finset ι) (a : ℝ) (ha : 0 ≤ a) (f : ι → EReal) :
    (a : EReal) * ∑ i ∈ t, f i = ∑ i ∈ t, (a : EReal) * f i := by
  classical
  induction t using Finset.induction_on with
  | empty => simp
  | insert i t hi ih =>
    rw [sum_insert hi, sum_insert hi,
      EReal.left_distrib_of_nonneg_of_ne_top (EReal.coe_nonneg.mpr ha) (EReal.coe_ne_top a), ih]

/-- A sum of reals, read as extended reals. -/
theorem coe_sum {ι : Type*} (t : Finset ι) (f : ι → ℝ) :
    ((∑ i ∈ t, f i : ℝ) : EReal) = ∑ i ∈ t, (f i : EReal) := by
  classical
  induction t using Finset.induction_on with
  | empty => simp
  | insert i t hi ih => rw [sum_insert hi, sum_insert hi, EReal.coe_add, ih]

/-- The weighted sum over the first `n` columns. -/
def wsum (s : ℕ → ℝ) (v : ℕ → EReal) (μ : ℝ) (n : ℕ) : EReal :=
  ∑ j ∈ range n, (wt μ (s j) : EReal) * v j

theorem wsum_zero (s : ℕ → ℝ) (v : ℕ → EReal) (μ : ℝ) : wsum s v μ 0 = 0 := rfl

/-- One block more: the old sum brought to the new shift plus the block's own sum. -/
theorem wsum_block (s : ℕ → ℝ) (v : ℕ → EReal) (μ ν : ℝ) (n b : ℕ) :
    (wt ν μ : EReal) * wsum s v μ n + ∑ j ∈ range b, (wt ν (s (n + j)) : EReal) * v (n + j)
      = wsum s v ν (n + b) := by
  unfold wsum
  rw [coe_mul_sum _ _ (wt_pos _ _).le, Finset.sum_range_add]
  congr 1
  refine Finset.sum_congr rfl fun j _ => ?_
  rw [← mul_assoc, ← EReal.coe_mul, wt_shift]

/-- The largest of a start value and finitely many reals is the start value or a real. -/
theorem fold_max_real {ι : Type*} (t : Finset ι) (b : EReal) (f : ι → EReal) (r : ι → ℝ)
    (h : ∀ i, f i = (r i : EReal)) : t.fold max b f = b ∨ ∃ x : ℝ, t.fold max b f = (x : EReal) := by
  classical
  induction t using Finset.induction_on with
  | empty => exact Or.inl (by simp)
  | insert i t hi ih =>
    rw [fold_insert hi, h i]
    rcases max_choice ((r i : ℝ) : EReal) (t.fold max b f) with e | e <;> rw [e]
    · exact Or.inr ⟨_, rfl⟩
    · exact ih

/-- The largest of a real, a bottom and finitely many reals is a real. -/
theorem max_fold_real {ι : Type*} (t : Finset ι) (μ : ℝ) (f : ι → EReal) (r : ι → ℝ)
    (h : ∀ i, f i = (r i : EReal)) : ∃ x : ℝ, max (μ : EReal) (t.fold max ⊥ f) = (x : EReal) := by
  rcases fold_max_real t ⊥ f r h with e | ⟨x, e⟩ <;> rw [e]
  · exact ⟨μ, by simp⟩
  · exact ⟨max μ x, by rcases le_total μ x with h | h <;> simp [h]⟩

/-- The largest entry of a nonempty row of reals is a real. -/
theorem fold_real {ι : Type*} (t : Finset ι) (i₀ : ι) (hi : i₀ ∈ t) (f : ι → EReal) (r : ι → ℝ)
    (h : ∀ i, f i = (r i : EReal)) : ∃ x : ℝ, t.fold max ⊥ f = (x : EReal) := by
  rcases fold_max_real t ⊥ f r h with e | e
  · exfalso
    have := (Finset.le_fold_max (s := t) (f := f) (b := ⊥) (f i₀)).mpr (Or.inr ⟨i₀, hi, le_rfl⟩)
    rw [e, h i₀] at this
    exact absurd (le_bot_iff.mp this) (EReal.coe_ne_bot _)
  · exact e

/-- A power of two whose exponent was divided by `ln 2` is the exponential. -/
theorem wt_exp (μ s t : ℝ) (h : t = s * Real.log 2) :
    wt μ s = Real.exp (t - μ * Real.log 2) := by
  unfold wt
  show (2 : ℝ) ^ (s - μ) = _
  rw [Real.rpow_def_of_pos (by norm_num), h]; congr 1; ring

/-- The quotient of two weighted sums, whatever the shift, is the softmax-weighted sum of the
    values with whatever other shift: `s` are the scores to base two, `t` those to base `e`. -/
theorem wsum_div (s t : ℕ → ℝ) (v : ℕ → EReal) (μ M : ℝ) (n : ℕ) (hn : 0 < n)
    (h : ∀ j, t j = s j * Real.log 2) :
    Ideal.div (wsum s v μ n) (wsum s (fun _ => 1) μ n)
      = ∑ j ∈ range n, v j * Ideal.div (Ideal.exp ((t j : EReal) - (M : EReal)))
          (0 + ∑ i ∈ range n, Ideal.exp ((t i : EReal) - (M : EReal))) := by
  set e : ℕ → ℝ := fun j => Real.exp (t j - M)
  set c : ℝ := Real.exp (M - μ * Real.log 2)
  have hc : 0 < c := Real.exp_pos _
  have he : ∀ j, Ideal.exp ((t j : EReal) - (M : EReal)) = (e j : EReal) := fun j => by
    rw [← EReal.coe_sub, Ideal.exp_coe]
  have hw : ∀ j, wt μ (s j) = c * e j := fun j => by
    rw [wt_exp μ (s j) (t j) (h j), ← Real.exp_add]; congr 1; ring
  set E : ℝ := ∑ j ∈ range n, e j
  have hE : 0 < E := Finset.sum_pos (fun j _ => Real.exp_pos _) ⟨0, by simpa using hn⟩
  have hD : wsum s (fun _ => 1) μ n = ((c * E : ℝ) : EReal) := by
    unfold wsum
    simp only [mul_one, hw]
    rw [← coe_sum, Finset.mul_sum]
  have hD0 : ((c * E : ℝ) : EReal) ≠ 0 := by
    rw [Ne, EReal.coe_eq_zero]; positivity
  have hE0 : ((E : ℝ) : EReal) ≠ 0 := by
    rw [Ne, EReal.coe_eq_zero]; positivity
  simp only [he]
  rw [zero_add, ← coe_sum, hD]
  change Ideal.div _ ((c * E : ℝ) : EReal) = ∑ j ∈ range n, v j * Ideal.div (e j : EReal) ((E : ℝ) : EReal)
  unfold Ideal.div
  rw [if_neg hD0]
  simp only [if_neg hE0]
  rw [← EReal.coe_inv, ← EReal.coe_inv, mul_comm]
  unfold wsum
  rw [coe_mul_sum _ _ (by positivity)]
  refine Finset.sum_congr rfl fun j _ => ?_
  rw [← mul_assoc, ← EReal.coe_mul, ← EReal.coe_mul, hw, mul_comm]
  congr 2
  field_simp

end Attn

end
-- ==== Proof.Payload.lean ====
module

public import proofs.«01_k».proof.Proof.Gen.KernelIdeal.Value
public import proofs.«01_k».proof.Proof.Softmax
public import Idealize.ShloMosaic.Lib.Pointwise

/-!
One block of 1024 keys against the query block: the new row shift and the new accumulator of a head, read at an index,
and the scaled half-lane queries.
-/

@[expose] public section

set_option maxRecDepth 16384

noncomputable section

namespace Cert.KernelIdeal.Flash

open Idealize.ShloMosaic Cert.KernelIdeal Cert.KernelIdeal.Gen

/-- The score of query row `r` against key row `j`: the product over the 128 lanes. -/
def score (K : Vec Ideal S1024x128 .bf16) (q : Vec Ideal S1x2048x128 .bf16) (r : Fin 2048) (j : Fin 1024) : EReal :=
  ∑ d : Fin 128, q (ix3 0 r d) * K (ix2 j d)

/-- One head's new row shift, as the kernel stores it. -/
def mx (K : Vec Ideal S1024x128 .bf16) (q : Vec Ideal S1x2048x128 .bf16) (m : Vec Ideal S1x2048x128 .f32) :
    Vec Ideal S1x2048x128 .f32 := k0_pay12 (k0_pay8 K q m)

/-- One head's new accumulator, as the kernel stores it. -/
def ac (K V : Vec Ideal S1024x128 .bf16) (q : Vec Ideal S1x2048x128 .bf16) (m a : Vec Ideal S1x2048x128 .f32) :
    Vec Ideal S1x2048x128 .f32 := k0_pay11 (k0_pay4 V) (k0_pay9 K q m) (k0_pay10 K q m) a

/-- The start of the row maximum is the bottom. -/
theorem ofBits_neg_inf : Ideal.ofBits .f32 0xFF800000#32 = ⊥ := by
  simp [Ideal.ofBits, Ideal.ieee]

theorem pay6_apply (K : Vec Ideal S1024x128 .bf16) (q : Vec Ideal S1x2048x128 .bf16) (r : Fin 2048) (j : Fin 1024) :
    (k0_pay6 K q : FVec Ideal S2048x1024 .f32) (ix2 r j) = score K q r j := by
  unfold score
  pointwise [k0_pay6, k0_pay3]

theorem mx_apply (K : Vec Ideal S1024x128 .bf16) (q : Vec Ideal S1x2048x128 .bf16) (m : Vec Ideal S1x2048x128 .f32) (r : Fin 2048) (l : Fin 128) :
    mx K q m (ix3 0 r l) = max (m (ix3 0 r l)) (Finset.univ.fold max ⊥ fun j => score K q r j) := by
  unfold score mx
  pointwise [k0_pay12, k0_pay8, k0_pay7, k0_pay6, k0_pay3]
  rw [ofBits_neg_inf]

theorem pay10_apply (K : Vec Ideal S1024x128 .bf16) (q : Vec Ideal S1x2048x128 .bf16) (m : Vec Ideal S1x2048x128 .f32) (r : Fin 2048) (j : Fin 1024) :
    (k0_pay10 K q m : FVec Ideal S2048x1024 .f32) (ix2 r j) = Ideal.exp2 (score K q r j - mx K q m (ix3 0 r ⟨j % 128, Nat.mod_lt _ (by norm_num)⟩)) := by
  have h6 := pay6_apply K q
  have h8 : ∀ (r : Fin 2048) (l : Fin 128), (k0_pay8 K q m : FVec Ideal S2048x128 .f32) (ix2 r l) = mx K q m (ix3 0 r l) := by
    intro r l
    unfold mx
    pointwise [k0_pay12]
  unfold k0_pay10
  generalize k0_pay6 K q = s at *
  generalize (k0_pay8 K q m : FVec Ideal S2048x128 .f32) = t at *
  have key : ∀ (j' : Fin 1024) (l' : Fin 128), j'.val = j.val → l'.val = j.val % 128 →
      FloatOps.exp2 (s (ix2 r j') - t (ix2 r l'))
        = Ideal.exp2 (score K q r j - mx K q m (ix3 0 r ⟨j % 128, Nat.mod_lt _ (by norm_num)⟩)) := by
    intro j' l' e e'
    rw [h6, h8, Fin.ext e, (Fin.ext e' : l' = ⟨j % 128, Nat.mod_lt _ (by norm_num)⟩)]
    rfl
  have hj := j.isLt
  pointwise
  split_ifs <;> refine key _ _ ?_ ?_ <;> simp only [] <;> omega

theorem ac_apply (K V : Vec Ideal S1024x128 .bf16) (q : Vec Ideal S1x2048x128 .bf16) (m a : Vec Ideal S1x2048x128 .f32) (r : Fin 2048) (l : Fin 128) :
    ac K V q m a (ix3 0 r l) = Ideal.exp2 (m (ix3 0 r l) - mx K q m (ix3 0 r l)) * a (ix3 0 r l)
      + ∑ j : Fin 1024, (k0_pay10 K q m : FVec Ideal S2048x1024 .f32) (ix2 r j) * V (ix2 j l) := by
  have h8 : ∀ (r : Fin 2048) (l : Fin 128), (k0_pay8 K q m : FVec Ideal S2048x128 .f32) (ix2 r l) = mx K q m (ix3 0 r l) := by
    intro r l
    unfold mx
    pointwise [k0_pay12]
  unfold ac
  generalize k0_pay10 K q m = p at *
  unfold k0_pay9
  generalize (k0_pay8 K q m : FVec Ideal S2048x128 .f32) = t at *
  pointwise [k0_pay11, k0_pay4, k0_pay7]
  rw [h8]
  rfl

/-- The scale of the scores with the change of base from `e` to two. -/
def qscale : EReal := ((8⁻¹ * (Real.log 2)⁻¹ : ℝ) : EReal)

theorem named_qscale : Named.named (F := Ideal) κ "qk_scale" (φ := .f32) 0x3E38AA3B#32 = qscale :=
  IdealRules.named_const.ideal_named_scalar _ _ _ _ rfl

/-- A query block scaled and cut to the lower or the upper half of the lanes. -/
def half (up : Bool) (q : EReal) (d : Fin 128) : EReal :=
  if decide (64 ≤ d.val) = up then q * qscale else 0

theorem slt64 : ∀ d : Fin 128, IntOp.cmpi .slt (BitVec.ofNat 32 d.val) 64#32 = if d.val < 64 then 1#1 else 0#1 := by decide

theorem sge64 : ∀ d : Fin 128, IntOp.cmpi .sge (BitVec.ofNat 32 d.val) 64#32 = if 64 ≤ d.val then 1#1 else 0#1 := by decide

/-- Choosing by the lane number below 64. -/
theorem select_slt {α : Type} (d : Fin 128) (a b : α) :
    Scalar.select (IntOp.cmpi .slt (BitVec.ofNat 32 d.val) 64#32) a b = if d.val < 64 then a else b := by
  rw [slt64]; unfold Scalar.select; split_ifs <;> simp_all

/-- Choosing by the lane number from 64 on. -/
theorem select_sge {α : Type} (d : Fin 128) (a b : α) :
    Scalar.select (IntOp.cmpi .sge (BitVec.ofNat 32 d.val) 64#32) a b = if 64 ≤ d.val then a else b := by
  rw [sge64]; unfold Scalar.select; split_ifs <;> simp_all

theorem pay41_apply (x : Vec Ideal S2048x128 .bf16) (r : Fin 2048) (d : Fin 128) :
    (k0_pay41 x : FVec Ideal S1x2048x128 .bf16) (ix3 0 r d) = half false (x (ix2 r d)) d := by
  unfold half
  pointwise [k0_pay41, k0_pay39]
  rw [named_qscale, select_slt]; simp only [decide_eq_false_iff_not, not_le]

theorem pay42_apply (x : Vec Ideal S2048x128 .bf16) (r : Fin 2048) (d : Fin 128) :
    (k0_pay42 x : FVec Ideal S1x2048x128 .bf16) (ix3 0 r d) = half true (x (ix2 r d)) d := by
  unfold half
  pointwise [k0_pay42, k0_pay40]
  rw [named_qscale, select_sge]; simp only [decide_eq_true_eq]

theorem pay44_apply (x : Vec Ideal S2048x128 .bf16) (r : Fin 2048) (d : Fin 128) :
    (k0_pay44 k0_pay39 (k0_pay43 x) : FVec Ideal S1x2048x128 .bf16) (ix3 0 r d) = half false (x (ix2 r d)) d := by
  unfold half
  pointwise [k0_pay44, k0_pay43, k0_pay39]
  rw [named_qscale, select_slt]; simp only [decide_eq_false_iff_not, not_le]

theorem pay45_apply (x : Vec Ideal S2048x128 .bf16) (r : Fin 2048) (d : Fin 128) :
    (k0_pay45 k0_pay40 x : FVec Ideal S1x2048x128 .bf16) (ix3 0 r d) = half true (x (ix2 r d)) d := by
  unfold half
  pointwise [k0_pay45, k0_pay40]
  rw [named_qscale, select_sge]; simp only [decide_eq_true_eq]

/-- The lane 64 away. -/
def opp (l : Fin 128) : Fin 128 := ⟨(l.val + 128 - 64) % 128, Nat.mod_lt _ (by norm_num)⟩

theorem pay1_apply (a b : Vec Ideal S1x2048x128 .f32) (r : Fin 2048) (l : Fin 128) :
    (k0_pay1 (iota Kind.tc S1x128 32 [1] iota_S1x128_d1_w32) (k0_pay50 a) b : FVec Ideal S2048x128 .bf16) (ix2 r l)
      = if l.val < 64 then Ideal.div (a (ix3 0 r l)) (a (ix3 0 r (opp l)))
        else Ideal.div (b (ix3 0 r l)) (b (ix3 0 r (opp l))) := by
  unfold opp
  pointwise [k0_pay1, k0_pay50]
  rw [select_slt]

theorem pay2_apply (a b : Vec Ideal S1x2048x128 .f32) (r : Fin 2048) (l : Fin 128) :
    (k0_pay2 (iota Kind.tc S1x128 32 [1] iota_S1x128_d1_w32) a b : FVec Ideal S2048x128 .bf16) (ix2 r l)
      = if l.val < 64 then Ideal.div (a (ix3 0 r l)) (a (ix3 0 r (opp l)))
        else Ideal.div (b (ix3 0 r l)) (b (ix3 0 r (opp l))) := by
  unfold opp
  pointwise [k0_pay2]
  rw [select_slt]

end Cert.KernelIdeal.Flash
end
-- ==== Proof.Trip.lean ====
module

public import proofs.«01_k».proof.Proof.Payload
public import Idealize.ShloMosaic.Lib.WritesUnit
public import Idealize.ShloMosaic.Lib.Pipeline.ValueKit.Tiles

/-!
One trip of the loop over the key blocks, and the whole loop: what the two scratch arrays of the row
shifts and of the weighted sums read after `k` trips.
-/

@[expose] public section

set_option maxRecDepth 16384

noncomputable section

namespace Cert.KernelIdeal.Flash

open Idealize.ShloMosaic Cert.KernelIdeal Cert.KernelIdeal.Gen

section Stack

variable {sp : Space} {e : EltTy}

/-- The rectangle of head 0, of head 1, of head 2 and of head 3 in a stack of four. -/
abbrev row0 : Rect S4x2048x128 := Rect.unit (s := S4x2048x128) ![0, 0, 0] S1x2048x128.size inb_S4x2048x128_S1x2048x128_0_0_0
abbrev row1 : Rect S4x2048x128 := Rect.unit (s := S4x2048x128) ![1, 0, 0] S1x2048x128.size inb_S4x2048x128_S1x2048x128_1_0_0
abbrev row2 : Rect S4x2048x128 := Rect.unit (s := S4x2048x128) ![2, 0, 0] S1x2048x128.size inb_S4x2048x128_S1x2048x128_2_0_0
abbrev row3 : Rect S4x2048x128 := Rect.unit (s := S4x2048x128) ![3, 0, 0] S1x2048x128.size inb_S4x2048x128_S1x2048x128_3_0_0

/-- Head `h`'s plane of a stack. -/
def plane (X : Vec Ideal S4x2048x128 e) (h : Fin 4) : Vec Ideal S1x2048x128 e := fun y => X (ix3 h (y 1) (y 2))

theorem plane_apply (X : Vec Ideal S4x2048x128 e) (h : Fin 4) (r : Fin 2048) (l : Fin 128) :
    plane X h (ix3 0 r l) = X (ix3 h r l) := rfl

variable (v : View sig .tc sp S4x2048x128 e) (f : BufTy.Contents (Elt Ideal) v.ty)

theorem read_row0 : v.readAt (Elt Ideal) row0.toLoadRect f = plane (v.read (Elt Ideal) f) 0 := by
  rw [View.readAt_eq_ld]; funext y
  exact View.ld_unit_apply_of _ _ _ _ _ (ix3 0 (y 1) (y 2)) (by intro a; fin_cases a <;> simp [ix3] <;> omega)
theorem read_row1 : v.readAt (Elt Ideal) row1.toLoadRect f = plane (v.read (Elt Ideal) f) 1 := by
  rw [View.readAt_eq_ld]; funext y
  exact View.ld_unit_apply_of _ _ _ _ _ (ix3 1 (y 1) (y 2)) (by intro a; fin_cases a <;> simp [ix3] <;> omega)
theorem read_row2 : v.readAt (Elt Ideal) row2.toLoadRect f = plane (v.read (Elt Ideal) f) 2 := by
  rw [View.readAt_eq_ld]; funext y
  exact View.ld_unit_apply_of _ _ _ _ _ (ix3 2 (y 1) (y 2)) (by intro a; fin_cases a <;> simp [ix3] <;> omega)
theorem read_row3 : v.readAt (Elt Ideal) row3.toLoadRect f = plane (v.read (Elt Ideal) f) 3 := by
  rw [View.readAt_eq_ld]; funext y
  exact View.ld_unit_apply_of _ _ _ _ _ (ix3 3 (y 1) (y 2)) (by intro a; fin_cases a <;> simp [ix3] <;> omega)

/-- Four stores, one per head, read back at a head. -/
theorem read_writes_rows (w0 w1 w2 w3 : Vec Ideal S1x2048x128 e) (h : Fin 4) (r : Fin 2048) (l : Fin 128) :
    v.read (Elt Ideal) (v.writes (Elt Ideal) f [⟨row3, w3⟩, ⟨row2, w2⟩, ⟨row1, w1⟩, ⟨row0, w0⟩]) (ix3 h r l)
      = (![w0, w1, w2, w3] h) (ix3 0 r l) := by
  fin_cases h
  · refine (View.read_writes_cons_unit_of_not_mem v f _ _ _ _ rfl 0 (by simp [ix3])).trans ?_
    refine (View.read_writes_cons_unit_of_not_mem v f _ _ _ _ rfl 0 (by simp [ix3])).trans ?_
    refine (View.read_writes_cons_unit_of_not_mem v f _ _ _ _ rfl 0 (by simp [ix3])).trans ?_
    exact View.read_writes_cons_unit_of_mem v f _ _ _ _ (ix3 0 r l) rfl (by intro a; fin_cases a <;> simp [ix3])
  · refine (View.read_writes_cons_unit_of_not_mem v f _ _ _ _ rfl 0 (by simp [ix3])).trans ?_
    refine (View.read_writes_cons_unit_of_not_mem v f _ _ _ _ rfl 0 (by simp [ix3])).trans ?_
    exact View.read_writes_cons_unit_of_mem v f _ _ _ _ (ix3 0 r l) rfl (by intro a; fin_cases a <;> simp [ix3])
  · refine (View.read_writes_cons_unit_of_not_mem v f _ _ _ _ rfl 0 (by simp [ix3])).trans ?_
    exact View.read_writes_cons_unit_of_mem v f _ _ _ _ (ix3 0 r l) rfl (by intro a; fin_cases a <;> simp [ix3])
  · exact View.read_writes_cons_unit_of_mem v f _ _ _ _ (ix3 0 r l) rfl (by intro a; fin_cases a <;> simp [ix3])

end Stack

theorem trips_eq : k0_t1_loop.trips = 8 := by decide

theorem off_eq : ∀ k : Fin k0_t1_loop.trips, k0_off1 k = ![1024 * k.val, 0] := by decide

/-- A block of 1024 rows of the keys or of the values. -/
theorem block_apply {sp : Space} (v : View sig .tc sp S8192x128 .bf16) (f : BufTy.Contents (Elt Ideal) v.ty)
    (k : Fin k0_t1_loop.trips) (hk : k.val < 8) (j : Fin 1024) (l : Fin 128) :
    v.readAt (Elt Ideal) (Rect.unit (s := S8192x128) (k0_off1 k) S1024x128.size (k0_off1_inb k)).toLoadRect f (ix2 j l)
      = v.read (Elt Ideal) f (ix2 ⟨1024 * k.val + j.val, by have := j.isLt; omega⟩ l) := by
  rw [View.readAt_eq_ld]
  refine View.ld_unit_apply_of _ _ _ _ _ _ ?_
  intro a
  rw [show k0_off1 k a = ![1024 * k.val, 0] a from congrFun (off_eq k) a]
  fin_cases a <;> simp [ix2]

section Loop

variable (c : Dev nD) (bd : Option Variants.none.V) (i : grid0.Coords) (arg3 : Memref sig .tc .vmem S2048x256 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2048x256 .bf16) (harg7 : arg7.IsWhole) (arg8 : Memref sig .tc .vmem S4x2048x128 .bf16) (harg8 : arg8.IsWhole) (arg9 : Memref sig .tc .vmem S4x2048x128 .f32) (harg9 : arg9.IsWhole) (arg10 : Memref sig .tc .vmem S4x2048x128 .f32) (harg10 : arg10.IsWhole)

section Pieces

variable (v6 v12 : FVec Ideal S1x128 .bf16) (v34 : FVec Ideal S2048x128 .f32) (X4 : BufTy.Contents (Elt Ideal) arg4.view.ty) (X5 : BufTy.Contents (Elt Ideal) arg5.view.ty) (X6 : BufTy.Contents (Elt Ideal) arg6.view.ty) (X8 : BufTy.Contents (Elt Ideal) arg8.view.ty)

/-- What a trip stores: one new shift and one new sum per head, of what it finds there. -/
theorem trip_eq (k : Fin k0_t1_loop.trips) (f9 : BufTy.Contents (Elt Ideal) arg9.view.ty) (f10 : BufTy.Contents (Elt Ideal) arg10.view.ty)
    (K Ve Vo : Vec Ideal S1024x128 .bf16)
    (hK : arg4.view.readAt (Elt Ideal) (Rect.unit (s := S8192x128) (k0_off1 k) S1024x128.size (k0_off1_inb k)).toLoadRect X4 = K)
    (hVe : arg5.view.readAt (Elt Ideal) (Rect.unit (s := S8192x128) (k0_off1 k) S1024x128.size (k0_off1_inb k)).toLoadRect X5 = Ve)
    (hVo : arg6.view.readAt (Elt Ideal) (Rect.unit (s := S8192x128) (k0_off1 k) S1024x128.size (k0_off1_inb k)).toLoadRect X6 = Vo)
    (q0 q1 q2 q3 : Vec Ideal S1x2048x128 .bf16) (m0 m1 m2 m3 a0 a1 a2 a3 : Vec Ideal S1x2048x128 .f32)
    (hq0 : arg8.view.readAt (Elt Ideal) row0.toLoadRect X8 = q0) (hq1 : arg8.view.readAt (Elt Ideal) row1.toLoadRect X8 = q1)
    (hq2 : arg8.view.readAt (Elt Ideal) row2.toLoadRect X8 = q2) (hq3 : arg8.view.readAt (Elt Ideal) row3.toLoadRect X8 = q3)
    (hm0 : arg9.view.readAt (Elt Ideal) row0.toLoadRect f9 = m0) (hm1 : arg9.view.readAt (Elt Ideal) row1.toLoadRect f9 = m1)
    (hm2 : arg9.view.readAt (Elt Ideal) row2.toLoadRect f9 = m2) (hm3 : arg9.view.readAt (Elt Ideal) row3.toLoadRect f9 = m3)
    (ha0 : arg10.view.readAt (Elt Ideal) row0.toLoadRect f10 = a0) (ha1 : arg10.view.readAt (Elt Ideal) row1.toLoadRect f10 = a1)
    (ha2 : arg10.view.readAt (Elt Ideal) row2.toLoadRect f10 = a2) (ha3 : arg10.view.readAt (Elt Ideal) row3.toLoadRect f10 = a3) :
    tripL_k0_t1 (F := Ideal) Variants.none c bd i arg3 harg3 arg4 harg4 arg5 harg5 arg6 harg6 arg7 harg7 arg8 harg8 arg9 harg9 arg10 harg10 v6 v12 v34 X4 X5 X6 X8 k f9 f10
      = ([⟨row3, mx K q3 m3⟩, ⟨row2, mx K q2 m2⟩, ⟨row1, mx K q1 m1⟩, ⟨row0, mx K q0 m0⟩],
         [⟨row3, ac K Vo q3 m3 a3⟩, ⟨row2, ac K Ve q2 m2 a2⟩, ⟨row1, ac K Vo q1 m1 a1⟩, ⟨row0, ac K Ve q0 m0 a0⟩]) := by
  subst hK hVe hVo hq0 hq1 hq2 hq3 hm0 hm1 hm2 hm3 ha0 ha1 ha2 ha3
  unfold tripL_k0_t1 trip_k0_t1
  rfl

/-- One head, one block: if the shift is a real on every lane and the scores are reals, then the new shift is
    a real on every lane, and the new sum is the old one brought to it plus the block's weighted values. -/
theorem head_step (K V : Vec Ideal S1024x128 .bf16) (q : Vec Ideal S1x2048x128 .bf16) (m a : Vec Ideal S1x2048x128 .f32)
    (r : Fin 2048) (s : Fin 1024 → ℝ) (hs : ∀ j, score K q r j = (s j : EReal)) (μ : ℝ)
    (hm : ∀ l, m (ix3 0 r l) = (μ : EReal)) :
    ∃ ν : ℝ, (∀ l, mx K q m (ix3 0 r l) = (ν : EReal)) ∧
      ∀ l, ac K V q m a (ix3 0 r l)
        = (Attn.wt ν μ : EReal) * a (ix3 0 r l) + ∑ j : Fin 1024, (Attn.wt ν (s j) : EReal) * V (ix2 j l) := by
  obtain ⟨ν, hν⟩ := Attn.max_fold_real Finset.univ μ (fun j => score K q r j) s hs
  have hmx : ∀ l, mx K q m (ix3 0 r l) = (ν : EReal) := fun l => by rw [mx_apply, hm, hν]
  refine ⟨ν, hmx, fun l => ?_⟩
  rw [ac_apply, hm, hmx, Attn.exp2_sub]
  congr 1
  refine Finset.sum_congr rfl fun j _ => ?_
  rw [pay10_apply, hmx, hs, Attn.exp2_sub]

variable (G9 : BufTy.Contents (Elt Ideal) arg9.view.ty) (G10 : BufTy.Contents (Elt Ideal) arg10.view.ty)

/-- The pieces of the trips before `k`. -/
local notation "pbk" => pb_k0_t1 (F := Ideal) Variants.none c bd i arg3 harg3 arg4 harg4 arg5 harg5 arg6 harg6 arg7 harg7 arg8 harg8 arg9 harg9 arg10 harg10 v6 v12 v34 X4 X5 X6 X8 G9 G10

/-- After `k` blocks: every row has a real shift, the same on all lanes, and every lane holds the sum of the
    first `1024 k` columns weighted with that shift. -/
theorem loop_inv (S : Fin 4 → Fin 2048 → ℕ → ℝ) (W : Fin 4 → Fin 128 → ℕ → EReal)
    (hS : ∀ (h : Fin 4) (r : Fin 2048) (j : Fin 8192),
      ∑ d : Fin 128, arg8.view.read (Elt Ideal) X8 (ix3 h r d) * arg4.view.read (Elt Ideal) X4 (ix2 j d) = (S h r j.val : EReal))
    (hW0 : ∀ (l : Fin 128) (j : Fin 8192), arg5.view.read (Elt Ideal) X5 (ix2 j l) = W 0 l j.val)
    (hW1 : ∀ (l : Fin 128) (j : Fin 8192), arg6.view.read (Elt Ideal) X6 (ix2 j l) = W 1 l j.val)
    (hW2 : ∀ (l : Fin 128) (j : Fin 8192), arg5.view.read (Elt Ideal) X5 (ix2 j l) = W 2 l j.val)
    (hW3 : ∀ (l : Fin 128) (j : Fin 8192), arg6.view.read (Elt Ideal) X6 (ix2 j l) = W 3 l j.val)
    (μ₀ : ℝ) (h9 : ∀ y, arg9.view.read (Elt Ideal) G9 y = (μ₀ : EReal)) (h10 : ∀ y, arg10.view.read (Elt Ideal) G10 y = 0)
    (k : ℕ) (hk : k ≤ 8) (h : Fin 4) (r : Fin 2048) :
    ∃ μ : ℝ,
      (∀ l, arg9.view.read (Elt Ideal) (arg9.view.writes (Elt Ideal) G9 (pbk k).1) (ix3 h r l) = (μ : EReal)) ∧
      ∀ l, arg10.view.read (Elt Ideal) (arg10.view.writes (Elt Ideal) G10 (pbk k).2) (ix3 h r l)
        = Attn.wsum (S h r) (W h l) μ (1024 * k) := by
  induction k with
  | zero => exact ⟨μ₀, fun l => h9 _, fun l => h10 _⟩
  | succ k ih =>
    obtain ⟨μ, hμ, hA⟩ := ih (by omega)
    have hk8 : k < k0_t1_loop.trips := by rw [trips_eq]; omega
    set f9 := arg9.view.writes (Elt Ideal) G9 (pbk k).1 with hf9
    set f10 := arg10.view.writes (Elt Ideal) G10 (pbk k).2 with hf10
    have hs : pbk (k + 1) = ((tripL_k0_t1 (F := Ideal) Variants.none c bd i arg3 harg3 arg4 harg4 arg5 harg5 arg6 harg6 arg7 harg7 arg8 harg8 arg9 harg9 arg10 harg10 v6 v12 v34 X4 X5 X6 X8 ⟨k, hk8⟩ f9 f10).1 ++ (pbk k).1,
        (tripL_k0_t1 (F := Ideal) Variants.none c bd i arg3 harg3 arg4 harg4 arg5 harg5 arg6 harg6 arg7 harg7 arg8 harg8 arg9 harg9 arg10 harg10 v6 v12 v34 X4 X5 X6 X8 ⟨k, hk8⟩ f9 f10).2 ++ (pbk k).2) :=
      pb_k0_t1_succ (F := Ideal) Variants.none c bd i arg3 harg3 arg4 harg4 arg5 harg5 arg6 harg6 arg7 harg7 arg8 harg8 arg9 harg9 arg10 harg10 v6 v12 v34 X4 X5 X6 X8 G9 G10 ⟨k, hk8⟩
    rw [hs, trip_eq c bd i arg3 harg3 arg4 harg4 arg5 harg5 arg6 harg6 arg7 harg7 arg8 harg8 arg9 harg9 arg10 harg10 v6 v12 v34 X4 X5 X6 X8 ⟨k, hk8⟩ f9 f10 _ _ _ rfl rfl rfl _ _ _ _ _ _ _ _ _ _ _ _
      (read_row0 _ _) (read_row1 _ _) (read_row2 _ _) (read_row3 _ _) (read_row0 _ _) (read_row1 _ _) (read_row2 _ _) (read_row3 _ _)
      (read_row0 _ _) (read_row1 _ _) (read_row2 _ _) (read_row3 _ _)]
    clear hs
    dsimp only
    rw [View.writes_append, View.writes_append, ← hf9, ← hf10]
    simp only [read_writes_rows]
    generalize hK : arg4.view.readAt (Elt Ideal) (Rect.unit (s := S8192x128) (k0_off1 ⟨k, hk8⟩) S1024x128.size (k0_off1_inb ⟨k, hk8⟩)).toLoadRect X4 = K
    generalize hVe : arg5.view.readAt (Elt Ideal) (Rect.unit (s := S8192x128) (k0_off1 ⟨k, hk8⟩) S1024x128.size (k0_off1_inb ⟨k, hk8⟩)).toLoadRect X5 = Ve
    generalize hVo : arg6.view.readAt (Elt Ideal) (Rect.unit (s := S8192x128) (k0_off1 ⟨k, hk8⟩) S1024x128.size (k0_off1_inb ⟨k, hk8⟩)).toLoadRect X6 = Vo
    have main : ∀ V : Vec Ideal S1024x128 .bf16, (∀ (j : Fin 1024) (l : Fin 128), V (ix2 j l) = W h l (1024 * k + j.val)) →
        ∃ ν : ℝ, (∀ l, mx K (plane (arg8.view.read (Elt Ideal) X8) h) (plane (arg9.view.read (Elt Ideal) f9) h) (ix3 0 r l) = (ν : EReal)) ∧
          ∀ l, ac K V (plane (arg8.view.read (Elt Ideal) X8) h) (plane (arg9.view.read (Elt Ideal) f9) h)
            (plane (arg10.view.read (Elt Ideal) f10) h) (ix3 0 r l) = Attn.wsum (S h r) (W h l) ν (1024 * (k + 1)) := by
      intro V hV
      obtain ⟨ν, h1, h2⟩ := head_step K V (plane (arg8.view.read (Elt Ideal) X8) h) (plane (arg9.view.read (Elt Ideal) f9) h)
        (plane (arg10.view.read (Elt Ideal) f10) h) r (fun j => S h r (1024 * k + j.val))
        (fun j => by
          have hj := j.isLt
          rw [← hS h r ⟨1024 * k + j.val, by omega⟩]
          unfold score
          refine Finset.sum_congr rfl fun d _ => ?_
          rw [plane_apply, ← hK, block_apply _ _ _ (show k < 8 by omega)])
        μ (fun l => by rw [plane_apply]; exact hμ l)
      refine ⟨ν, h1, fun l => ?_⟩
      rw [h2, plane_apply, hA l, show 1024 * (k + 1) = 1024 * k + 1024 by ring, ← Attn.wsum_block _ _ μ, Finset.sum_range]
      congr 1
      refine Finset.sum_congr rfl fun j _ => ?_
      rw [hV]
    have bE : ∀ (j : Fin 1024) (l : Fin 128), Ve (ix2 j l) = arg5.view.read (Elt Ideal) X5 (ix2 ⟨1024 * k + j.val, by have := j.isLt; omega⟩ l) :=
      fun j l => by rw [← hVe, block_apply _ _ _ (show k < 8 by omega)]
    have bO : ∀ (j : Fin 1024) (l : Fin 128), Vo (ix2 j l) = arg6.view.read (Elt Ideal) X6 (ix2 ⟨1024 * k + j.val, by have := j.isLt; omega⟩ l) :=
      fun j l => by rw [← hVo, block_apply _ _ _ (show k < 8 by omega)]
    fin_cases h
    · exact main Ve fun j l => by rw [bE]; exact hW0 _ _
    · exact main Vo fun j l => by rw [bO]; exact hW1 _ _
    · exact main Ve fun j l => by rw [bE]; exact hW2 _ _
    · exact main Vo fun j l => by rw [bO]; exact hW3 _ _

end Pieces

end Loop

end Cert.KernelIdeal.Flash
end
-- ==== Proof.Out.lean ====
module

public import proofs.«01_k».proof.Proof.Trip
public import Idealize.ShloMosaic.Lib.VecWindow

/-!
What one grid point writes: per row and column the quotient of two weighted sums over all 8192 keys.
-/

@[expose] public section

set_option maxRecDepth 16384

noncomputable section

namespace Cert.KernelIdeal.Flash

open Idealize.ShloMosaic Cert.KernelIdeal Cert.KernelIdeal.Gen

/-- A column of a value block as a sequence, continued by ones. -/
def col (x : Vec Ideal S8192x128 .bf16) (l : Fin 128) (j : ℕ) : EReal := if h : j < 8192 then x (ix2 ⟨j, h⟩ l) else 1

theorem col_apply (x : Vec Ideal S8192x128 .bf16) (l : Fin 128) (j : Fin 8192) : x (ix2 j l) = col x l j.val := by
  unfold col; rw [dif_pos j.isLt]

theorem col_one (x : Vec Ideal S8192x128 .bf16) (l : Fin 128) (h : ∀ j, x (ix2 j l) = 1) : col x l = fun _ => 1 := by
  funext j; unfold col; split_ifs <;> simp [h]

/-- The fill of the row shifts is a real number. -/
theorem fill_real : ∃ μ : ℝ, Ideal.ofBits .f32 0xF149F2CA#32 = (μ : EReal) := by
  simp only [Ideal.ofBits, Ideal.ieee]
  norm_num
  exact ⟨_, rfl⟩

theorem pay46_real : ∃ μ : ℝ, ∀ y, (k0_pay46 : FVec Ideal S4x2048x128 .f32) y = (μ : EReal) := by
  obtain ⟨μ, hμ⟩ := fill_real
  refine ⟨μ, fun y => ?_⟩
  obtain ⟨h, r, l, rfl⟩ : ∃ (h : Fin 4) (r : Fin 2048) (l : Fin 128), y = ix3 h r l := ⟨y 0, y 1, y 2, by funext a; fin_cases a <;> rfl⟩
  pointwise [k0_pay46]
  exact hμ

theorem pay47_zero (y) : (k0_pay47 : FVec Ideal S4x2048x128 .f32) y = 0 := by
  obtain ⟨h, r, l, rfl⟩ : ∃ (h : Fin 4) (r : Fin 2048) (l : Fin 128), y = ix3 h r l := ⟨y 0, y 1, y 2, by funext a; fin_cases a <;> rfl⟩
  pointwise [k0_pay47]

/-- The left and the right half of the columns of a query block. -/
abbrev colL : Rect S2048x256 := Rect.unit (s := S2048x256) ![0, 0] S2048x128.size inb_S2048x256_S2048x128_0_0
abbrev colR : Rect S2048x256 := Rect.unit (s := S2048x256) ![0, 128] S2048x128.size inb_S2048x256_S2048x128_0_128

/-- A whole stack of four. -/
abbrev full : Rect S4x2048x128 := Rect.unit (s := S4x2048x128) ![0, 0, 0] S4x2048x128.size inb_S4x2048x128_S4x2048x128_0_0_0

variable (c : Dev nD) (i : grid0.Coords) (arg3 : Memref sig .tc .vmem S2048x256 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S2048x256 .bf16) (harg7 : arg7.IsWhole) (arg8 : Memref sig .tc .vmem S4x2048x128 .bf16) (harg8 : arg8.IsWhole) (arg9 : Memref sig .tc .vmem S4x2048x128 .f32) (harg9 : arg9.IsWhole) (arg10 : Memref sig .tc .vmem S4x2048x128 .f32) (harg10 : arg10.IsWhole)
variable (x0 : Vec Ideal S2048x256 .bf16) (x1 x2 x3 : Vec Ideal S8192x128 .bf16)

/-- The scaled queries, as the four stores leave them. -/
def qst (QL QR : Vec Ideal S2048x128 .bf16) : BufTy.Contents (Elt Ideal) arg8.view.ty :=
  arg8.view.writes (Elt Ideal) arg8.view.junk
    [⟨row3, k0_pay45 k0_pay40 QR⟩, ⟨row2, k0_pay44 k0_pay39 (k0_pay43 QR)⟩, ⟨row1, k0_pay42 QL⟩, ⟨row0, k0_pay41 QL⟩]

/-- The shifts and the sums before the loop. -/
def g9 : BufTy.Contents (Elt Ideal) arg9.view.ty := arg9.view.writes (Elt Ideal) arg9.view.junk [⟨full, k0_pay46 (F := Ideal)⟩]
def g10 : BufTy.Contents (Elt Ideal) arg10.view.ty := arg10.view.writes (Elt Ideal) arg10.view.junk [⟨full, k0_pay47 (F := Ideal)⟩]

/-- The sums after the loop. -/
def sums (QL QR : Vec Ideal S2048x128 .bf16) : BufTy.Contents (Elt Ideal) arg10.view.ty :=
  arg10.view.writes (Elt Ideal) (g10 arg10)
    (pb_k0_t1 (F := Ideal) Variants.none c none i arg3 harg3 arg4 harg4 arg5 harg5 arg6 harg6 arg7 harg7 arg8 harg8 arg9 harg9 arg10 harg10 k0_pay39 k0_pay40 (k0_pay43 QR) (harg4.unread x1) (harg5.unread x2) (harg6.unread x3)
      (qst arg8 QL QR) (g9 arg9) (g10 arg10) 8).2

/-- The left half of a query block, and the right half. -/
def lft (X : Vec Ideal S2048x256 .bf16) : Vec Ideal S2048x128 .bf16 := View.ld X colL
def rgt (X : Vec Ideal S2048x256 .bf16) : Vec Ideal S2048x128 .bf16 := View.ld X colR

theorem lft_apply (X : Vec Ideal S2048x256 .bf16) (r : Fin 2048) (d : Fin 128) :
    lft X (ix2 r d) = X (ix2 r ⟨d.val, by have := d.isLt; omega⟩) :=
  View.ld_unit_apply_of _ _ _ _ _ _ (by intro a; fin_cases a <;> simp [ix2])
theorem rgt_apply (X : Vec Ideal S2048x256 .bf16) (r : Fin 2048) (d : Fin 128) :
    rgt X (ix2 r d) = X (ix2 r ⟨128 + d.val, by have := d.isLt; omega⟩) :=
  View.ld_unit_apply_of _ _ _ _ _ _ (by intro a; fin_cases a <;> simp [ix2])

theorem run_eq (QL QR : Vec Ideal S2048x128 .bf16)
    (hL : arg3.view.readAt (Elt Ideal) colL.toLoadRect (harg3.unread x0) = QL)
    (hR : arg3.view.readAt (Elt Ideal) colR.toLoadRect (harg3.unread x0) = QR) (A0 A1 A2 A3 : Vec Ideal S1x2048x128 .f32)
    (hA0 : A0 = arg10.view.readAt (Elt Ideal) row0.toLoadRect (sums c i arg3 harg3 arg4 harg4 arg5 harg5 arg6 harg6 arg7 harg7 arg8 harg8 arg9 harg9 arg10 harg10 x1 x2 x3 QL QR))
    (hA1 : A1 = arg10.view.readAt (Elt Ideal) row1.toLoadRect (sums c i arg3 harg3 arg4 harg4 arg5 harg5 arg6 harg6 arg7 harg7 arg8 harg8 arg9 harg9 arg10 harg10 x1 x2 x3 QL QR))
    (hA2 : A2 = arg10.view.readAt (Elt Ideal) row2.toLoadRect (sums c i arg3 harg3 arg4 harg4 arg5 harg5 arg6 harg6 arg7 harg7 arg8 harg8 arg9 harg9 arg10 harg10 x1 x2 x3 QL QR))
    (hA3 : A3 = arg10.view.readAt (Elt Ideal) row3.toLoadRect (sums c i arg3 harg3 arg4 harg4 arg5 harg5 arg6 harg6 arg7 harg7 arg8 harg8 arg9 harg9 arg10 harg10 x1 x2 x3 QL QR)) :
    (kernelRun0_A (F := Ideal) c i arg3 harg3 arg4 harg4 arg5 harg5 arg6 harg6 arg7 harg7 arg8 harg8 arg9 harg9 arg10 harg10 x0 x1 x2 x3).1
      = [⟨colR, k0_pay2 (iota Kind.tc S1x128 32 [1] iota_S1x128_d1_w32) A2 A3⟩,
         ⟨colL, k0_pay1 (iota Kind.tc S1x128 32 [1] iota_S1x128_d1_w32) (k0_pay50 A0) A1⟩] := by
  subst hL hR
  rw [hA0, hA1, hA2, hA3]
  unfold sums g10 g9 qst
  simp only [← View.writes_append]
  unfold kernelRun0_A
  rfl

theorem qst_apply (QL QR : Vec Ideal S2048x128 .bf16) (h : Fin 4) (r : Fin 2048) (d : Fin 128) :
    arg8.view.read (Elt Ideal) (qst arg8 QL QR) (ix3 h r d)
      = half (h.val % 2 == 1) ((if h.val < 2 then QL else QR) (ix2 r d)) d := by
  unfold qst
  rw [read_writes_rows]
  fin_cases h
  · exact pay41_apply _ _ _
  · exact pay42_apply _ _ _
  · exact pay44_apply _ _ _
  · exact pay45_apply _ _ _

/-- Every head's sums over all keys: some real shift, and on every lane the sum weighted with it. -/
theorem sums_apply (S : Fin 4 → Fin 2048 → ℕ → ℝ) (QL QR : Vec Ideal S2048x128 .bf16)
    (hS : ∀ (h : Fin 4) (r : Fin 2048) (j : Fin 8192),
      ∑ d : Fin 128, half (h.val % 2 == 1) ((if h.val < 2 then QL else QR) (ix2 r d)) d * x1 (ix2 j d) = (S h r j.val : EReal))
    (h : Fin 4) (r : Fin 2048) :
    ∃ μ : ℝ, ∀ l, arg10.view.read (Elt Ideal) (sums c i arg3 harg3 arg4 harg4 arg5 harg5 arg6 harg6 arg7 harg7 arg8 harg8 arg9 harg9 arg10 harg10 x1 x2 x3 QL QR) (ix3 h r l)
      = Attn.wsum (S h r) (col (if h.val % 2 == 1 then x3 else x2) l) μ 8192 := by
  obtain ⟨μ₀, h46⟩ := pay46_real
  obtain ⟨μ, -, hμ⟩ := loop_inv  (c := c) (bd := none) (i := i) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10)
    (v6 := k0_pay39) (v12 := k0_pay40) (v34 := k0_pay43 QR) (X4 := harg4.unread x1) (X5 := harg5.unread x2) (X6 := harg6.unread x3)
    (X8 := qst arg8 QL QR) (G9 := g9 arg9) (G10 := g10 arg10) S (fun h l => col (if h.val % 2 == 1 then x3 else x2) l)
    (fun h r j => by
      rw [← hS, harg4.read_unread]
      exact Finset.sum_congr rfl fun d _ => by rw [qst_apply])
    (fun l j => by rw [harg5.read_unread]; exact col_apply _ _ _)
    (fun l j => by rw [harg6.read_unread]; exact col_apply _ _ _)
    (fun l j => by rw [harg5.read_unread]; exact col_apply _ _ _)
    (fun l j => by rw [harg6.read_unread]; exact col_apply _ _ _)
    μ₀ (fun y => by unfold g9; exact (congrFun (View.read_writes_full _ _ _ _ _) y).trans (h46 y))
    (fun y => by unfold g10; exact (congrFun (View.read_writes_full _ _ _ _ _) y).trans (pay47_zero y))
    8 le_rfl h r
  exact ⟨μ, hμ⟩

/-- The head and the lane of a column. -/
def hd (cc : Fin 256) : Fin 4 := ⟨cc.val / 64, by have := cc.isLt; omega⟩
def ln (cc : Fin 256) : Fin 128 := ⟨cc.val % 128, Nat.mod_lt _ (by norm_num)⟩

/-- The block a grid point writes, at row `r` and column `cc`. -/
theorem out_apply (S : Fin 4 → Fin 2048 → ℕ → ℝ)
    (hS : ∀ (h : Fin 4) (r : Fin 2048) (j : Fin 8192),
      ∑ d : Fin 128, half (h.val % 2 == 1) ((if h.val < 2 then lft x0 else rgt x0) (ix2 r d)) d * x1 (ix2 j d) = (S h r j.val : EReal))
    (hE : ∀ (l : Fin 128) (j : Fin 8192), 64 ≤ l.val → x2 (ix2 j l) = 1)
    (hO : ∀ (l : Fin 128) (j : Fin 8192), l.val < 64 → x3 (ix2 j l) = 1)
    (r : Fin 2048) (cc : Fin 256) :
    ∃ μ : ℝ, out0_A_4 (F := Ideal) c i arg3 harg3 arg4 harg4 arg5 harg5 arg6 harg6 arg7 harg7 arg8 harg8 arg9 harg9 arg10 harg10 x0 x1 x2 x3 (ix2 r cc)
      = Ideal.div (Attn.wsum (S (hd cc) r) (col (if (hd cc).val % 2 == 1 then x3 else x2) (ln cc)) μ 8192)
          (Attn.wsum (S (hd cc) r) (fun _ => 1) μ 8192) := by
  have ev : ∀ (h : Fin 4) (l : Fin 128), (h.val % 2 == 1) = decide (64 ≤ l.val) →
      col (if h.val % 2 == 1 then x3 else x2) (opp l) = fun _ => 1 := by
    intro h l hh
    have hl := l.isLt
    by_cases h64 : 64 ≤ l.val
    · rw [hh]; simp only [h64, decide_true, if_true]
      exact col_one _ _ fun j => hO _ _ (by unfold opp; simp only []; omega)
    · rw [hh]; simp only [h64, decide_false]
      exact col_one _ _ fun j => hE _ _ (by unfold opp; simp only []; omega)
  have fin : ∀ (h : Fin 4) (l : Fin 128), (h.val % 2 == 1) = decide (64 ≤ l.val) → ∀ A : Vec Ideal S1x2048x128 .f32,
      A = plane (arg10.view.read (Elt Ideal) (sums c i arg3 harg3 arg4 harg4 arg5 harg5 arg6 harg6 arg7 harg7 arg8 harg8 arg9 harg9 arg10 harg10 x1 x2 x3 (lft x0) (rgt x0))) h →
      ∃ μ : ℝ, Ideal.div (A (ix3 0 r l)) (A (ix3 0 r (opp l)))
        = Ideal.div (Attn.wsum (S h r) (col (if h.val % 2 == 1 then x3 else x2) l) μ 8192) (Attn.wsum (S h r) (fun _ => 1) μ 8192) := by
    intro h l hh A hA
    obtain ⟨μ, hμ⟩ := sums_apply c i arg3 harg3 arg4 harg4 arg5 harg5 arg6 harg6 arg7 harg7 arg8 harg8 arg9 harg9 arg10 harg10 x1 x2 x3 S (lft x0) (rgt x0) hS h r
    refine ⟨μ, ?_⟩
    rw [hA, plane_apply, plane_apply, hμ, hμ, ev h l hh]
  have hcc := cc.isLt
  unfold out0_A_4
  rw [run_eq c i arg3 harg3 arg4 harg4 arg5 harg5 arg6 harg6 arg7 harg7 arg8 harg8 arg9 harg9 arg10 harg10 x0 x1 x2 x3 (lft x0) (rgt x0)
    (by rw [View.readAt_eq_ld, harg3.read_unread]; rfl) (by rw [View.readAt_eq_ld, harg3.read_unread]; rfl)
    _ _ _ _ rfl rfl rfl rfl]
  by_cases hc : cc.val < 128
  · rw [View.read_writes_cons_unit_of_not_mem _ _ _ _ _ _ rfl 1 (by simp [ix2]; omega),
      View.read_writes_cons_unit_of_mem _ _ _ _ _ _ (ix2 r ⟨cc.val, hc⟩) rfl (by intro a; fin_cases a <;> simp [ix2]), pay1_apply]
    have hln : ln cc = ⟨cc.val, hc⟩ := Fin.ext (Nat.mod_eq_of_lt hc)
    rw [hln]
    by_cases h64 : cc.val < 64
    · have hh : hd cc = 0 := Fin.ext (by show cc.val / 64 = 0; omega)
      rw [hh, if_pos (show (⟨cc.val, hc⟩ : Fin 128).val < 64 from h64)]
      exact fin 0 _ (by simpa using h64) _ (read_row0 _ _)
    · have hh : hd cc = 1 := Fin.ext (by show cc.val / 64 = 1; omega)
      rw [hh, if_neg (show ¬ (⟨cc.val, hc⟩ : Fin 128).val < 64 from h64)]
      exact fin 1 _ (by simpa using h64) _ (read_row1 _ _)
  · rw [View.read_writes_cons_unit_of_mem _ _ _ _ _ _ (ix2 r ⟨cc.val - 128, by omega⟩) rfl (by intro a; fin_cases a <;> simp [ix2]; omega), pay2_apply]
    have hln : ln cc = ⟨cc.val - 128, by omega⟩ := Fin.ext (by show cc.val % 128 = cc.val - 128; omega)
    rw [hln]
    by_cases h64 : cc.val - 128 < 64
    · have hh : hd cc = 2 := Fin.ext (by show cc.val / 64 = 2; omega)
      rw [hh, if_pos (show (⟨cc.val - 128, by omega⟩ : Fin 128).val < 64 from h64)]
      exact fin 2 _ (by simpa using h64) _ (read_row2 _ _)
    · have hh : hd cc = 3 := Fin.ext (by show cc.val / 64 = 3; omega)
      rw [hh, if_neg (show ¬ (⟨cc.val - 128, by omega⟩ : Fin 128).val < 64 from h64)]
      exact fin 3 _ (by simpa using h64) _ (read_row3 _ _)

end Cert.KernelIdeal.Flash
end
-- ==== Proof.Host.lean ====
module

public import proofs.«01_k».proof.Proof.Out
public import proofs.«01_k».proof.Proof.Gen.KernelIdeal.Value
public import Idealize.ShloMosaic.Lib.Pipeline.ValueKit.Geometry
public import Idealize.ShloMosaic.Lib.Pipeline.Value
public import Idealize.ShloMosaic.Lib.Pointwise

/-!
The three arrays the host prepares: every key/value head of 64 columns becomes 128 columns, the keys twice, the values
beside ones on the right or on the left.
-/

@[expose] public section

set_option maxRecDepth 16384

noncomputable section

namespace Cert.KernelIdeal.Flash

open Cert.KernelIdeal Cert.KernelIdeal.Gen
open Idealize.ShloMosaic Idealize.ShloMosaic.TcCoe Idealize.SL Idealize.SL.Sem

variable (m : (ℓ : Loc nD τ sig) → Buf (Elt Ideal) ℓ)

/-- The queries as launched. -/
abbrev qArg (c : Dev nD) : S16384x512.Idx → EReal := m ((c : Thread nD τ).loc main_arg0)
/-- The keys as launched. -/
abbrev kArg (c : Dev nD) : S16384x128.Idx → EReal := m ((c : Thread nD τ).loc main_arg1)
/-- The values as launched. -/
abbrev vArg (c : Dev nD) : S16384x128.Idx → EReal := m ((c : Thread nD τ).loc main_arg2)

/-- The column of the 128 that column `C` of the 256 is prepared from. -/
abbrev src (C : Fin 256) : Fin 128 := ⟨C.val / 128 * 64 + C.val % 64, by omega⟩

/-- The prepared keys: the head's 64 columns, twice. -/
theorem V_keys (c : Dev nD) (R : Fin 16384) (C : Fin 256) :
    (V m c main_v4 : S16384x256.Idx → EReal) (ix2 R C) = kArg m c (ix2 R (src C)) := by
  unfold V
  after_results
  pointwise
  split_ifs
  all_goals first
    | rfl
    | exact congrArg (fun x : Fin 128 => kArg m c (ix2 R x)) (Fin.ext (by show _ + _ = _ + _; omega))
    | (exfalso; simp_all; done)

/-- The values with ones on the right. -/
theorem V_left (c : Dev nD) (R : Fin 16384) (C : Fin 256) :
    (V m c main_v6 : S16384x256.Idx → EReal) (ix2 R C) = if C.val % 128 < 64 then vArg m c (ix2 R (src C)) else 1 := by
  unfold V
  after_results
  pointwise
  split_ifs
  all_goals first
    | rfl
    | exact congrArg (fun x : Fin 128 => vArg m c (ix2 R x)) (Fin.ext (by show _ + _ = _ + _; omega))
    | (exfalso; simp_all; done)

/-- The values with ones on the left. -/
theorem V_right (c : Dev nD) (R : Fin 16384) (C : Fin 256) :
    (V m c main_v8 : S16384x256.Idx → EReal) (ix2 R C) = if C.val % 128 < 64 then 1 else vArg m c (ix2 R (src C)) := by
  unfold V
  after_results
  pointwise
  split_ifs
  all_goals first
    | rfl
    | exact congrArg (fun x : Fin 128 => vArg m c (ix2 R x)) (Fin.ext (by show _ + _ = _ + _; omega))
    | (exfalso; simp_all; done)

end Cert.KernelIdeal.Flash
-- ==== Proof.Ref.lean ====
module

public import proofs.«01_k».proof.Proof.Gen.ReferenceIdeal.Read
public import proofs.«01_k».proof.Proof.Softmax
public import Idealize.ShloMosaic.Lib.Pointwise

/-!
The attention as plainly written, read at a row and a column: scores, the row's largest score (only that it is a
real number matters), the shares, and their sum against the values.
-/

@[expose] public section

set_option maxRecDepth 16384

noncomputable section

namespace Cert.ReferenceIdeal.Attention

open Cert.ReferenceIdeal Cert.ReferenceIdeal.Gen Cert.ReferenceIdeal.Read
open Idealize.ShloMosaic Idealize.ShloMosaic.TcCoe Idealize.SL.Sem Idealize.ShloMosaic.StableHlo

/-- The largest of real numbers along an axis is a real number, where there is at least one. -/
theorem reduce_max_real {s t u : Shape} {axes : List (Fin s.rank)} (x : s.Idx → EReal) (init : u.Idx → EReal)
    (h : s.ReducesTo axes t) (hu : 0 < u.numel) (j : t.Idx) (hi : init (Shape.Idx.first hu) = ⊥)
    (r : s.Idx → ℝ) (hx : ∀ i, x i = (r i : EReal)) (i₀ : s.Idx) (h₀ : h.drop i₀ = j) :
    ∃ y : ℝ, Host.reduce (fun a b : EReal => max a b) x init h hu j = (y : EReal) := by
  rw [Host.reduce_eq_fold, hi]
  exact Attn.fold_real _ i₀ (by simp [h₀]) x r hx

variable (q : S16384x512.Idx → EReal) (k v : S16384x128.Idx → EReal)

/-- One score: the product of a query row and a key row, times one eighth. -/
theorem score_apply (b : Fin 2) (g : Fin 2) (h : Fin 4) (i j : Fin 8192) :
    val_main_v9 (F := Ideal) q k (ix5 b g h i j)
      = (∑ d : Fin 64, k (ix2 ⟨b.val * 8192 + j.val, by omega⟩ ⟨g.val * 64 + d.val, by omega⟩)
          * q (ix2 ⟨b.val * 8192 + i.val, by omega⟩ ⟨g.val * 256 + h.val * 64 + d.val, by omega⟩))
        * Ideal.ofBits .f32 0x3E000000#32 := by
  pointwise [val_main_v9, val_main_v8, val_main_v7, val_main_v6, val_main_v3, val_main_v2, val_main_v1, val_main_v0,
    val_main_cst]

/-- One share: the exponential of the score less the row's largest, over their sum. -/
theorem share_apply (b : Fin 2) (g : Fin 2) (h : Fin 4) (i j : Fin 8192) :
    val_main_v20 (F := Ideal) q k (ix5 b g h i j)
      = Ideal.div (Ideal.exp (val_main_v9 (F := Ideal) q k (ix5 b g h i j) - val_main_v12 (F := Ideal) q k (ix4 b g h i)))
          (∑ x : Fin 8192, Ideal.exp (val_main_v9 (F := Ideal) q k (ix5 b g h i x) - val_main_v12 (F := Ideal) q k (ix4 b g h i))) := by
  pointwise [val_main_v20, val_main_v19, val_main_v18, val_main_v17, val_main_v16, val_main_v15, val_main_v14,
    val_main_v13, val_main_cst_2]

/-- The result: the shares against the values. -/
theorem out_apply (R : Fin 16384) (C : Fin 512) :
    val_main_v24 (F := Ideal) q k v (ix2 R C)
      = ∑ j : Fin 8192, v (ix2 ⟨R.val / 8192 * 8192 + j.val, by omega⟩ ⟨C.val / 256 * 64 + C.val % 64, by omega⟩)
          * val_main_v20 (F := Ideal) q k (ix5 ⟨R.val / 8192, by omega⟩ ⟨C.val / 256, by omega⟩ ⟨C.val / 64 % 4, by omega⟩
              ⟨R.val % 8192, by omega⟩ j) := by
  pointwise [val_main_v24, val_main_v23, val_main_v22, val_main_v21, val_main_v5, val_main_v4]

/-- Where every score is a real number, so is the row's largest. -/
theorem top_real (r : S2x2x4x8192x8192.Idx → ℝ) (hr : ∀ i, val_main_v9 (F := Ideal) q k i = (r i : EReal))
    (b : Fin 2) (g : Fin 2) (h : Fin 4) (i : Fin 8192) :
    ∃ M : ℝ, val_main_v12 (F := Ideal) q k (ix4 b g h i) = (M : EReal) := by
  have hbot : Ideal.ofBits .f32 0xFF800000#32 = ⊥ := by simp [Ideal.ofBits, Ideal.ieee]
  obtain ⟨y, hy⟩ := reduce_max_real (val_main_v9 (F := Ideal) q k) (val_main_cst_0 (F := Ideal))
    reducesTo_S2x2x4x8192x8192_S2x2x4x8192_d4 h_S_ (ix4 b g h i) hbot r hr (ix5 b g h i 0) (by
      funext a
      match a with
      | ⟨0, _⟩ => rfl
      | ⟨1, _⟩ => rfl
      | ⟨2, _⟩ => rfl
      | ⟨3, _⟩ => rfl)
  refine ⟨y, ?_⟩
  rw [val_main_v12_apply, val_main_v11_apply, val_main_cst_1_apply]
  show max (Ideal.ofBits .f32 0xFF800000#32) (val_main_v10 (F := Ideal) q k (ix4 b g h i)) = _
  rw [hbot, max_eq_right bot_le]
  exact hy

end Cert.ReferenceIdeal.Attention
-- ==== Proof.Algebra.lean ====
module

public import proofs.«01_k».proof.Proof.Ref
public import proofs.«01_k».proof.Proof.Payload

/-!
The kernel's quotient of two running sums is the reference's softmax row against the values, wherever the queries
and keys are real numbers.
-/

@[expose] public section

set_option maxRecDepth 16384

noncomputable section

namespace Cert.Flash

open Idealize.ShloMosaic Idealize.ShloMosaic.TcCoe
open Cert.ReferenceIdeal Cert.ReferenceIdeal.Read Cert.ReferenceIdeal.Attention

variable (q : S16384x512.Idx → EReal) (k v : S16384x128.Idx → EReal)

/-- The product of query row `R` of head `h` of group `g` and key row `J`, over the head's 64 columns, as a real. -/
def dotv (R J : Fin 16384) (g : Fin 2) (h : Fin 4) : ℝ :=
  ∑ d : Fin 64, (k (ix2 J ⟨g.val * 64 + d.val, by omega⟩)).toReal * (q (ix2 R ⟨g.val * 256 + h.val * 64 + d.val, by omega⟩)).toReal

theorem real_eq {x : EReal} (h : ∃ r : ℝ, x = (r : EReal)) : x = (x.toReal : EReal) := by
  obtain ⟨r, rfl⟩ := h; rfl

theorem ofBits_eighth : Ideal.ofBits .f32 0x3E000000#32 = ((1 / 8 : ℝ) : EReal) := by
  simp [Ideal.ofBits, Ideal.ieee]
  rw [← EReal.coe_mul]
  norm_num

theorem dot_eq (hq : ∀ i, ∃ r : ℝ, q i = (r : EReal)) (hk : ∀ i, ∃ r : ℝ, k i = (r : EReal)) (R J : Fin 16384) (g : Fin 2) (h : Fin 4) :
    ∑ d : Fin 64, k (ix2 J ⟨g.val * 64 + d.val, by omega⟩) * q (ix2 R ⟨g.val * 256 + h.val * 64 + d.val, by omega⟩)
      = (dotv q k R J g h : EReal) := by
  unfold dotv
  rw [Attn.coe_sum]
  refine Finset.sum_congr rfl fun d _ => ?_
  rw [EReal.coe_mul, ← real_eq (hk _), ← real_eq (hq _)]

/-- The score as a real number. -/
theorem score_real (hq : ∀ i, ∃ r : ℝ, q i = (r : EReal)) (hk : ∀ i, ∃ r : ℝ, k i = (r : EReal)) (b : Fin 2) (g : Fin 2) (h : Fin 4) (i j : Fin 8192) :
    val_main_v9 (F := Ideal) q k (ix5 b g h i j)
      = ((dotv q k ⟨b.val * 8192 + i.val, by omega⟩ ⟨b.val * 8192 + j.val, by omega⟩ g h * (1 / 8) : ℝ) : EReal) := by
  rw [score_apply, dot_eq q k hq hk, ofBits_eighth, EReal.coe_mul]

/-- The lane sum of the kernel: of the 128 lanes only the head's 64 count, and each carries the scale. -/
theorem half_sum (up : Bool) (Q K : Fin 128 → EReal) (a b : Fin 64 → ℝ)
    (hQ : ∀ d : Fin 64, Q ⟨up.toNat * 64 + d.val, by cases up <;> simp <;> omega⟩ = (a d : EReal))
    (hK : ∀ d : Fin 64, K ⟨up.toNat * 64 + d.val, by cases up <;> simp <;> omega⟩ = (b d : EReal)) :
    ∑ d : Fin 128, Cert.KernelIdeal.Flash.half up (Q d) d * K d = (((∑ d : Fin 64, b d * a d) * (8⁻¹ * (Real.log 2)⁻¹) : ℝ) : EReal) := by
  rw [Finset.sum_mul, Attn.coe_sum, Fin.sum_univ_add (a := 64) (b := 64) (fun d : Fin 128 => Cert.KernelIdeal.Flash.half up (Q d) d * K d)]
  have key : ∀ d : Fin 64, (a d : EReal) * Cert.KernelIdeal.Flash.qscale * (b d : EReal)
      = ((b d * a d * (8⁻¹ * (Real.log 2)⁻¹) : ℝ) : EReal) := by
    intro d
    unfold Cert.KernelIdeal.Flash.qscale
    rw [← EReal.coe_mul, ← EReal.coe_mul]
    congr 1; ring
  cases up
  · rw [Finset.sum_eq_zero (s := (Finset.univ : Finset (Fin 64))) (f := fun d : Fin 64 => Cert.KernelIdeal.Flash.half false (Q (Fin.natAdd 64 d)) (Fin.natAdd 64 d) * K (Fin.natAdd 64 d)), add_zero]
    · refine Finset.sum_congr rfl fun d _ => ?_
      have e : (Fin.castAdd 64 d : Fin 128) = ⟨Bool.false.toNat * 64 + d.val, by simp; omega⟩ := Fin.ext (by simp)
      have hh : ¬ 64 ≤ (Fin.castAdd 64 d : Fin 128).val := by simp
      unfold Cert.KernelIdeal.Flash.half
      rw [if_pos (by simpa using hh), e, hQ, hK, key]
    · intro d _
      have hh : 64 ≤ (Fin.natAdd 64 d : Fin 128).val := by simp
      unfold Cert.KernelIdeal.Flash.half
      rw [if_neg (by simpa using hh), zero_mul]
  · rw [Finset.sum_eq_zero (s := (Finset.univ : Finset (Fin 64))) (f := fun d : Fin 64 => Cert.KernelIdeal.Flash.half true (Q (Fin.castAdd 64 d)) (Fin.castAdd 64 d) * K (Fin.castAdd 64 d)), zero_add]
    · refine Finset.sum_congr rfl fun d _ => ?_
      have e : (Fin.natAdd 64 d : Fin 128) = ⟨Bool.true.toNat * 64 + d.val, by simp; omega⟩ := Fin.ext (by simp; omega)
      have hh : 64 ≤ (Fin.natAdd 64 d : Fin 128).val := by simp
      unfold Cert.KernelIdeal.Flash.half
      rw [if_pos (by simpa using hh), e, hQ, hK, key]
    · intro d _
      have hh : ¬ 64 ≤ (Fin.castAdd 64 d : Fin 128).val := by simp
      unfold Cert.KernelIdeal.Flash.half
      rw [if_neg (by simpa using hh), zero_mul]

/-- The scores of one query row and head over the keys, as a sequence. -/
def scores (R : Fin 16384) (b : Fin 2) (g : Fin 2) (h : Fin 4) (j : ℕ) : ℝ :=
  if hj : j < 8192 then dotv q k R ⟨b.val * 8192 + j, by omega⟩ g h else 0

/-- The quotient of the running sums is the reference's result. -/
theorem quotient (hq : ∀ i, ∃ r : ℝ, q i = (r : EReal)) (hk : ∀ i, ∃ r : ℝ, k i = (r : EReal))
    (R : Fin 16384) (C : Fin 512) (b : Fin 2) (g : Fin 2) (h : Fin 4) (hb : R.val / 8192 = b.val) (hg : C.val / 256 = g.val)
    (hh : C.val / 64 % 4 = h.val) (S : ℕ → ℝ) (hS : ∀ j, S j = scores q k R b g h j * (8⁻¹ * (Real.log 2)⁻¹))
    (X : ℕ → EReal) (hX : ∀ j : Fin 8192, X j.val = v (ix2 ⟨b.val * 8192 + j.val, by omega⟩ ⟨g.val * 64 + C.val % 64, by omega⟩)) (μ : ℝ) :
    Ideal.div (Attn.wsum S X μ 8192) (Attn.wsum S (fun _ => 1) μ 8192) = val_main_v24 (F := Ideal) q k v (ix2 R C) := by
  obtain ⟨M, hM⟩ := top_real q k
    (fun i => dotv q k ⟨(i 0).val * 8192 + (i 3).val, by have h0 : (i 0).val < 2 := (i 0).isLt; have h3 : (i 3).val < 8192 := (i 3).isLt; omega⟩
      ⟨(i 0).val * 8192 + (i 4).val, by have h0 : (i 0).val < 2 := (i 0).isLt; have h4 : (i 4).val < 8192 := (i 4).isLt; omega⟩
      ⟨(i 1).val, (i 1).isLt⟩ ⟨(i 2).val, (i 2).isLt⟩ * (1 / 8))
    (fun i => by
      have e : i = ix5 (i 0) (i 1) (i 2) (i 3) (i 4) := by
        funext a
        match a with
        | ⟨0, _⟩ => rfl
        | ⟨1, _⟩ => rfl
        | ⟨2, _⟩ => rfl
        | ⟨3, _⟩ => rfl
        | ⟨4, _⟩ => rfl
      conv_lhs => rw [e]
      exact score_real q k hq hk (i 0) (i 1) (i 2) (i 3) (i 4))
    b g h ⟨R.val % 8192, by omega⟩
  have hlog : Real.log 2 ≠ 0 := (Real.log_pos (by norm_num)).ne'
  rw [Attn.wsum_div S (fun j => scores q k R b g h j * (1 / 8)) X μ M 8192 (by norm_num)
    (fun j => by rw [hS]; field_simp)]
  have hR : (⟨b.val * 8192 + R.val % 8192, by omega⟩ : Fin 16384) = R := Fin.ext (by show b.val * 8192 + R.val % 8192 = R.val; omega)
  have e9 : ∀ j : Fin 8192, val_main_v9 (F := Ideal) q k (ix5 b g h ⟨R.val % 8192, by omega⟩ j)
      = ((scores q k R b g h j.val * (1 / 8) : ℝ) : EReal) := by
    intro j
    rw [score_real q k hq hk]
    unfold scores
    rw [dif_pos j.isLt]
    simp only [hR]
  have eb : (⟨R.val / 8192, by omega⟩ : Fin 2) = b := Fin.ext hb
  have eg : (⟨C.val / 256, by omega⟩ : Fin 2) = g := Fin.ext hg
  have eh : (⟨C.val / 64 % 4, by omega⟩ : Fin 4) = h := Fin.ext hh
  rw [out_apply, Finset.sum_range]
  refine Finset.sum_congr rfl fun j _ => ?_
  rw [eb, eg, eh, share_apply, hM, e9, hX, Finset.sum_range, zero_add]
  refine congrArg₂ (fun x y : EReal => x * y) ?_ (congrArg₂ Ideal.div rfl (Finset.sum_congr rfl fun x _ => by rw [e9]))
  have e1 : (⟨b.val * 8192 + j.val, by omega⟩ : Fin 16384) = ⟨R.val / 8192 * 8192 + j.val, by omega⟩ :=
    Fin.ext (by show _ * 8192 + _ = _ * 8192 + _; rw [hb])
  have e2 : (⟨g.val * 64 + C.val % 64, by omega⟩ : Fin 128) = ⟨C.val / 256 * 64 + C.val % 64, by omega⟩ :=
    Fin.ext (by show _ * 64 + _ = _ * 64 + _; rw [hg])
  rw [e1, e2]

end Cert.Flash
-- ==== Proof.Array.lean ====
module

public import proofs.«01_k».proof.Proof.Host
public import proofs.«01_k».proof.Proof.Algebra

/-!
The array the kernel leaves: every block is the reference's result there, and the blocks cover the array.
-/

@[expose] public section

set_option maxRecDepth 16384

noncomputable section

namespace Cert.KernelIdeal.Flash

open Cert.KernelIdeal Cert.KernelIdeal.Gen
open Idealize.ShloMosaic Idealize.ShloMosaic.TcCoe Idealize.SL Idealize.SL.Sem

variable (m : (ℓ : Loc nD τ sig) → Buf (Elt Ideal) ℓ)

/-- The grid point's batch, group and query block. -/
abbrev tb (t : Fin cfg0.N) : ℕ := t.val / 8
abbrev tg (t : Fin cfg0.N) : ℕ := t.val / 4 % 2
abbrev tq (t : Fin cfg0.N) : ℕ := t.val / 8 * 4 + t.val % 4

theorem ix_0 : ∀ t : Fin cfg0.N, win0_0.index t = ![tq t, tg t] :=
  (by decide +kernel : ∀ t : Fin grid0.N, win0_0.index t = ![t.val / 8 * 4 + t.val % 4, t.val / 4 % 2])
theorem ix_1 : ∀ t : Fin cfg0.N, win0_1.index t = ![tb t, tg t] :=
  (by decide +kernel : ∀ t : Fin grid0.N, win0_1.index t = ![t.val / 8, t.val / 4 % 2])
theorem ix_2 : ∀ t : Fin cfg0.N, win0_2.index t = ![tb t, tg t] :=
  (by decide +kernel : ∀ t : Fin grid0.N, win0_2.index t = ![t.val / 8, t.val / 4 % 2])
theorem ix_3 : ∀ t : Fin cfg0.N, win0_3.index t = ![tb t, tg t] :=
  (by decide +kernel : ∀ t : Fin grid0.N, win0_3.index t = ![t.val / 8, t.val / 4 % 2])
theorem ix_4 : ∀ t : Fin cfg0.N, win0_4.index t = ![tq t, tg t] :=
  (by decide +kernel : ∀ t : Fin grid0.N, win0_4.index t = ![t.val / 8 * 4 + t.val % 4, t.val / 4 % 2])

theorem pt_lt (t : Fin cfg0.N) : t.val < 16 ∧ tb t = t.val / 8 ∧ tg t = t.val / 4 % 2 ∧ tq t = t.val / 8 * 4 + t.val % 4 :=
  ⟨t.isLt, rfl, rfl, rfl⟩

/-- The array's row and column of a block's row and column. -/
abbrev qr (t : Fin cfg0.N) (r : Fin 2048) : Fin 16384 := ⟨tq t * 2048 + r.val, by have := pt_lt t; omega⟩
abbrev qc (t : Fin cfg0.N) (cc : Fin 256) : Fin 512 := ⟨tg t * 256 + cc.val, by have := pt_lt t; omega⟩
abbrev kr (t : Fin cfg0.N) (j : Fin 8192) : Fin 16384 := ⟨tb t * 8192 + j.val, by have := pt_lt t; omega⟩
abbrev kc (t : Fin cfg0.N) (l : Fin 128) : Fin 256 := ⟨tg t * 128 + l.val, by have := pt_lt t; omega⟩

theorem blk_0 (c : Dev nD) (t : Fin cfg0.N) (r : Fin 2048) (cc : Fin 256) :
    (iblk m c 0 t : S2048x256.Idx → EReal) (ix2 r cc) = qArg m c (ix2 (qr t r) (qc t cc)) := by
  blk_simp [iblk, ix_0]
  rw [V_main_arg0]
  exact congrArg (qArg m c) (by blk_ext [ix_0])

theorem blk_1 (c : Dev nD) (t : Fin cfg0.N) (j : Fin 8192) (l : Fin 128) :
    (iblk m c 1 t : S8192x128.Idx → EReal) (ix2 j l) = kArg m c (ix2 (kr t j) (src (kc t l))) := by
  rw [← V_keys]
  blk_simp [iblk, ix_1]
  exact congrArg (V m c main_v4) (by blk_ext [ix_1])

theorem blk_2 (c : Dev nD) (t : Fin cfg0.N) (j : Fin 8192) (l : Fin 128) :
    (iblk m c 2 t : S8192x128.Idx → EReal) (ix2 j l) = if (kc t l).val % 128 < 64 then vArg m c (ix2 (kr t j) (src (kc t l))) else 1 := by
  rw [← V_left]
  blk_simp [iblk, ix_2]
  exact congrArg (V m c main_v6) (by blk_ext [ix_2])

theorem blk_3 (c : Dev nD) (t : Fin cfg0.N) (j : Fin 8192) (l : Fin 128) :
    (iblk m c 3 t : S8192x128.Idx → EReal) (ix2 j l) = if (kc t l).val % 128 < 64 then 1 else vArg m c (ix2 (kr t j) (src (kc t l))) := by
  rw [← V_right]
  blk_simp [iblk, ix_3]
  exact congrArg (V m c main_v8) (by blk_ext [ix_3])

/-- The reference's result at the launched arrays. -/
abbrev want (c : Dev nD) : S16384x512.Idx → EReal :=
  Cert.ReferenceIdeal.Read.val_main_v24 (F := Ideal) (qArg m c) (kArg m c) (vArg m c)

/-- What a grid point writes, at a row and a column of its block. -/
theorem block (c : Dev nD) (hq : ∀ i, ∃ r : ℝ, qArg m c i = (r : EReal)) (hk : ∀ i, ∃ r : ℝ, kArg m c i = (r : EReal))
    (t : Fin cfg0.N) (r : Fin 2048) (cc : Fin 256) :
    (outsAt0 m c t : S2048x256.Idx → EReal) (ix2 r cc) = want m c (ix2 (qr t r) (qc t cc)) := by
  have ht := pt_lt t
  let b : Fin 2 := ⟨tb t, by omega⟩
  let g : Fin 2 := ⟨tg t, by omega⟩
  let S : Fin 4 → Fin 2048 → ℕ → ℝ := fun h r j => Cert.Flash.scores (qArg m c) (kArg m c) (qr t r) b g h j * (8⁻¹ * (Real.log 2)⁻¹)
  have hS : ∀ (h : Fin 4) (r : Fin 2048) (j : Fin 8192),
      ∑ d : Fin 128, half (h.val % 2 == 1) ((if h.val < 2 then lft (iblk m c 0 t) else rgt (iblk m c 0 t)) (ix2 r d)) d
        * (iblk m c 1 t : S8192x128.Idx → EReal) (ix2 j d) = (S h r j.val : EReal) := by
    intro h r j
    have hh := h.isLt
    rw [Cert.Flash.half_sum (h.val % 2 == 1) _ (fun d => (iblk m c 1 t : S8192x128.Idx → EReal) (ix2 j d))
      (fun d => (qArg m c (ix2 (qr t r) ⟨g.val * 256 + h.val * 64 + d.val, by omega⟩)).toReal)
      (fun d => (kArg m c (ix2 (kr t j) ⟨g.val * 64 + d.val, by omega⟩)).toReal)]
    · show _ = ((Cert.Flash.scores (qArg m c) (kArg m c) (qr t r) b g h j.val * (8⁻¹ * (Real.log 2)⁻¹) : ℝ) : EReal)
      unfold Cert.Flash.scores
      rw [dif_pos j.isLt]
      rfl
    · intro d
      rw [← Cert.Flash.real_eq (hq _)]
      have hd := d.isLt
      by_cases h2 : h.val < 2
      · rw [if_pos h2, lft_apply, blk_0]
        congr 2
        apply Fin.ext
        show tg t * 256 + ((h.val % 2 == 1).toNat * 64 + d.val) = tg t * 256 + h.val * 64 + d.val
        rcases (show h.val = 0 ∨ h.val = 1 by omega) with e | e <;> simp [e] <;> omega
      · rw [if_neg h2, rgt_apply, blk_0]
        congr 2
        apply Fin.ext
        show tg t * 256 + (128 + ((h.val % 2 == 1).toNat * 64 + d.val)) = tg t * 256 + h.val * 64 + d.val
        rcases (show h.val = 2 ∨ h.val = 3 by omega) with e | e <;> simp [e] <;> omega
    · intro d
      have hd := d.isLt
      rw [← Cert.Flash.real_eq (hk _)]
      show (iblk m c 1 t : S8192x128.Idx → EReal) (ix2 j _) = _
      rw [blk_1]
      congr 2
      apply Fin.ext
      show (tg t * 128 + ((h.val % 2 == 1).toNat * 64 + d.val)) / 128 * 64 + (tg t * 128 + ((h.val % 2 == 1).toNat * 64 + d.val)) % 64
        = tg t * 64 + d.val
      rcases (show h.val % 2 = 0 ∨ h.val % 2 = 1 by omega) with e | e <;> simp [e] <;> omega
  obtain ⟨μ, hμ⟩ := out_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) scM0_2 (Memref.isWhole_whole _)
    (iblk m c 0 t) (iblk m c 1 t) (iblk m c 2 t) (iblk m c 3 t) S hS
    (fun l j hl => by
      have := l.isLt
      rw [blk_2, if_neg (by show ¬ (tg t * 128 + l.val) % 128 < 64; omega)])
    (fun l j hl => by
      have := l.isLt
      rw [blk_3, if_pos (by show (tg t * 128 + l.val) % 128 < 64; omega)])
    r cc
  have hcc := cc.isLt
  have hr := r.isLt
  refine Eq.trans hμ ?_
  refine Cert.Flash.quotient (qArg m c) (kArg m c) (vArg m c) hq hk (qr t r) (qc t cc) b g (hd cc)
    (by show (tq t * 2048 + r.val) / 8192 = tb t; omega) (by show (tg t * 256 + cc.val) / 256 = tg t; omega)
    (by show (tg t * 256 + cc.val) / 64 % 4 = cc.val / 64; omega) _ (fun j => rfl) _ (fun j => ?_) μ
  rw [← col_apply]
  have hj := j.isLt
  by_cases hp : (hd cc).val % 2 = 1
  · have h1 : cc.val / 64 % 2 = 1 := hp
    rw [if_pos (by simpa using hp), blk_3, if_neg (by show ¬ (tg t * 128 + cc.val % 128) % 128 < 64; omega)]
    exact congrArg (fun x : Fin 128 => vArg m c (ix2 (kr t j) x)) (Fin.ext (by
      show (tg t * 128 + cc.val % 128) / 128 * 64 + (tg t * 128 + cc.val % 128) % 64 = tg t * 64 + (tg t * 256 + cc.val) % 64
      omega))
  · have h1 : ¬ cc.val / 64 % 2 = 1 := hp
    rw [if_neg (by simpa using hp), blk_2, if_pos (by show (tg t * 128 + cc.val % 128) % 128 < 64; omega)]
    exact congrArg (fun x : Fin 128 => vArg m c (ix2 (kr t j) x)) (Fin.ext (by
      show (tg t * 128 + cc.val % 128) / 128 * 64 + (tg t * 128 + cc.val % 128) % 64 = tg t * 64 + (tg t * 256 + cc.val) % 64
      omega))

/-- The whole array. -/
theorem array (c : Dev nD) (hq : ∀ i, ∃ r : ℝ, qArg m c i = (r : EReal)) (hk : ∀ i, ∃ r : ℝ, kArg m c i = (r : EReal)) :
    (dats m 0 c).arrAt 4 cfg0.N = want m c := by
  refine (dats m 0 c).arrAt_eq_of_covers 4 _ (by decide +kernel) fun t hf y => ?_
  blk_simp
  rw [after0_4]
  have ey : (y : S2048x256.Idx) = ix2 (y 0) (y 1) := by
    funext a
    match a with
    | ⟨0, _⟩ => rfl
    | ⟨1, _⟩ => rfl
  refine (congrArg (outsAt0 m c t : S2048x256.Idx → EReal) ey).trans ((block m c hq hk t (y 0) (y 1)).trans ?_)
  exact congrArg (want m c) (by blk_ext [ix_4])

end Cert.KernelIdeal.Flash
-- ==== Proof.Pre.lean ====
module

public import proofs.«01_k».proof.Defs
public import proofs.«01_k».proof.Proof.Gen.Pre_finite_qk
public import Idealize.ShloMosaic.Lib.ReduceAll
public import Idealize.ShloMosaic.Lib.Affine
public import Idealize.ShloMosaic.PureOps.Ideal.Laws

/-!
The precondition read element by element: every query and every key is a real number.
-/

@[expose] public section

noncomputable section

namespace Cert.Pre_finite_qk.Real

open Cert.Pre_finite_qk Cert.Pre_finite_qk.Gen Idealize.ShloMosaic

theorem ofBits_inf : Ideal.ofBits .f32 0x7F800000#32 = ⊤ := by
  simp [Ideal.ofBits, Ideal.ieee]

/-- A number whose absolute value is below infinity is real. -/
theorem real_of_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

instance : Subsingleton S_.Idx := ⟨fun a b => funext fun i => i.elim0⟩

theorem real (q : S16384x512.Idx → EReal) (k v : S16384x128.Idx → EReal)
    (h : fn (F := Ideal) q k v = (fun _ => 1#1)) :
    (∀ i, ∃ r : ℝ, q i = (r : EReal)) ∧ (∀ i, ∃ r : ℝ, k i = (r : EReal)) := by
  have h0 := congrFun h (fun a => a.elim0)
  obtain ⟨hq, hk⟩ := IntOp.andi_eq_one.mp h0
  exact ⟨fun i => real_of_lt _ (Host.reduce_andi_all _ _ _ _ _ hq i), fun i => real_of_lt _ (Host.reduce_andi_all _ _ _ _ _ hk i)⟩

end Cert.Pre_finite_qk.Real
-- ==== Proof.Step.lean ====
module

public import proofs.«01_k».proof.Proof.Gen.MlpOutIdeal.Value
public import Idealize.ShloMosaic.Lib.Pipeline.ValueKit.Tiles
public import Idealize.ShloMosaic.Lib.Pipeline.ValueKit.Acc
public import Idealize.ShloMosaic.Lib.Pointwise

/-!
One step of the feed-forward part over a block of 1024 hidden columns: what the two stored halves of the running sum
hold, and the normed row of the last step.
-/

@[expose] public section

set_option maxRecDepth 16384

noncomputable section

namespace Cert.FeedForward

open Idealize.ShloMosaic Cert.MlpOutIdeal Cert.MlpOutIdeal.Gen

/-- A hidden unit: the square of the positive part. -/
def act (u : EReal) : EReal := max u 0 * max u 0

theorem zero_bits : Ideal.ofBits .f32 0x00000000#32 = 0 := by
  simp [Ideal.ofBits, Ideal.ieee]

/-- The running sum after one block, at a row and a column. -/
def step (h : S512x2048.Idx → EReal) (wu : S1x2048x1024.Idx → EReal) (wd : S1x1024x2048.Idx → EReal)
    (a : S512x2048.Idx → EReal) (r : Fin 512) (l : Fin 2048) : EReal :=
  a (ix2 r l) + ∑ j : Fin 1024, act (∑ d : Fin 2048, h (ix2 r d) * wu (ix3 0 d j)) * wd (ix3 0 j l)

/-- One row of a sum, divided by the root of its mean square and scaled. -/
def normed (a : Fin 2048 → EReal) (g : EReal) (l : Fin 2048) : EReal :=
  a l * Ideal.rsqrt (Ideal.div (∑ k : Fin 2048, a k * a k) (Ideal.ofBits .f32 0x45000000#32) + Ideal.ofBits .f32 0x358637BD#32) * g

/-- One stored half, at a row and a column. -/
theorem half_apply (h : Vec Ideal S256x2048 .bf16) (wu : Vec Ideal S1x2048x1024 .bf16) (a : Vec Ideal S256x2048 .f32)
    (wd : Vec Ideal S1x1024x2048 .bf16) (r : Fin 256) (l : Fin 2048) :
    (k0_pay4 h wu a wd : FVec Ideal S256x2048 .f32) (ix2 r l)
      = a (ix2 r l) + ∑ j : Fin 1024, act (∑ d : Fin 2048, h (ix2 r d) * wu (ix3 0 d j)) * wd (ix3 0 j l) := by
  unfold act
  rw [← zero_bits]
  pointwise [k0_pay4]

/-- The normed rows, at a row and a column. -/
theorem normed_apply (a : Vec Ideal S512x2048 .f32) (g : Vec Ideal S1x2048 .f32) (r : Fin 512) (l : Fin 2048) :
    (k0_pay2 a g : FVec Ideal S512x2048 .f32) (ix2 r l) = normed (fun k => a (ix2 r k)) (g (ix2 0 l)) l := by
  unfold normed
  pointwise [k0_pay2]

/-- The rectangles of the upper and of the lower half of the rows. -/
abbrev lo : Rect S512x2048 := Rect.unit (s := S512x2048) ![0, 0] S256x2048.size inb_S512x2048_S256x2048_0_0
abbrev hi : Rect S512x2048 := Rect.unit (s := S512x2048) ![256, 0] S256x2048.size inb_S512x2048_S256x2048_256_0

theorem idx_eq {n k : ℕ} (y : (⟨2, ![n, k]⟩ : Shape).Idx) : y = ix2 (y 0) (y 1) := by
  funext a
  match a with
  | ⟨0, _⟩ => rfl
  | ⟨1, _⟩ => rfl

theorem ld_lo {e : EltTy} (x : Vec Ideal S512x2048 e) (r : Fin 256) (l : Fin 2048) :
    View.ld x lo (ix2 r l) = x (ix2 ⟨r.val, by omega⟩ l) :=
  View.ld_unit_apply_of _ _ _ _ _ _ (by intro a; fin_cases a <;> simp [ix2])
theorem ld_hi {e : EltTy} (x : Vec Ideal S512x2048 e) (r : Fin 256) (l : Fin 2048) :
    View.ld x hi (ix2 r l) = x (ix2 ⟨256 + r.val, by omega⟩ l) :=
  View.ld_unit_apply_of _ _ _ _ _ _ (by intro a; fin_cases a <;> simp [ix2])

theorem lo_emb (r : Fin 256) (l : Fin 2048) : lo.emb (ix2 r l) = (ix2 (⟨r.val, by omega⟩ : Fin 512) l : S512x2048.Idx) := by
  funext a
  fin_cases a <;> exact Fin.ext (by rw [Rect.emb_apply]; simp [ix2])
theorem hi_emb (r : Fin 256) (l : Fin 2048) : hi.emb (ix2 r l) = (ix2 (⟨256 + r.val, by omega⟩ : Fin 512) l : S512x2048.Idx) := by
  funext a
  fin_cases a <;> exact Fin.ext (by rw [Rect.emb_apply]; simp [ix2])

/-- A row of the upper half is not in the lower one, and the other way round. -/
theorem lo_not_hi (r : Fin 256) (l : Fin 2048) : lo.emb (ix2 r l) ∉ hi.set := by
  rw [lo_emb, Rect.mem_set_unit]
  intro h
  have := (h 0).1
  simp [ix2] at this
  omega
theorem hi_not_lo (r : Fin 256) (l : Fin 2048) : hi.emb (ix2 r l) ∉ lo.set := by
  rw [hi_emb, Rect.mem_set_unit]
  intro h
  have := (h 0).2
  simp [ix2] at this

/-- Two stored halves over anything: the step's sum at every row and column. -/
theorem halves (h : Vec Ideal S512x2048 .bf16) (wu : Vec Ideal S1x2048x1024 .bf16) (wd : Vec Ideal S1x1024x2048 .bf16)
    (A : Vec Ideal S512x2048 .f32) (aL aH : Vec Ideal S256x2048 .f32)
    (hL : ∀ r l, aL (ix2 r l) = A (ix2 ⟨r.val, by omega⟩ l)) (hH : ∀ r l, aH (ix2 r l) = A (ix2 ⟨256 + r.val, by omega⟩ l))
    (L : List (View.Piece (Elt Ideal) S512x2048 .f32)) :
    View.canon ((⟨hi, k0_pay4 (View.ld h hi) wu aH wd⟩ : View.Piece (Elt Ideal) S512x2048 .f32) :: ⟨lo, k0_pay4 (View.ld h lo) wu aL wd⟩ :: L)
      = fun y => step h wu wd A (y 0) (y 1) := by
  funext y
  obtain ⟨r, l, rfl⟩ : ∃ (r : Fin 512) (l : Fin 2048), y = ix2 r l := ⟨y 0, y 1, idx_eq y⟩
  show _ = step h wu wd A r l
  unfold step
  have hr := r.isLt
  by_cases hlt : r.val < 256
  · have e : (ix2 r l : S512x2048.Idx) = lo.emb (ix2 ⟨r.val, hlt⟩ l) := (lo_emb ⟨r.val, hlt⟩ l).symm
    have eh : ∀ d : Fin 2048, View.ld h lo (ix2 ⟨r.val, hlt⟩ d) = h (ix2 r d) := fun d => ld_lo h ⟨r.val, hlt⟩ d
    rw [e, View.canon_cons_of_not_mem (⟨hi, k0_pay4 (View.ld h hi) wu aH wd⟩ : View.Piece (Elt Ideal) S512x2048 .f32) _
      (lo_not_hi ⟨r.val, hlt⟩ l), View.canon_cons_emb, ← e, half_apply, hL]
    simp only [eh]
  · have e : (ix2 r l : S512x2048.Idx) = hi.emb (ix2 ⟨r.val - 256, by omega⟩ l) := by
      rw [hi_emb]
      exact congrArg (fun x : Fin 512 => (ix2 x l : S512x2048.Idx)) (Fin.ext (by show r.val = 256 + (r.val - 256); omega))
    have e' : (⟨256 + (r.val - 256), by omega⟩ : Fin 512) = r := Fin.ext (by show 256 + (r.val - 256) = r.val; omega)
    have eh : ∀ d : Fin 2048, View.ld h hi (ix2 ⟨r.val - 256, by omega⟩ d) = h (ix2 r d) := fun d =>
      (ld_hi h _ d).trans (congrArg (fun x : Fin 512 => h (ix2 x d)) e')
    rw [e, View.canon_cons_emb, ← e, half_apply, hH]
    simp only [eh, e']

/-- The rectangle of all rows. -/
abbrev all : Rect S512x2048 := Rect.unit (s := S512x2048) ![0, 0] S512x2048.size inb_S512x2048_S512x2048_0_0

/-- What the first step stores first is the residual stream as it is. -/
theorem copy_eq (x : Vec Ideal S512x2048 .f32) : (k0_pay3 x : FVec Ideal S512x2048 .f32) = x := by
  funext y
  obtain ⟨r, l, rfl⟩ : ∃ (r : Fin 512) (l : Fin 2048), y = ix2 r l := ⟨y 0, y 1, idx_eq y⟩
  pointwise [k0_pay3]

theorem canon_all (x : Vec Ideal S512x2048 .f32) (L : List (View.Piece (Elt Ideal) S512x2048 .f32)) :
    View.canon ((⟨all, x⟩ : View.Piece (Elt Ideal) S512x2048 .f32) :: L) = x := by
  frame_out

/-- The halves the first step reads back are those of the residual stream. -/
theorem first_lo {sig : RefSig} {κ : Kind} {sp : Space} (v : View sig κ sp S512x2048 .f32) (x : Vec Ideal S512x2048 .f32)
    (r : Fin 256) (l : Fin 2048) :
    v.readCov [(⟨all, k0_pay3 x⟩ : View.Piece (Elt Ideal) S512x2048 .f32)] lo.toLoadRect (ix2 r l) = x (ix2 ⟨r.val, by omega⟩ l) := by
  rw [View.readCov_eq_canon', canon_all, copy_eq]
  exact congrArg x (lo_emb r l)
theorem first_hi {sig : RefSig} {κ : Kind} {sp : Space} (v : View sig κ sp S512x2048 .f32) (x : Vec Ideal S512x2048 .f32)
    (w : Vec Ideal S256x2048 .f32) (r : Fin 256) (l : Fin 2048) :
    v.readCov [(⟨lo, w⟩ : View.Piece (Elt Ideal) S512x2048 .f32), ⟨all, k0_pay3 x⟩] hi.toLoadRect (ix2 r l)
      = x (ix2 ⟨256 + r.val, by omega⟩ l) := by
  rw [View.readCov_eq_canon']
  refine (View.canon_cons_of_not_mem (⟨lo, w⟩ : View.Piece (Elt Ideal) S512x2048 .f32) _ (hi_not_lo r l)).trans ?_
  rw [canon_all, copy_eq]
  exact congrArg x (hi_emb r l)

/-- A load of the whole running sum reads what its writes left. -/
theorem load_all {sig : RefSig} {κ : Kind} {sp : Space} (v : View sig κ sp S512x2048 .f32)
    (L : List (View.Piece (Elt Ideal) S512x2048 .f32)) : v.readCov L all.toLoadRect = View.canon L := by
  rw [View.readCov_eq_canon']
  funext y
  refine congrArg (View.canon L) (?_ : all.emb y = y)
  funext a
  exact Fin.ext (by rw [Rect.emb_apply]; fin_cases a <;> simp)

end Cert.FeedForward
-- ==== Proof.Fold.lean ====
module

public import proofs.«01_k».proof.Proof.Step

/-!
The eight steps of the feed-forward part add up to the sum over all 8192 hidden units. The weights are the arrays of all
four layers, the layer is a number.
-/

@[expose] public section

set_option maxRecDepth 16384

noncomputable section

namespace Cert.FeedForward

open Idealize.ShloMosaic Cert.MlpOutIdeal Cert.MlpOutIdeal.Gen

/-- The weights of all layers. -/
abbrev WUp : Type := (⟨3, ![4, 2048, 8192]⟩ : Shape).Idx → EReal
abbrev WDown : Type := (⟨3, ![4, 8192, 2048]⟩ : Shape).Idx → EReal

/-- What hidden unit `j` adds to column `l`. -/
def unitAt (H : Fin 2048 → EReal) (wu : WUp) (wd : WDown) (L : Fin 4) (l : Fin 2048) (j : Fin 8192) : EReal :=
  act (∑ d : Fin 2048, H d * wu (ix3 L d j)) * wd (ix3 L j l)

/-- The same over the natural numbers. -/
def unitNat (H : Fin 2048 → EReal) (wu : WUp) (wd : WDown) (L : Fin 4) (l : Fin 2048) (j : ℕ) : EReal :=
  if h : j < 8192 then unitAt H wu wd L l ⟨j, h⟩ else 0

/-- The residual stream and the first `n` hidden units. -/
def upTo (x : EReal) (H : Fin 2048 → EReal) (wu : WUp) (wd : WDown) (L : Fin 4) (l : Fin 2048) (n : ℕ) : EReal :=
  x + ∑ j ∈ Finset.range n, unitNat H wu wd L l j

/-- The residual stream and the whole feed-forward part. -/
def total (x : EReal) (H : Fin 2048 → EReal) (wu : WUp) (wd : WDown) (L : Fin 4) (l : Fin 2048) : EReal :=
  x + ∑ j : Fin 8192, unitAt H wu wd L l j

theorem upTo_zero (x : EReal) (H : Fin 2048 → EReal) (wu : WUp) (wd : WDown) (L : Fin 4) (l : Fin 2048) :
    upTo x H wu wd L l (1024 * 0) = x := by
  simp [upTo]

theorem upTo_all (x : EReal) (H : Fin 2048 → EReal) (wu : WUp) (wd : WDown) (L : Fin 4) (l : Fin 2048) :
    upTo x H wu wd L l (1024 * 8) = total x H wu wd L l := by
  unfold upTo total
  rw [show 1024 * 8 = 8192 from rfl, Finset.sum_range]
  exact congrArg (x + ·) (Finset.sum_congr rfl fun j _ => dif_pos j.isLt)

/-- A step over block `k` goes from the first `1024 k` hidden units to the first `1024 (k + 1)`. -/
theorem step_upTo (x : EReal) (H : Fin 2048 → EReal) (wu : WUp) (wd : WDown) (L : Fin 4) (k : ℕ) (hk : k < 8)
    (hb : S512x2048.Idx → EReal) (ub : S1x2048x1024.Idx → EReal) (db : S1x1024x2048.Idx → EReal) (a : S512x2048.Idx → EReal)
    (r : Fin 512) (l : Fin 2048) (eh : ∀ d, hb (ix2 r d) = H d)
    (eu : ∀ (d : Fin 2048) (j : Fin 1024), ub (ix3 0 d j) = wu (ix3 L d (⟨k * 1024 + j.val, by omega⟩ : Fin 8192)))
    (ed : ∀ j : Fin 1024, db (ix3 0 j l) = wd (ix3 L (⟨k * 1024 + j.val, by omega⟩ : Fin 8192) l))
    (ea : a (ix2 r l) = upTo x H wu wd L l (1024 * k)) :
    step hb ub db a r l = upTo x H wu wd L l (1024 * (k + 1)) := by
  unfold step
  rw [ea]
  unfold upTo
  rw [Nat.mul_succ, Finset.sum_range_add, ← add_assoc, Finset.sum_range (n := 1024)]
  refine congrArg₂ (· + ·) rfl (Finset.sum_congr rfl fun j _ => ?_)
  have hj := j.isLt
  have e : (⟨k * 1024 + j.val, by omega⟩ : Fin 8192) = ⟨1024 * k + j.val, by omega⟩ := Fin.ext (by show k * 1024 + j.val = 1024 * k + j.val; omega)
  rw [unitNat, dif_pos (by omega : 1024 * k + j.val < 8192), ed, e]
  unfold unitAt
  simp only [eh, eu, e]

/-- Points in order, eight per row block: the first of a row block starts from the residual stream, every other one from
    what the point before it left. After a point the running sum is the residual stream and the hidden units so far. -/
theorem fold {N : ℕ} (A hb xb : Fin N → S512x2048.Idx → EReal) (ub : Fin N → S1x2048x1024.Idx → EReal)
    (db : Fin N → S1x1024x2048.Idx → EReal) (wu : WUp) (wd : WDown) (L : Fin 4) (H X : Fin N → Fin 512 → Fin 2048 → EReal)
    (first : ∀ t : Fin N, t.val % 8 = 0 → A t = fun y => step (hb t) (ub t) (db t) (xb t) (y 0) (y 1))
    (next : ∀ t : Fin N, ¬ t.val % 8 = 0 → A t = fun y => step (hb t) (ub t) (db t) (A ⟨t.val - 1, by omega⟩) (y 0) (y 1))
    (eh : ∀ t r d, hb t (ix2 r d) = H t r d) (ex : ∀ t r l, xb t (ix2 r l) = X t r l)
    (eu : ∀ (t : Fin N) (d : Fin 2048) (j : Fin 1024), ub t (ix3 0 d j) = wu (ix3 L d (⟨t.val % 8 * 1024 + j.val, by omega⟩ : Fin 8192)))
    (ed : ∀ (t : Fin N) (j : Fin 1024) (l : Fin 2048), db t (ix3 0 j l) = wd (ix3 L (⟨t.val % 8 * 1024 + j.val, by omega⟩ : Fin 8192) l))
    (sh : ∀ t : Fin N, ¬ t.val % 8 = 0 → H ⟨t.val - 1, by omega⟩ = H t)
    (sx : ∀ t : Fin N, ¬ t.val % 8 = 0 → X ⟨t.val - 1, by omega⟩ = X t) :
    ∀ (n : ℕ) (hn : n < N) (r : Fin 512) (l : Fin 2048),
      A ⟨n, hn⟩ (ix2 r l) = upTo (X ⟨n, hn⟩ r l) (H ⟨n, hn⟩ r) wu wd L l (1024 * (n % 8 + 1)) := by
  have start : ∀ (t : Fin N) (h0 : t.val % 8 = 0) (r : Fin 512) (l : Fin 2048),
      A t (ix2 r l) = upTo (X t r l) (H t r) wu wd L l (1024 * (t.val % 8 + 1)) := by
    intro t h0 r l
    refine (congrFun (first t h0) (ix2 r l)).trans ?_
    refine step_upTo _ _ _ _ L (t.val % 8) (by omega) _ _ _ _ r l (eh t r) (eu t) (fun j => ed t j l) ((ex t r l).trans ?_)
    rw [h0]
    exact (upTo_zero _ _ _ _ _ _).symm
  intro n
  induction n with
  | zero => exact fun hn r l => start ⟨0, hn⟩ rfl r l
  | succ n ih =>
    intro hn r l
    by_cases h0 : (n + 1) % 8 = 0
    · exact start ⟨n + 1, hn⟩ h0 r l
    · refine (congrFun (next ⟨n + 1, hn⟩ h0) (ix2 r l)).trans ?_
      refine step_upTo _ _ _ _ L ((n + 1) % 8) (by omega) _ _ _ _ r l (eh ⟨n + 1, hn⟩ r) (eu ⟨n + 1, hn⟩)
        (fun j => ed ⟨n + 1, hn⟩ j l) ((ih (Nat.lt_of_succ_lt hn) r l).trans ?_)
      have e1 : H ⟨n, Nat.lt_of_succ_lt hn⟩ = H ⟨n + 1, hn⟩ := sh ⟨n + 1, hn⟩ h0
      have e2 : X ⟨n, Nat.lt_of_succ_lt hn⟩ = X ⟨n + 1, hn⟩ := sx ⟨n + 1, hn⟩ h0
      rw [e1, e2, (by omega : n % 8 + 1 = (n + 1) % 8)]

end Cert.FeedForward
-- ==== Proof.MlpOutValue.lean ====
module

public import proofs.«01_k».proof.Proof.Fold
public import proofs.«01_k».proof.Proof.Gen.MlpOutPlainIdeal.Read
public import Idealize.ShloMosaic.Lib.Pipeline.ValueKit.Geometry
public import Idealize.ShloMosaic.Lib.Pipeline.Value

/-!
The last layer's feed-forward part and the final norm: a grid point adds one block of 1024 hidden units to the running
sum of 512 rows, the last point of a row block norms the rows.
-/

@[expose] public section

set_option maxRecDepth 16384

noncomputable section

namespace Cert.MlpOutIdeal.Sum

open Cert.MlpOutIdeal Cert.MlpOutIdeal.Gen Cert.FeedForward
open Idealize.ShloMosaic Idealize.ShloMosaic.TcCoe Idealize.SL Idealize.SL.Sem

variable (m : (ℓ : Loc nD τ sig) → Buf (Elt Ideal) ℓ)

theorem acc_first (c : Dev nD) (t : Fin cfg0.N) (h0 : t.val % 8 = 0) :
    (outsAt0 m c t.val t.isLt).2 = fun y => step (iblk m c 0 t) (iblk m c 2 t) (iblk m c 3 t) (iblk m c 1 t) (y 0) (y 1) := by
  have h1 : ¬ t.val % 8 = 7 := by omega
  rw [outsAt0_A m c t h0 h1]
  dsimp only
  frame_out
  exact halves _ _ _ _ _ _ (fun r l => first_lo _ _ r l) (fun r l => first_hi _ _ _ r l) _

theorem acc_next (c : Dev nD) (t : Fin cfg0.N) (h0 : ¬ t.val % 8 = 0) :
    (outsAt0 m c t.val t.isLt).2 = fun y => step (iblk m c 0 t) (iblk m c 2 t) (iblk m c 3 t)
      (outsAt0 m c (t.val - 1) (Nat.lt_of_le_of_lt (Nat.sub_le _ _) t.isLt)).2 (y 0) (y 1) := by
  by_cases h1 : t.val % 8 = 7
  · rw [outsAt0_C m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _
  · rw [outsAt0_B m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _

theorem out_last (c : Dev nD) (t : Fin cfg0.N) (h1 : t.val % 8 = 7) (r : Fin 512) (l : Fin 2048) :
    (outsAt0 m c t.val t.isLt).1 (ix2 r l)
      = normed (fun k => (outsAt0 m c t.val t.isLt).2 (ix2 r k)) (iblk m c 4 t (ix2 0 l)) l := by
  have h0 : ¬ t.val % 8 = 0 := by omega
  rw [outsAt0_C m c t h0 h1]
  dsimp only
  frame_out
  refine (normed_apply _ _ r l).trans ?_
  exact congrArg (fun a : FVec Ideal S512x2048 .f32 => normed (fun k => a (ix2 r k)) (iblk m c 4 t (ix2 0 l)) l) (load_all _ _)

/-- The arrays as launched: the normed input, the residual stream, the weights, the norm's gain. -/
abbrev hArg (c : Dev nD) : S16384x2048.Idx → EReal := m ((c : Thread nD τ).loc main_arg0)
abbrev xArg (c : Dev nD) : S16384x2048.Idx → EReal := m ((c : Thread nD τ).loc main_arg1)
abbrev uArg (c : Dev nD) : S4x2048x8192.Idx → EReal := m ((c : Thread nD τ).loc main_arg2)
abbrev dArg (c : Dev nD) : S4x8192x2048.Idx → EReal := m ((c : Thread nD τ).loc main_arg3)
abbrev gArg (c : Dev nD) : S2048.Idx → EReal := m ((c : Thread nD τ).loc main_arg4)

/-- What the host prepares: the same weights, the gain as one row. -/
theorem V_up (c : Dev nD) (a : Fin 4) (d : Fin 2048) (j : Fin 8192) :
    (V m c main_v0 : S4x2048x8192.Idx → EReal) (ix3 a d j) = uArg m c (ix3 a d j) := by
  unfold V
  after_results
  pointwise
theorem V_down (c : Dev nD) (a : Fin 4) (j : Fin 8192) (l : Fin 2048) :
    (V m c main_v1 : S4x8192x2048.Idx → EReal) (ix3 a j l) = dArg m c (ix3 a j l) := by
  unfold V
  after_results
  pointwise
theorem V_gain (c : Dev nD) (l : Fin 2048) :
    (V m c main_v2 : S1x2048.Idx → EReal) (ix2 0 l) = gArg m c (ix1 l) := by
  unfold V
  after_results
  pointwise

/-- The grid point's row block and block of hidden units. -/
abbrev ti (t : Fin cfg0.N) : ℕ := t.val / 8
abbrev tk (t : Fin cfg0.N) : ℕ := t.val % 8

theorem ix_0 : ∀ t : Fin cfg0.N, win0_0.index t = ![ti t, 0] :=
  (by decide +kernel : ∀ t : Fin grid0.N, win0_0.index t = ![t.val / 8, 0])
theorem ix_1 : ∀ t : Fin cfg0.N, win0_1.index t = ![ti t, 0] :=
  (by decide +kernel : ∀ t : Fin grid0.N, win0_1.index t = ![t.val / 8, 0])
theorem ix_2 : ∀ t : Fin cfg0.N, win0_2.index t = ![3, 0, tk t] :=
  (by decide +kernel : ∀ t : Fin grid0.N, win0_2.index t = ![3, 0, t.val % 8])
theorem ix_3 : ∀ t : Fin cfg0.N, win0_3.index t = ![3, tk t, 0] :=
  (by decide +kernel : ∀ t : Fin grid0.N, win0_3.index t = ![3, t.val % 8, 0])
theorem ix_4 : ∀ t : Fin cfg0.N, win0_4.index t = ![0, 0] :=
  (by decide +kernel : ∀ t : Fin grid0.N, win0_4.index t = ![0, 0])
theorem ix_5 : ∀ t : Fin cfg0.N, win0_5.index t = ![ti t, 0] :=
  (by decide +kernel : ∀ t : Fin grid0.N, win0_5.index t = ![t.val / 8, 0])

theorem pt_lt (t : Fin cfg0.N) : t.val < 256 ∧ ti t = t.val / 8 ∧ tk t = t.val % 8 := ⟨t.isLt, rfl, rfl⟩

/-- The array's row of a block's row, the hidden unit of a block's unit. -/
abbrev row (t : Fin cfg0.N) (r : Fin 512) : Fin 16384 := ⟨ti t * 512 + r.val, by have := pt_lt t; omega⟩
abbrev unit (t : Fin cfg0.N) (j : Fin 1024) : Fin 8192 := ⟨tk t * 1024 + j.val, by have := pt_lt t; omega⟩

theorem blk_0 (c : Dev nD) (t : Fin cfg0.N) (r : Fin 512) (d : Fin 2048) :
    (iblk m c 0 t : S512x2048.Idx → EReal) (ix2 r d) = hArg m c (ix2 (row t r) d) := by
  blk_simp [iblk, ix_0]
  exact congrArg (hArg m c) (by blk_ext [ix_0])
theorem blk_1 (c : Dev nD) (t : Fin cfg0.N) (r : Fin 512) (l : Fin 2048) :
    (iblk m c 1 t : S512x2048.Idx → EReal) (ix2 r l) = xArg m c (ix2 (row t r) l) := by
  blk_simp [iblk, ix_1]
  exact congrArg (xArg m c) (by blk_ext [ix_1])
theorem blk_2 (c : Dev nD) (t : Fin cfg0.N) (d : Fin 2048) (j : Fin 1024) :
    (iblk m c 2 t : S1x2048x1024.Idx → EReal) (ix3 0 d j) = uArg m c (ix3 3 d (unit t j)) := by
  refine Eq.trans ?_ (V_up m c 3 d (unit t j))
  blk_simp [iblk, ix_2]
  exact congrArg (V m c main_v0 : S4x2048x8192.Idx → EReal) (by blk_ext [ix_2])
theorem blk_3 (c : Dev nD) (t : Fin cfg0.N) (j : Fin 1024) (l : Fin 2048) :
    (iblk m c 3 t : S1x1024x2048.Idx → EReal) (ix3 0 j l) = dArg m c (ix3 3 (unit t j) l) := by
  refine Eq.trans ?_ (V_down m c 3 (unit t j) l)
  blk_simp [iblk, ix_3]
  exact congrArg (V m c main_v1 : S4x8192x2048.Idx → EReal) (by blk_ext [ix_3])
theorem blk_4 (c : Dev nD) (t : Fin cfg0.N) (l : Fin 2048) :
    (iblk m c 4 t : S1x2048.Idx → EReal) (ix2 0 l) = gArg m c (ix1 l) := by
  refine Eq.trans ?_ (V_gain m c l)
  blk_simp [iblk, ix_4]
  exact congrArg (V m c main_v2 : S1x2048.Idx → EReal) (by blk_ext [ix_4])

/-- Two points of one row block have the same rows. -/
theorem same_row (t : Fin cfg0.N) (h0 : ¬ t.val % 8 = 0) (r : Fin 512) : row ⟨t.val - 1, by omega⟩ r = row t r :=
  Fin.ext (by show (t.val - 1) / 8 * 512 + r.val = t.val / 8 * 512 + r.val; omega)

/-- The running sum after a point: the residual stream and the hidden units so far. -/
theorem acc (c : Dev nD) (t : Fin cfg0.N) (r : Fin 512) (l : Fin 2048) :
    ((outsAt0 m c t.val t.isLt).2 : S512x2048.Idx → EReal) (ix2 r l)
      = upTo (xArg m c (ix2 (row t r) l)) (fun d => hArg m c (ix2 (row t r) d)) (uArg m c) (dArg m c) 3 l (1024 * (t.val % 8 + 1)) :=
  fold (N := cfg0.N) (fun t => (outsAt0 m c t.val t.isLt).2) (fun t => iblk m c 0 t) (fun t => iblk m c 1 t) (fun t => iblk m c 2 t)
    (fun t => iblk m c 3 t) (uArg m c) (dArg m c) 3 (fun t r d => hArg m c (ix2 (row t r) d)) (fun t r l => xArg m c (ix2 (row t r) l))
    (acc_first m c) (acc_next m c) (blk_0 m c) (blk_1 m c) (blk_2 m c) (blk_3 m c)
    (fun t h0 => funext fun r => by simp only [same_row t h0 r]) (fun t h0 => funext fun r => by simp only [same_row t h0 r])
    t.val t.isLt r l

/-- The plain result at the launched arrays. -/
abbrev want (c : Dev nD) : S16384x2048.Idx → EReal :=
  Cert.MlpOutPlainIdeal.Read.val_main_v22 (F := Ideal) (hArg m c) (xArg m c) (uArg m c) (dArg m c) (gArg m c)

open Cert.MlpOutPlainIdeal.Read in
/-- The plain sum at a row and a column. -/
theorem plain_sum (h x : S16384x2048.Idx → EReal) (u : S4x2048x8192.Idx → EReal) (d : S4x8192x2048.Idx → EReal)
    (R : Fin 16384) (l : Fin 2048) :
    val_main_v9 (F := Ideal) h x u d (ix2 R l) = total (x (ix2 R l)) (fun k => h (ix2 R k)) u d 3 l := by
  unfold total unitAt act
  rw [← zero_bits]
  pointwise [val_main_v9, val_main_v8, val_main_v7, val_main_v6, val_main_v5, val_main_v4, val_main_call0_v0, val_main_call0_cst,
    val_main_v3, val_main_v2, val_main_v1, val_main_v0]

open Cert.MlpOutPlainIdeal.Read in
/-- The plain result at a row and a column. -/
theorem plain_apply (h x : S16384x2048.Idx → EReal) (u : S4x2048x8192.Idx → EReal) (d : S4x8192x2048.Idx → EReal)
    (g : S2048.Idx → EReal) (R : Fin 16384) (l : Fin 2048) :
    val_main_v22 (F := Ideal) h x u d g (ix2 R l)
      = normed (fun k => val_main_v9 (F := Ideal) h x u d (ix2 R k)) (g (ix1 l)) l := by
  unfold normed
  pointwise [val_main_v22, val_main_v21, val_main_v20, val_main_v19, val_main_v18, val_main_v17, val_main_v16, val_main_v15,
    val_main_cst_1, val_main_v14, val_main_v13, val_main_cst_0, val_main_v12, val_main_v11, val_main_cst, val_main_v10]

/-- What the last point of a row block leaves is the plain result. -/
theorem last_want (c : Dev nD) (t : Fin cfg0.N) (h7 : t.val % 8 = 7) (r : Fin 512) (l : Fin 2048) :
    ((outsAt0 m c t.val t.isLt).1 : S512x2048.Idx → EReal) (ix2 r l) = want m c (ix2 (row t r) l) := by
  refine (out_last m c t h7 r l).trans ?_
  refine Eq.trans ?_ (plain_apply (hArg m c) (xArg m c) (uArg m c) (dArg m c) (gArg m c) (row t r) l).symm
  refine (congrArg (fun g => normed _ g l) (blk_4 m c t l)).trans (congrArg (fun a => normed a (gArg m c (ix1 l)) l) (funext fun k => ?_))
  refine (acc m c t r k).trans ?_
  rw [h7, plain_sum]
  exact upTo_all _ _ _ _ _ _

/-- The whole array. -/
theorem array (c : Dev nD) : (dats m 0 c).arrAt 5 cfg0.N = want m c := by
  refine (dats m 0 c).arrAt_eq_of_covers 5 _ (by decide +kernel) fun t hf y => ?_
  have h7 : t.val % 8 = 7 := (flush0_5 t).mp hf
  blk_simp
  rw [after0_5]
  refine (congrArg ((outsAt0 m c t.val t.isLt).1 : S512x2048.Idx → EReal) (idx_eq y)).trans ?_
  refine (last_want m c t h7 (y 0) (y 1)).trans ?_
  exact congrArg (want m c) (by blk_ext [ix_5])

end Cert.MlpOutIdeal.Sum
-- ==== Proof.MlpValue.lean ====
module

public import proofs.«01_k».proof.Proof.Fold
public import proofs.«01_k».proof.Proof.Gen.MlpIdeal.Value
public import proofs.«01_k».proof.Proof.Gen.MlpPlainIdeal.Read
public import Idealize.ShloMosaic.Lib.Pipeline.ValueKit.Geometry
public import Idealize.ShloMosaic.Lib.Pipeline.Value

/-!
The first layer's feed-forward part and the next layer's norm: a grid point adds one block of 1024 hidden units to the
running sum of 512 rows, the last point of a row block stores the rows and the normed rows.
-/

@[expose] public section

set_option maxRecDepth 16384

noncomputable section

namespace Cert.MlpIdeal.Sum

open Cert.MlpIdeal Cert.MlpIdeal.Gen Cert.FeedForward
open Idealize.ShloMosaic Idealize.ShloMosaic.TcCoe Idealize.SL Idealize.SL.Sem

variable (m : (ℓ : Loc nD τ sig) → Buf (Elt Ideal) ℓ)

theorem acc_first (c : Dev nD) (t : Fin cfg0.N) (h0 : t.val % 8 = 0) :
    (outsAt0 m c t.val t.isLt).2.2 = fun y => step (iblk m c 0 t) (iblk m c 2 t) (iblk m c 3 t) (iblk m c 1 t) (y 0) (y 1) := by
  have h1 : ¬ t.val % 8 = 7 := by omega
  rw [outsAt0_A m c t h0 h1]
  dsimp only
  frame_out
  exact halves _ _ _ _ _ _ (fun r l => first_lo _ _ r l) (fun r l => first_hi _ _ _ r l) _

theorem acc_next (c : Dev nD) (t : Fin cfg0.N) (h0 : ¬ t.val % 8 = 0) :
    (outsAt0 m c t.val t.isLt).2.2 = fun y => step (iblk m c 0 t) (iblk m c 2 t) (iblk m c 3 t)
      (outsAt0 m c (t.val - 1) (Nat.lt_of_le_of_lt (Nat.sub_le _ _) t.isLt)).2.2 (y 0) (y 1) := by
  by_cases h1 : t.val % 8 = 7
  · rw [outsAt0_C m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _
  · rw [outsAt0_B m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _

/-- The last point of a row block stores the running sum and its normed rows. -/
theorem sum_last (c : Dev nD) (t : Fin cfg0.N) (h1 : t.val % 8 = 7) :
    ((outsAt0 m c t.val t.isLt).1 : S512x2048.Idx → EReal) = (outsAt0 m c t.val t.isLt).2.2 := by
  have h0 : ¬ t.val % 8 = 0 := by omega
  rw [outsAt0_C m c t h0 h1]
  dsimp only
  frame_out
  exact load_all _ _

theorem out_last (c : Dev nD) (t : Fin cfg0.N) (h1 : t.val % 8 = 7) (r : Fin 512) (l : Fin 2048) :
    ((outsAt0 m c t.val t.isLt).2.1 : S512x2048.Idx → EReal) (ix2 r l)
      = normed (fun k => ((outsAt0 m c t.val t.isLt).2.2 : S512x2048.Idx → EReal) (ix2 r k)) ((iblk m c 4 t : S1x2048.Idx → EReal) (ix2 0 l)) l := by
  have h0 : ¬ t.val % 8 = 0 := by omega
  rw [outsAt0_C m c t h0 h1]
  dsimp only
  frame_out
  refine (normed_apply _ _ r l).trans ?_
  exact congrArg (fun a : FVec Ideal S512x2048 .f32 => normed (fun k => a (ix2 r k)) ((iblk m c 4 t : S1x2048.Idx → EReal) (ix2 0 l)) l) (load_all _ _)

/-- The arrays as launched: the normed input, the residual stream, the weights, the norm's gain. -/
abbrev hArg (c : Dev nD) : S16384x2048.Idx → EReal := m ((c : Thread nD τ).loc main_arg0)
abbrev xArg (c : Dev nD) : S16384x2048.Idx → EReal := m ((c : Thread nD τ).loc main_arg1)
abbrev uArg (c : Dev nD) : S4x2048x8192.Idx → EReal := m ((c : Thread nD τ).loc main_arg2)
abbrev dArg (c : Dev nD) : S4x8192x2048.Idx → EReal := m ((c : Thread nD τ).loc main_arg3)
abbrev gArg (c : Dev nD) : S2048.Idx → EReal := m ((c : Thread nD τ).loc main_arg4)

/-- What the host prepares: the same weights, the gain as one row. -/
theorem V_up (c : Dev nD) (a : Fin 4) (d : Fin 2048) (j : Fin 8192) :
    (V m c main_v0 : S4x2048x8192.Idx → EReal) (ix3 a d j) = uArg m c (ix3 a d j) := by
  unfold V
  after_results
  pointwise
theorem V_down (c : Dev nD) (a : Fin 4) (j : Fin 8192) (l : Fin 2048) :
    (V m c main_v1 : S4x8192x2048.Idx → EReal) (ix3 a j l) = dArg m c (ix3 a j l) := by
  unfold V
  after_results
  pointwise
theorem V_gain (c : Dev nD) (l : Fin 2048) :
    (V m c main_v2 : S1x2048.Idx → EReal) (ix2 0 l) = gArg m c (ix1 l) := by
  unfold V
  after_results
  pointwise

/-- The grid point's row block and block of hidden units. -/
abbrev ti (t : Fin cfg0.N) : ℕ := t.val / 8
abbrev tk (t : Fin cfg0.N) : ℕ := t.val % 8

theorem ix_0 : ∀ t : Fin cfg0.N, win0_0.index t = ![ti t, 0] :=
  (by decide +kernel : ∀ t : Fin grid0.N, win0_0.index t = ![t.val / 8, 0])
theorem ix_1 : ∀ t : Fin cfg0.N, win0_1.index t = ![ti t, 0] :=
  (by decide +kernel : ∀ t : Fin grid0.N, win0_1.index t = ![t.val / 8, 0])
theorem ix_2 : ∀ t : Fin cfg0.N, win0_2.index t = ![0, 0, tk t] :=
  (by decide +kernel : ∀ t : Fin grid0.N, win0_2.index t = ![0, 0, t.val % 8])
theorem ix_3 : ∀ t : Fin cfg0.N, win0_3.index t = ![0, tk t, 0] :=
  (by decide +kernel : ∀ t : Fin grid0.N, win0_3.index t = ![0, t.val % 8, 0])
theorem ix_4 : ∀ t : Fin cfg0.N, win0_4.index t = ![0, 0] :=
  (by decide +kernel : ∀ t : Fin grid0.N, win0_4.index t = ![0, 0])
theorem ix_5 : ∀ t : Fin cfg0.N, win0_5.index t = ![ti t, 0] :=
  (by decide +kernel : ∀ t : Fin grid0.N, win0_5.index t = ![t.val / 8, 0])
theorem ix_6 : ∀ t : Fin cfg0.N, win0_6.index t = ![ti t, 0] :=
  (by decide +kernel : ∀ t : Fin grid0.N, win0_6.index t = ![t.val / 8, 0])

theorem pt_lt (t : Fin cfg0.N) : t.val < 256 ∧ ti t = t.val / 8 ∧ tk t = t.val % 8 := ⟨t.isLt, rfl, rfl⟩

/-- The array's row of a block's row, the hidden unit of a block's unit. -/
abbrev row (t : Fin cfg0.N) (r : Fin 512) : Fin 16384 := ⟨ti t * 512 + r.val, by have := pt_lt t; omega⟩
abbrev unit (t : Fin cfg0.N) (j : Fin 1024) : Fin 8192 := ⟨tk t * 1024 + j.val, by have := pt_lt t; omega⟩

theorem blk_0 (c : Dev nD) (t : Fin cfg0.N) (r : Fin 512) (d : Fin 2048) :
    (iblk m c 0 t : S512x2048.Idx → EReal) (ix2 r d) = hArg m c (ix2 (row t r) d) := by
  blk_simp [iblk, ix_0]
  exact congrArg (hArg m c) (by blk_ext [ix_0])
theorem blk_1 (c : Dev nD) (t : Fin cfg0.N) (r : Fin 512) (l : Fin 2048) :
    (iblk m c 1 t : S512x2048.Idx → EReal) (ix2 r l) = xArg m c (ix2 (row t r) l) := by
  blk_simp [iblk, ix_1]
  exact congrArg (xArg m c) (by blk_ext [ix_1])
theorem blk_2 (c : Dev nD) (t : Fin cfg0.N) (d : Fin 2048) (j : Fin 1024) :
    (iblk m c 2 t : S1x2048x1024.Idx → EReal) (ix3 0 d j) = uArg m c (ix3 0 d (unit t j)) := by
  refine Eq.trans ?_ (V_up m c 0 d (unit t j))
  blk_simp [iblk, ix_2]
  exact congrArg (V m c main_v0 : S4x2048x8192.Idx → EReal) (by blk_ext [ix_2])
theorem blk_3 (c : Dev nD) (t : Fin cfg0.N) (j : Fin 1024) (l : Fin 2048) :
    (iblk m c 3 t : S1x1024x2048.Idx → EReal) (ix3 0 j l) = dArg m c (ix3 0 (unit t j) l) := by
  refine Eq.trans ?_ (V_down m c 0 (unit t j) l)
  blk_simp [iblk, ix_3]
  exact congrArg (V m c main_v1 : S4x8192x2048.Idx → EReal) (by blk_ext [ix_3])
theorem blk_4 (c : Dev nD) (t : Fin cfg0.N) (l : Fin 2048) :
    (iblk m c 4 t : S1x2048.Idx → EReal) (ix2 0 l) = gArg m c (ix1 l) := by
  refine Eq.trans ?_ (V_gain m c l)
  blk_simp [iblk, ix_4]
  exact congrArg (V m c main_v2 : S1x2048.Idx → EReal) (by blk_ext [ix_4])

/-- Two points of one row block have the same rows. -/
theorem same_row (t : Fin cfg0.N) (h0 : ¬ t.val % 8 = 0) (r : Fin 512) : row ⟨t.val - 1, by omega⟩ r = row t r :=
  Fin.ext (by show (t.val - 1) / 8 * 512 + r.val = t.val / 8 * 512 + r.val; omega)

/-- The running sum after a point: the residual stream and the hidden units so far. -/
theorem acc (c : Dev nD) (t : Fin cfg0.N) (r : Fin 512) (l : Fin 2048) :
    ((outsAt0 m c t.val t.isLt).2.2 : S512x2048.Idx → EReal) (ix2 r l)
      = upTo (xArg m c (ix2 (row t r) l)) (fun d => hArg m c (ix2 (row t r) d)) (uArg m c) (dArg m c) 0 l (1024 * (t.val % 8 + 1)) :=
  fold (N := cfg0.N) (fun t => (outsAt0 m c t.val t.isLt).2.2) (fun t => iblk m c 0 t) (fun t => iblk m c 1 t) (fun t => iblk m c 2 t)
    (fun t => iblk m c 3 t) (uArg m c) (dArg m c) 0 (fun t r d => hArg m c (ix2 (row t r) d)) (fun t r l => xArg m c (ix2 (row t r) l))
    (acc_first m c) (acc_next m c) (blk_0 m c) (blk_1 m c) (blk_2 m c) (blk_3 m c)
    (fun t h0 => funext fun r => by simp only [same_row t h0 r]) (fun t h0 => funext fun r => by simp only [same_row t h0 r])
    t.val t.isLt r l

/-- The plain results at the launched arrays: the residual stream after the layer and its norm. -/
abbrev wantSum (c : Dev nD) : S16384x2048.Idx → EReal :=
  Cert.MlpPlainIdeal.Read.val_main_v9 (F := Ideal) (hArg m c) (xArg m c) (uArg m c) (dArg m c)
abbrev want (c : Dev nD) : S16384x2048.Idx → EReal :=
  Cert.MlpPlainIdeal.Read.val_main_v23 (F := Ideal) (hArg m c) (xArg m c) (uArg m c) (dArg m c) (gArg m c)

open Cert.MlpPlainIdeal.Read in
/-- The plain sum at a row and a column. -/
theorem plain_sum (h x : S16384x2048.Idx → EReal) (u : S4x2048x8192.Idx → EReal) (d : S4x8192x2048.Idx → EReal)
    (R : Fin 16384) (l : Fin 2048) :
    val_main_v9 (F := Ideal) h x u d (ix2 R l) = total (x (ix2 R l)) (fun k => h (ix2 R k)) u d 0 l := by
  unfold total unitAt act
  rw [← zero_bits]
  pointwise [val_main_v9, val_main_v8, val_main_v7, val_main_v6, val_main_v5, val_main_v4, val_main_call0_v0, val_main_call0_cst,
    val_main_v3, val_main_v2, val_main_v1, val_main_v0]

open Cert.MlpPlainIdeal.Read in
/-- The plain result at a row and a column. -/
theorem plain_apply (h x : S16384x2048.Idx → EReal) (u : S4x2048x8192.Idx → EReal) (d : S4x8192x2048.Idx → EReal)
    (g : S2048.Idx → EReal) (R : Fin 16384) (l : Fin 2048) :
    val_main_v23 (F := Ideal) h x u d g (ix2 R l)
      = normed (fun k => val_main_v9 (F := Ideal) h x u d (ix2 R k)) (g (ix1 l)) l := by
  unfold normed
  pointwise [val_main_v23, val_main_v22, val_main_v21, val_main_v20, val_main_v19, val_main_v18, val_main_v17, val_main_v16, val_main_v15,
    val_main_cst_1, val_main_v14, val_main_v13, val_main_cst_0, val_main_v12, val_main_v11, val_main_cst, val_main_v10]

/-- The last point's running sum is the plain one. -/
theorem last_sum (c : Dev nD) (t : Fin cfg0.N) (h7 : t.val % 8 = 7) (r : Fin 512) (l : Fin 2048) :
    ((outsAt0 m c t.val t.isLt).2.2 : S512x2048.Idx → EReal) (ix2 r l) = wantSum m c (ix2 (row t r) l) := by
  refine (acc m c t r l).trans ?_
  rw [h7]
  exact (upTo_all _ _ _ _ _ _).trans (plain_sum _ _ _ _ (row t r) l).symm

/-- What the last point of a row block leaves is the plain result. -/
theorem last_want (c : Dev nD) (t : Fin cfg0.N) (h7 : t.val % 8 = 7) (r : Fin 512) (l : Fin 2048) :
    ((outsAt0 m c t.val t.isLt).2.1 : S512x2048.Idx → EReal) (ix2 r l) = want m c (ix2 (row t r) l) := by
  refine (out_last m c t h7 r l).trans ?_
  refine Eq.trans ?_ (plain_apply (hArg m c) (xArg m c) (uArg m c) (dArg m c) (gArg m c) (row t r) l).symm
  exact (congrArg (fun g => normed _ g l) (blk_4 m c t l)).trans
    (congrArg (fun a => normed a (gArg m c (ix1 l)) l) (funext fun k => last_sum m c t h7 r k))

/-- The whole array of the residual stream. -/
theorem array_sum (c : Dev nD) : (dats m 0 c).arrAt 5 cfg0.N = wantSum m c := by
  refine (dats m 0 c).arrAt_eq_of_covers 5 _ (by decide +kernel) fun t hf y => ?_
  have h7 : t.val % 8 = 7 := (flush0_5 t).mp hf
  blk_simp
  rw [after0_5, sum_last m c t h7]
  refine (congrArg ((outsAt0 m c t.val t.isLt).2.2 : S512x2048.Idx → EReal) (idx_eq y)).trans ?_
  refine (last_sum m c t h7 (y 0) (y 1)).trans ?_
  exact congrArg (wantSum m c) (by blk_ext [ix_5])

/-- The whole array of the normed rows. -/
theorem array (c : Dev nD) : (dats m 0 c).arrAt 6 cfg0.N = want m c := by
  refine (dats m 0 c).arrAt_eq_of_covers 6 _ (by decide +kernel) fun t hf y => ?_
  have h7 : t.val % 8 = 7 := (flush0_6 t).mp hf
  blk_simp
  rw [after0_6]
  refine (congrArg ((outsAt0 m c t.val t.isLt).2.1 : S512x2048.Idx → EReal) (idx_eq y)).trans ?_
  refine (last_want m c t h7 (y 0) (y 1)).trans ?_
  exact congrArg (want m c) (by blk_ext [ix_6])

end Cert.MlpIdeal.Sum
-- ==== Proof.GateValue.lean ====
module

public import proofs.«01_k».proof.Proof.Gen.GateIdeal.Value
public import proofs.«01_k».proof.Proof.Gen.GatePlainIdeal.Read
public import Idealize.ShloMosaic.Lib.Pipeline.ValueKit.Geometry
public import Idealize.ShloMosaic.Lib.Pipeline.ValueKit.Tiles
public import Idealize.ShloMosaic.Lib.Pipeline.Value
public import Idealize.ShloMosaic.Lib.Pointwise

/-!
The gates: the projection of the normed input through the sigmoid. Each grid point computes a block of 2048 rows and
2048 columns in eight pieces of 256 rows, and every entry is the entry of the plain product through the sigmoid.
-/

@[expose] public section

set_option maxRecDepth 16384

noncomputable section

namespace Cert.GateIdeal.Proj

open Cert.GateIdeal Cert.GateIdeal.Gen
open Idealize.ShloMosaic Idealize.ShloMosaic.TcCoe Idealize.SL Idealize.SL.Sem

/-- The sigmoid as a quotient. -/
def sg (u : EReal) : EReal :=
  Ideal.div (Ideal.ofBits .f32 0x3F800000#32) (Ideal.ofBits .f32 0x3F800000#32 + Ideal.exp (-u))

theorem zero_bits : Ideal.ofBits .f32 0x00000000#32 = 0 := by
  simp [Ideal.ofBits, Ideal.ieee]

/-- One piece of 256 rows, at a row and a column. -/
theorem piece_apply (a : Vec Ideal S256x2048 .bf16) (w : Vec Ideal S1x2048x2048 .bf16) (r : Fin 256) (l : Fin 2048) :
    (k0_pay2 a w : FVec Ideal S256x2048 .bf16) (ix2 r l) = sg (∑ x : Fin 2048, a (ix2 r x) * w (ix3 0 x l)) := by
  unfold sg
  rw [← zero_sub, ← zero_bits]
  pointwise [k0_pay2]

/-- A piece stored at row `o` holds the block's entries. -/
theorem piece_at (x0 : Vec Ideal S2048x2048 .bf16) (x1 : Vec Ideal S1x2048x2048 .bf16) (o : ℕ)
    (inb : ∀ a, (![o, 0] : Fin 2 → ℕ) a + S256x2048.size a ≤ S2048x2048.size a) (R l : Fin 2048) :
    View.RectAt (Val := Elt Ideal) (e := .bf16) (ix2 R l) (Rect.unit (s := S2048x2048) ![o, 0] S256x2048.size inb)
      (k0_pay2 (View.ld x0 (Rect.unit (s := S2048x2048) ![o, 0] S256x2048.size inb)) (View.ld x1 r0_1))
      (sg (∑ x : Fin 2048, x0 (ix2 R x) * x1 (ix3 0 x l))) := by
  intro x hx
  have e0 : o + 1 * (x 0).val = R.val := congrArg (fun i : S2048x2048.Idx => (i 0).val) hx
  have e1 : 0 + 1 * (x 1).val = l.val := congrArg (fun i : S2048x2048.Idx => (i 1).val) hx
  have ex : x = ix2 (x 0) (x 1) := by
    funext a
    match a with
    | ⟨0, _⟩ => rfl
    | ⟨1, _⟩ => rfl
  rw [ex]
  refine (piece_apply _ _ _ _).trans (congrArg sg (Finset.sum_congr rfl fun d _ => ?_))
  congr 1
  · exact View.ld_unit_apply_of _ _ _ _ _ (ix2 R d) (by intro a; fin_cases a <;> simp [ix2] <;> omega)
  · exact View.ld_unit_apply_of _ _ _ _ _ (ix3 0 d l) (by intro a; fin_cases a <;> simp [ix3] <;> omega)

/-- What a grid point leaves in its block, at a row and a column. -/
theorem out_apply (x0 : Vec Ideal S2048x2048 .bf16) (x1 : Vec Ideal S1x2048x2048 .bf16) (R l : Fin 2048) :
    (out0_2 x0 x1 : FVec Ideal S2048x2048 .bf16) (ix2 R l) = sg (∑ x : Fin 2048, x0 (ix2 R x) * x1 (ix3 0 x l)) := by
  refine View.canon_eq_of_allAt _ _ _ (cover0_2 _ _ _ _ _ _ _ _ _) ?_
  exact View.allAt_cons _ _ _ (piece_at x0 x1 1792 _ R l) <| View.allAt_cons _ _ _ (piece_at x0 x1 1536 _ R l) <|
    View.allAt_cons _ _ _ (piece_at x0 x1 1280 _ R l) <| View.allAt_cons _ _ _ (piece_at x0 x1 1024 _ R l) <|
    View.allAt_cons _ _ _ (piece_at x0 x1 768 _ R l) <| View.allAt_cons _ _ _ (piece_at x0 x1 512 _ R l) <|
    View.allAt_cons _ _ _ (piece_at x0 x1 256 _ R l) <| View.allAt_cons _ _ _ (piece_at x0 x1 0 _ R l) <|
    View.allAt_nil _ _

variable (m : (ℓ : Loc nD τ sig) → Buf (Elt Ideal) ℓ)

/-- The normed input and the weights as launched. -/
abbrev hArg (c : Dev nD) : S16384x2048.Idx → EReal := m ((c : Thread nD τ).loc main_arg0)
abbrev wArg (c : Dev nD) : S4x2048x8192.Idx → EReal := m ((c : Thread nD τ).loc main_arg1)

/-- The grid point's row block and column block. -/
abbrev ti (t : Fin cfg0.N) : ℕ := t.val / 4
abbrev tj (t : Fin cfg0.N) : ℕ := t.val % 4

theorem ix_0 : ∀ t : Fin cfg0.N, win0_0.index t = ![ti t, 0] :=
  (by decide +kernel : ∀ t : Fin grid0.N, win0_0.index t = ![t.val / 4, 0])
theorem ix_1 : ∀ t : Fin cfg0.N, win0_1.index t = ![0, 0, tj t] :=
  (by decide +kernel : ∀ t : Fin grid0.N, win0_1.index t = ![0, 0, t.val % 4])
theorem ix_2 : ∀ t : Fin cfg0.N, win0_2.index t = ![ti t, tj t] :=
  (by decide +kernel : ∀ t : Fin grid0.N, win0_2.index t = ![t.val / 4, t.val % 4])

theorem pt_lt (t : Fin cfg0.N) : t.val < 32 ∧ ti t = t.val / 4 ∧ tj t = t.val % 4 := ⟨t.isLt, rfl, rfl⟩

/-- The array's row and column of a block's row and column. -/
abbrev row (t : Fin cfg0.N) (r : Fin 2048) : Fin 16384 := ⟨ti t * 2048 + r.val, by have := pt_lt t; omega⟩
abbrev col (t : Fin cfg0.N) (l : Fin 2048) : Fin 8192 := ⟨tj t * 2048 + l.val, by have := pt_lt t; omega⟩

theorem blk_0 (c : Dev nD) (t : Fin cfg0.N) (r : Fin 2048) (x : Fin 2048) :
    (iblk m c 0 t : S2048x2048.Idx → EReal) (ix2 r x) = hArg m c (ix2 (row t r) x) := by
  blk_simp [iblk, ix_0]
  exact congrArg (hArg m c) (by blk_ext [ix_0])

theorem blk_1 (c : Dev nD) (t : Fin cfg0.N) (x : Fin 2048) (l : Fin 2048) :
    (iblk m c 1 t : S1x2048x2048.Idx → EReal) (ix3 0 x l) = wArg m c (ix3 0 x (col t l)) := by
  blk_simp [iblk, ix_1]
  exact congrArg (wArg m c) (by blk_ext [ix_1])

/-- The plain result at the launched arrays. -/
abbrev want (c : Dev nD) : S16384x8192.Idx → EReal :=
  Cert.GatePlainIdeal.Read.val_main_v11 (F := Ideal) (hArg m c) (wArg m c)

open Cert.GatePlainIdeal.Read in
/-- The plain result at a row and a column. -/
theorem plain_apply (h : S16384x2048.Idx → EReal) (w : S4x2048x8192.Idx → EReal) (R : Fin 16384) (C : Fin 8192) :
    val_main_v11 (F := Ideal) h w (ix2 R C) = sg (∑ x : Fin 2048, h (ix2 R x) * w (ix3 0 x C)) := by
  unfold sg
  pointwise [val_main_v11, val_main_v10, val_main_v9, val_main_cst_0, val_main_v8, val_main_v7, val_main_cst, val_main_v6,
    val_main_v5, val_main_v4, val_main_v3, val_main_v2, val_main_v1, val_main_v0]

/-- The whole array. -/
theorem array (c : Dev nD) : (dats m 0 c).arrAt 2 cfg0.N = want m c := by
  refine (dats m 0 c).arrAt_eq_of_covers 2 _ (by decide +kernel) fun t hf y => ?_
  blk_simp
  rw [after0_2]
  have ey : (y : S2048x2048.Idx) = ix2 (y 0) (y 1) := by
    funext a
    match a with
    | ⟨0, _⟩ => rfl
    | ⟨1, _⟩ => rfl
  refine (congrArg (out0_2 (iblk m c 0 t) (iblk m c 1 t) : S2048x2048.Idx → EReal) ey).trans ?_
  refine (out_apply _ _ _ _).trans ?_
  refine (congrArg sg (Finset.sum_congr rfl fun x _ => ?_)).trans ((plain_apply (hArg m c) (wArg m c) (row t (y 0)) (col t (y 1))).symm.trans ?_)
  · exact congrArg₂ (· * ·) (blk_0 m c t (y 0) x) (blk_1 m c t x (y 1))
  · exact congrArg (want m c) (by blk_ext [ix_2])

end Cert.GateIdeal.Proj
-- ==== Proof.SampleValue.lean ====
module

public import proofs.«01_k».proof.Proof.Fold
public import proofs.«01_k».proof.Proof.Gen.SampleIdeal.Value
public import proofs.«01_k».proof.Proof.Gen.SamplePlainIdeal.Read
public import Idealize.ShloMosaic.Lib.Pipeline.ValueKit.Geometry
public import Idealize.ShloMosaic.Lib.Pipeline.Value

/-!
The last layer's feed-forward part and the final norm over the 8192 rows of the sampled sequences: a grid point adds
one block of 1024 hidden units to the running sum of 512 rows, the last point of a row block norms the rows.
-/

@[expose] public section

set_option maxRecDepth 16384

noncomputable section

namespace Cert.SampleIdeal.Sum

open Cert.SampleIdeal Cert.SampleIdeal.Gen Cert.FeedForward
open Idealize.ShloMosaic Idealize.ShloMosaic.TcCoe Idealize.SL Idealize.SL.Sem

variable (m : (ℓ : Loc nD τ sig) → Buf (Elt Ideal) ℓ)

theorem acc_first (c : Dev nD) (t : Fin cfg0.N) (h0 : t.val % 8 = 0) :
    (outsAt0 m c t.val t.isLt).2 = fun y => step (iblk m c 0 t) (iblk m c 2 t) (iblk m c 3 t) (iblk m c 1 t) (y 0) (y 1) := by
  have h1 : ¬ t.val % 8 = 7 := by omega
  rw [outsAt0_A m c t h0 h1]
  dsimp only
  frame_out
  exact halves _ _ _ _ _ _ (fun r l => first_lo _ _ r l) (fun r l => first_hi _ _ _ r l) _

theorem acc_next (c : Dev nD) (t : Fin cfg0.N) (h0 : ¬ t.val % 8 = 0) :
    (outsAt0 m c t.val t.isLt).2 = fun y => step (iblk m c 0 t) (iblk m c 2 t) (iblk m c 3 t)
      (outsAt0 m c (t.val - 1) (Nat.lt_of_le_of_lt (Nat.sub_le _ _) t.isLt)).2 (y 0) (y 1) := by
  by_cases h1 : t.val % 8 = 7
  · rw [outsAt0_C m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _
  · rw [outsAt0_B m c t h0 h1]
    dsimp only
    frame_out
    exact halves _ _ _ _ _ _ (fun r l => (ld_lo _ r l).trans (congrFun ((Memref.isWhole_whole cc0_scratch0).read_unread _) _))
      (fun r l => (ld_hi _ r l).trans (congrFun ((Memref.isWhole_whole cc0_scratch0).read_unread _) _)) _

theorem out_last (c : Dev nD) (t : Fin cfg0.N) (h1 : t.val % 8 = 7) (r : Fin 512) (l : Fin 2048) :
    (outsAt0 m c t.val t.isLt).1 (ix2 r l)
      = normed (fun k => (outsAt0 m c t.val t.isLt).2 (ix2 r k)) (iblk m c 4 t (ix2 0 l)) l := by
  have h0 : ¬ t.val % 8 = 0 := by omega
  rw [outsAt0_C m c t h0 h1]
  dsimp only
  frame_out
  refine (normed_apply _ _ r l).trans ?_
  exact congrArg (fun a : FVec Ideal S512x2048 .f32 => normed (fun k => a (ix2 r k)) (iblk m c 4 t (ix2 0 l)) l) (load_all _ _)

/-- The arrays as launched: the normed input, the residual stream, the weights, the norm's gain. -/
abbrev hArg (c : Dev nD) : S8192x2048.Idx → EReal := m ((c : Thread nD τ).loc main_arg0)
abbrev xArg (c : Dev nD) : S8192x2048.Idx → EReal := m ((c : Thread nD τ).loc main_arg1)
abbrev uArg (c : Dev nD) : S4x2048x8192.Idx → EReal := m ((c : Thread nD τ).loc main_arg2)
abbrev dArg (c : Dev nD) : S4x8192x2048.Idx → EReal := m ((c : Thread nD τ).loc main_arg3)
abbrev gArg (c : Dev nD) : S2048.Idx → EReal := m ((c : Thread nD τ).loc main_arg4)

/-- What the host prepares: the same weights, the gain as one row. -/
theorem V_up (c : Dev nD) (a : Fin 4) (d : Fin 2048) (j : Fin 8192) :
    (V m c main_v0 : S4x2048x8192.Idx → EReal) (ix3 a d j) = uArg m c (ix3 a d j) := by
  unfold V
  after_results
  pointwise
theorem V_down (c : Dev nD) (a : Fin 4) (j : Fin 8192) (l : Fin 2048) :
    (V m c main_v1 : S4x8192x2048.Idx → EReal) (ix3 a j l) = dArg m c (ix3 a j l) := by
  unfold V
  after_results
  pointwise
theorem V_gain (c : Dev nD) (l : Fin 2048) :
    (V m c main_v2 : S1x2048.Idx → EReal) (ix2 0 l) = gArg m c (ix1 l) := by
  unfold V
  after_results
  pointwise

/-- The grid point's row block and block of hidden units. -/
abbrev ti (t : Fin cfg0.N) : ℕ := t.val / 8
abbrev tk (t : Fin cfg0.N) : ℕ := t.val % 8

theorem ix_0 : ∀ t : Fin cfg0.N, win0_0.index t = ![ti t, 0] :=
  (by decide +kernel : ∀ t : Fin grid0.N, win0_0.index t = ![t.val / 8, 0])
theorem ix_1 : ∀ t : Fin cfg0.N, win0_1.index t = ![ti t, 0] :=
  (by decide +kernel : ∀ t : Fin grid0.N, win0_1.index t = ![t.val / 8, 0])
theorem ix_2 : ∀ t : Fin cfg0.N, win0_2.index t = ![3, 0, tk t] :=
  (by decide +kernel : ∀ t : Fin grid0.N, win0_2.index t = ![3, 0, t.val % 8])
theorem ix_3 : ∀ t : Fin cfg0.N, win0_3.index t = ![3, tk t, 0] :=
  (by decide +kernel : ∀ t : Fin grid0.N, win0_3.index t = ![3, t.val % 8, 0])
theorem ix_4 : ∀ t : Fin cfg0.N, win0_4.index t = ![0, 0] :=
  (by decide +kernel : ∀ t : Fin grid0.N, win0_4.index t = ![0, 0])
theorem ix_5 : ∀ t : Fin cfg0.N, win0_5.index t = ![ti t, 0] :=
  (by decide +kernel : ∀ t : Fin grid0.N, win0_5.index t = ![t.val / 8, 0])

theorem pt_lt (t : Fin cfg0.N) : t.val < 128 ∧ ti t = t.val / 8 ∧ tk t = t.val % 8 := ⟨t.isLt, rfl, rfl⟩

/-- The array's row of a block's row, the hidden unit of a block's unit. -/
abbrev row (t : Fin cfg0.N) (r : Fin 512) : Fin 8192 := ⟨ti t * 512 + r.val, by have := pt_lt t; omega⟩
abbrev unit (t : Fin cfg0.N) (j : Fin 1024) : Fin 8192 := ⟨tk t * 1024 + j.val, by have := pt_lt t; omega⟩

theorem blk_0 (c : Dev nD) (t : Fin cfg0.N) (r : Fin 512) (d : Fin 2048) :
    (iblk m c 0 t : S512x2048.Idx → EReal) (ix2 r d) = hArg m c (ix2 (row t r) d) := by
  blk_simp [iblk, ix_0]
  exact congrArg (hArg m c) (by blk_ext [ix_0])
theorem blk_1 (c : Dev nD) (t : Fin cfg0.N) (r : Fin 512) (l : Fin 2048) :
    (iblk m c 1 t : S512x2048.Idx → EReal) (ix2 r l) = xArg m c (ix2 (row t r) l) := by
  blk_simp [iblk, ix_1]
  exact congrArg (xArg m c) (by blk_ext [ix_1])
theorem blk_2 (c : Dev nD) (t : Fin cfg0.N) (d : Fin 2048) (j : Fin 1024) :
    (iblk m c 2 t : S1x2048x1024.Idx → EReal) (ix3 0 d j) = uArg m c (ix3 3 d (unit t j)) := by
  refine Eq.trans ?_ (V_up m c 3 d (unit t j))
  blk_simp [iblk, ix_2]
  exact congrArg (V m c main_v0 : S4x2048x8192.Idx → EReal) (by blk_ext [ix_2])
theorem blk_3 (c : Dev nD) (t : Fin cfg0.N) (j : Fin 1024) (l : Fin 2048) :
    (iblk m c 3 t : S1x1024x2048.Idx → EReal) (ix3 0 j l) = dArg m c (ix3 3 (unit t j) l) := by
  refine Eq.trans ?_ (V_down m c 3 (unit t j) l)
  blk_simp [iblk, ix_3]
  exact congrArg (V m c main_v1 : S4x8192x2048.Idx → EReal) (by blk_ext [ix_3])
theorem blk_4 (c : Dev nD) (t : Fin cfg0.N) (l : Fin 2048) :
    (iblk m c 4 t : S1x2048.Idx → EReal) (ix2 0 l) = gArg m c (ix1 l) := by
  refine Eq.trans ?_ (V_gain m c l)
  blk_simp [iblk, ix_4]
  exact congrArg (V m c main_v2 : S1x2048.Idx → EReal) (by blk_ext [ix_4])

/-- Two points of one row block have the same rows. -/
theorem same_row (t : Fin cfg0.N) (h0 : ¬ t.val % 8 = 0) (r : Fin 512) : row ⟨t.val - 1, by omega⟩ r = row t r :=
  Fin.ext (by show (t.val - 1) / 8 * 512 + r.val = t.val / 8 * 512 + r.val; omega)

/-- The running sum after a point: the residual stream and the hidden units so far. -/
theorem acc (c : Dev nD) (t : Fin cfg0.N) (r : Fin 512) (l : Fin 2048) :
    ((outsAt0 m c t.val t.isLt).2 : S512x2048.Idx → EReal) (ix2 r l)
      = upTo (xArg m c (ix2 (row t r) l)) (fun d => hArg m c (ix2 (row t r) d)) (uArg m c) (dArg m c) 3 l (1024 * (t.val % 8 + 1)) :=
  fold (N := cfg0.N) (fun t => (outsAt0 m c t.val t.isLt).2) (fun t => iblk m c 0 t) (fun t => iblk m c 1 t) (fun t => iblk m c 2 t)
    (fun t => iblk m c 3 t) (uArg m c) (dArg m c) 3 (fun t r d => hArg m c (ix2 (row t r) d)) (fun t r l => xArg m c (ix2 (row t r) l))
    (acc_first m c) (acc_next m c) (blk_0 m c) (blk_1 m c) (blk_2 m c) (blk_3 m c)
    (fun t h0 => funext fun r => by simp only [same_row t h0 r]) (fun t h0 => funext fun r => by simp only [same_row t h0 r])
    t.val t.isLt r l

/-- The plain result at the launched arrays. -/
abbrev want (c : Dev nD) : S8192x2048.Idx → EReal :=
  Cert.SamplePlainIdeal.Read.val_main_v22 (F := Ideal) (hArg m c) (xArg m c) (uArg m c) (dArg m c) (gArg m c)

open Cert.SamplePlainIdeal.Read in
/-- The plain sum at a row and a column. -/
theorem plain_sum (h x : S8192x2048.Idx → EReal) (u : S4x2048x8192.Idx → EReal) (d : S4x8192x2048.Idx → EReal)
    (R : Fin 8192) (l : Fin 2048) :
    val_main_v9 (F := Ideal) h x u d (ix2 R l) = total (x (ix2 R l)) (fun k => h (ix2 R k)) u d 3 l := by
  unfold total unitAt act
  rw [← zero_bits]
  pointwise [val_main_v9, val_main_v8, val_main_v7, val_main_v6, val_main_v5, val_main_v4, val_main_call0_v0, val_main_call0_cst,
    val_main_v3, val_main_v2, val_main_v1, val_main_v0]

open Cert.SamplePlainIdeal.Read in
/-- The plain result at a row and a column. -/
theorem plain_apply (h x : S8192x2048.Idx → EReal) (u : S4x2048x8192.Idx → EReal) (d : S4x8192x2048.Idx → EReal)
    (g : S2048.Idx → EReal) (R : Fin 8192) (l : Fin 2048) :
    val_main_v22 (F := Ideal) h x u d g (ix2 R l)
      = normed (fun k => val_main_v9 (F := Ideal) h x u d (ix2 R k)) (g (ix1 l)) l := by
  unfold normed
  pointwise [val_main_v22, val_main_v21, val_main_v20, val_main_v19, val_main_v18, val_main_v17, val_main_v16, val_main_v15,
    val_main_cst_1, val_main_v14, val_main_v13, val_main_cst_0, val_main_v12, val_main_v11, val_main_cst, val_main_v10]

/-- What the last point of a row block leaves is the plain result. -/
theorem last_want (c : Dev nD) (t : Fin cfg0.N) (h7 : t.val % 8 = 7) (r : Fin 512) (l : Fin 2048) :
    ((outsAt0 m c t.val t.isLt).1 : S512x2048.Idx → EReal) (ix2 r l) = want m c (ix2 (row t r) l) := by
  refine (out_last m c t h7 r l).trans ?_
  refine Eq.trans ?_ (plain_apply (hArg m c) (xArg m c) (uArg m c) (dArg m c) (gArg m c) (row t r) l).symm
  refine (congrArg (fun g => normed _ g l) (blk_4 m c t l)).trans (congrArg (fun a => normed a (gArg m c (ix1 l)) l) (funext fun k => ?_))
  refine (acc m c t r k).trans ?_
  rw [h7, plain_sum]
  exact upTo_all _ _ _ _ _ _

/-- The whole array. -/
theorem array (c : Dev nD) : (dats m 0 c).arrAt 5 cfg0.N = want m c := by
  refine (dats m 0 c).arrAt_eq_of_covers 5 _ (by decide +kernel) fun t hf y => ?_
  have h7 : t.val % 8 = 7 := (flush0_5 t).mp hf
  blk_simp
  rw [after0_5]
  refine (congrArg ((outsAt0 m c t.val t.isLt).1 : S512x2048.Idx → EReal) (idx_eq y)).trans ?_
  refine (last_want m c t h7 (y 0) (y 1)).trans ?_
  exact congrArg (want m c) (by blk_ext [ix_5])

end Cert.SampleIdeal.Sum
-- ==== Proof.MixBlock.lean ====
module

public import proofs.«01_k».proof.Proof.Gen.MixIdeal.Value
public import Idealize.ShloMosaic.Lib.Pipeline.ValueKit.Geometry
public import Idealize.ShloMosaic.Lib.Pipeline.ValueKit.Tiles
public import Idealize.ShloMosaic.Lib.Pipeline.Value
public import Idealize.ShloMosaic.Lib.Pointwise

/-!
The mixing projection, one grid point: the product of 1024 rows and 1792 columns is computed in four pieces of 256 rows.
At the last column block the columns from 256 on are also kept in slabs of 128 lanes and stored folded: the first six
slabs by residues modulo 4 of the row, the last six by residues modulo 16, in two steps of 4.
-/

@[expose] public section

set_option maxRecDepth 16384

noncomputable section

namespace Cert.MixIdeal.Proj

open Cert.MixIdeal Cert.MixIdeal.Gen
open Idealize.ShloMosaic Idealize.ShloMosaic.TcCoe Idealize.SL Idealize.SL.Sem

/-- Every piece of a list holds the entries of one array. -/
def Holds {S : Shape} {e : EltTy} (G : S.Idx → Elt Ideal e) (L : List (View.Piece (Elt Ideal) S e)) : Prop :=
  ∀ p ∈ L, ∀ x : p.1.shape.Idx, p.2 x = G (p.1.emb x)

theorem holds_nil {S : Shape} {e : EltTy} (G : S.Idx → Elt Ideal e) : Holds G [] := fun _ hp => absurd hp List.not_mem_nil

theorem holds_cons {S : Shape} {e : EltTy} {G : S.Idx → Elt Ideal e} (r : Rect S) (w : r.shape.Idx → Elt Ideal e)
    (L : List (View.Piece (Elt Ideal) S e)) (h : ∀ x : r.shape.Idx, w x = G (r.emb x)) (hL : Holds G L) :
    Holds G ((⟨r, w⟩ : View.Piece (Elt Ideal) S e) :: L) :=
  List.forall_mem_cons.2 ⟨h, hL⟩

/-- The block's product at a row and a column, numbers outside read as zero. -/
def prod (x0 : Vec Ideal S1024x2048 .bf16) (x1 : Vec Ideal S1x2048x1792 .bf16) (R C : ℕ) : EReal :=
  if h : R < 1024 ∧ C < 1792 then ∑ d : Fin 2048, x0 (ix2 ⟨R, h.1⟩ d) * x1 (ix3 0 d ⟨C, h.2⟩) else 0

theorem mul_apply (a : Vec Ideal S256x2048 .bf16) (w : Vec Ideal S1x2048x1792 .bf16) (r : Fin 256) (C : Fin 1792) :
    (k0_pay169 a w : FVec Ideal S256x1792 .f32) (ix2 r C) = ∑ x : Fin 2048, a (ix2 r x) * w (ix3 0 x C) := by
  pointwise [k0_pay169]

theorem out_eq (a : Vec Ideal S256x2048 .bf16) (w : Vec Ideal S1x2048x1792 .bf16) :
    (k0_pay170 a w : S256x1792.Idx → EReal) = k0_pay169 a w := by
  funext y
  pointwise [k0_pay170]

theorem idx2 {a b : ℕ} (x : (⟨2, ![a, b]⟩ : Shape).Idx) : x = ix2 (x 0) (x 1) := by
  funext i
  match i with
  | ⟨0, _⟩ => rfl
  | ⟨1, _⟩ => rfl
theorem idx3 {a b d : ℕ} (x : (⟨3, ![a, b, d]⟩ : Shape).Idx) : x = ix3 (x 0) (x 1) (x 2) := by
  funext i
  match i with
  | ⟨0, _⟩ => rfl
  | ⟨1, _⟩ => rfl
  | ⟨2, _⟩ => rfl
theorem idx4 {a b d f : ℕ} (x : (⟨4, ![a, b, d, f]⟩ : Shape).Idx) : x = ix4 (x 0) (x 1) (x 2) (x 3) := by
  funext i
  match i with
  | ⟨0, _⟩ => rfl
  | ⟨1, _⟩ => rfl
  | ⟨2, _⟩ => rfl
  | ⟨3, _⟩ => rfl

section
variable (x0 : Vec Ideal S1024x2048 .bf16) (x1 : Vec Ideal S1x2048x1792 .bf16)
variable {m2 : Memref sig .tc .vmem S1024x2048 .bf16} (h2 : m2.IsWhole)
variable {m3 : Memref sig .tc .vmem S1x2048x1792 .bf16} (h3 : m3.IsWhole)

/-- The loads of a piece of 256 rows and of the weights. -/
abbrev rowsAt (o : ℕ) (inb : ∀ a, (![o, 0] : Fin 2 → ℕ) a + (![256, 2048] : Fin 2 → ℕ) a ≤ S1024x2048.size a) : Vec Ideal S256x2048 .bf16 :=
  View.readAt (Elt Ideal) m2.view (Rect.unit (s := S1024x2048) ![o, 0] ![256, 2048] inb).toLoadRect (h2.unread x0)
abbrev weights (inb : ∀ a, (![0, 0, 0] : Fin 3 → ℕ) a + (![1, 2048, 1792] : Fin 3 → ℕ) a ≤ S1x2048x1792.size a) : Vec Ideal S1x2048x1792 .bf16 :=
  View.readAt (Elt Ideal) m3.view (Rect.unit (s := S1x2048x1792) ![0, 0, 0] ![1, 2048, 1792] inb).toLoadRect (h3.unread x1)

theorem piece_apply (o : ℕ) (inb) (inb') (r : Fin 256) (C : Fin 1792) :
    (k0_pay169 (rowsAt x0 h2 o inb) (weights x1 h3 inb') : FVec Ideal S256x1792 .f32) (ix2 r C) = prod x0 x1 (o + r.val) C.val := by
  have ho : o + 256 ≤ 1024 := inb 0
  refine (mul_apply _ _ r C).trans ?_
  unfold prod
  rw [dif_pos ⟨by omega, C.isLt⟩]
  refine Finset.sum_congr rfl fun d _ => congrArg₂ (· * ·) ?_ ?_
  · refine (congrFun (h2.read_unread x0) _).trans (congrArg x0 ?_)
    funext a
    match a with
    | ⟨0, _⟩ => exact Fin.ext (show o + 1 * r.val = o + r.val by omega)
    | ⟨1, _⟩ => exact Fin.ext (show 0 + 1 * d.val = d.val by omega)
  · refine (congrFun (h3.read_unread x1) _).trans (congrArg x1 ?_)
    funext a
    match a with
    | ⟨0, _⟩ => rfl
    | ⟨1, _⟩ => exact Fin.ext (show 0 + 1 * d.val = d.val by omega)
    | ⟨2, _⟩ => exact Fin.ext (show 0 + 1 * C.val = C.val by omega)

/-- The product as one block. -/
abbrev block : S1024x1792.Idx → Elt Ideal .bf16 := fun y => prod x0 x1 (y 0).val (y 1).val

/-- A piece of the product holds the block's entries. -/
theorem block_at (o : ℕ) (inb) (inb') (inbo : ∀ a, (![o, 0] : Fin 2 → ℕ) a + (![256, 1792] : Fin 2 → ℕ) a ≤ S1024x1792.size a)
    (x : (Rect.unit (s := S1024x1792) ![o, 0] ![256, 1792] inbo).shape.Idx) :
    (k0_pay170 (rowsAt x0 h2 o inb) (weights x1 h3 inb') : S256x1792.Idx → Elt Ideal .bf16) x
      = block x0 x1 ((Rect.unit (s := S1024x1792) ![o, 0] ![256, 1792] inbo).emb x) := by
  refine (congrFun (out_eq _ _) x).trans ?_
  refine (congrArg (k0_pay169 (rowsAt x0 h2 o inb) (weights x1 h3 inb') : S256x1792.Idx → EReal) (idx2 (a := 256) (b := 1792) x)).trans ?_
  refine (piece_apply x0 x1 h2 h3 o inb inb' _ _).trans ?_
  show prod x0 x1 (o + (x 0).val) (x 1).val = prod x0 x1 (o + 1 * (x 0).val) (0 + 1 * (x 1).val)
  rw [one_mul, one_mul, zero_add]

/-- A slab of 128 columns from column `q`. -/
def slab (v : FVec Ideal S256x1792 .f32) (q : ℕ) (h : S256x1792.Slices ![0, q] S256x128) : FVec Ideal S1x256x128 .f32 :=
  shapeCast S1x256x128 (extractStridedSlice S256x128 ![0, q] v h) shapeCasts_S256x128_S1x256x128

theorem slab_apply (v : FVec Ideal S256x1792 .f32) (q : ℕ) (h : S256x1792.Slices ![0, q] S256x128) (r : Fin 256) (l : Fin 128)
    (hq : q + l.val < 1792) : slab v q h (ix3 0 r l) = v (ix2 r ⟨q + l.val, hq⟩) := by
  have e : (shapeCast S1x256x128 (extractStridedSlice S256x128 ![0, q] v h) shapeCasts_S256x128_S1x256x128 : FVec Ideal S1x256x128 .f32) (ix3 0 r l)
      = extractStridedSlice S256x128 ![0, q] v h (ix2 r l) := by
    generalize extractStridedSlice S256x128 ![0, q] v h = u
    pointwise
  refine e.trans (extractStridedSlice_apply _ v h _ _ fun a => ?_)
  match a with
  | ⟨0, _⟩ => exact (Nat.zero_add _).symm
  | ⟨1, _⟩ => rfl

/-- The slabs kept beside the block. -/
abbrev slabs : S12x1024x128.Idx → Elt Ideal .f32 := fun y => prod x0 x1 (y 1).val (256 + 128 * (y 0).val + (y 2).val)

theorem slab_at (s o : ℕ) (inb) (inb') (h : S256x1792.Slices ![0, 256 + 128 * s] S256x128)
    (inbo : ∀ a, (![s, o, 0] : Fin 3 → ℕ) a + (![1, 256, 128] : Fin 3 → ℕ) a ≤ S12x1024x128.size a)
    (x : (Rect.unit (s := S12x1024x128) ![s, o, 0] ![1, 256, 128] inbo).shape.Idx) :
    slab (k0_pay169 (rowsAt x0 h2 o inb) (weights x1 h3 inb')) (256 + 128 * s) h x
      = slabs x0 x1 ((Rect.unit (s := S12x1024x128) ![s, o, 0] ![1, 256, 128] inbo).emb x) := by
  have hs : s + 1 ≤ 12 := inbo 0
  have hx2 : (x 2).val < 128 := (x 2).isLt
  have hx0 : (x 0).val = 0 := by have : (x 0).val < 1 := (x 0).isLt; omega
  have ex : x = ix3 (0 : Fin 1) (x 1 : Fin 256) (x 2 : Fin 128) := (idx3 (a := 1) (b := 256) (d := 128) x).trans
    (congrArg (fun i : Fin 1 => ix3 i (x 1 : Fin 256) (x 2 : Fin 128)) (Fin.ext hx0))
  refine (congrArg (slab (k0_pay169 (rowsAt x0 h2 o inb) (weights x1 h3 inb')) (256 + 128 * s) h) ex).trans ?_
  refine (slab_apply _ _ h _ _ (by omega)).trans ((piece_apply x0 x1 h2 h3 o inb inb' _ _).trans ?_)
  show prod x0 x1 (o + (x 1).val) (256 + 128 * s + (x 2).val) = prod x0 x1 (o + 1 * (x 1).val) (256 + 128 * (s + 1 * (x 0).val) + (0 + 1 * (x 2).val))
  exact congrArg₂ (prod x0 x1) (by omega) (by omega)

end

section
variable (x0 : Vec Ideal S1024x2048 .bf16) (x1 : Vec Ideal S1x2048x1792 .bf16)

/-- What a fold stores of 256 rows or of 64 rows read from the slabs, and what it keeps of 256 rows for the second step. -/
abbrev cast256 (v : Vec Ideal S1x256x128 .f32) : FVec Ideal S1x1x256x128 .bf16 := k0_pay7 v
abbrev cast64 (v : Vec Ideal S1x64x128 .f32) : FVec Ideal S1x1x64x128 .bf16 := k0_pay6 v
abbrev keep256 (v : Vec Ideal S1x256x128 .f32) : FVec Ideal S1x256x128 .f32 := k0_pay8 v

theorem cast256_apply (v : Vec Ideal S1x256x128 .f32) (i : Fin 256) (l : Fin 128) : cast256 v (ix4 0 0 i l) = v (ix3 0 i l) := by
  pointwise [k0_pay7]
theorem cast64_apply (v : Vec Ideal S1x64x128 .f32) (i : Fin 64) (l : Fin 128) : cast64 v (ix4 0 0 i l) = v (ix3 0 i l) := by
  pointwise [k0_pay6]
theorem keep256_apply (v : Vec Ideal S1x256x128 .f32) (i : Fin 256) (l : Fin 128) : keep256 v (ix3 0 i l) = v (ix3 0 i l) := by
  pointwise [k0_pay8]

variable {m7 : Memref sig .tc .vmem S12x1024x128 .f32} {L : List (View.Piece (Elt Ideal) S12x1024x128 .f32)}
variable {m8 : Memref sig .tc .vmem S6x1024x128 .f32} {M : List (View.Piece (Elt Ideal) S6x1024x128 .f32)}

/-- A load of every fourth row of a slab. -/
theorem quarter_apply (hL : ∀ y, View.canon L y = slabs x0 x1 y) (s k : ℕ)
    (inb)
    (i : Fin 256) (l : Fin 128) :
    m7.view.readCov L (⟨![s, k, 0], S1x256x128.size, ![1, 4, 1], inb⟩ : LoadRect S12x1024x128) (ix3 (0 : Fin 1) i l)
      = prod x0 x1 (k + 4 * i.val) (256 + 128 * s + l.val) := by
  refine (congrFun (View.readCov_eq_canon' m7.view L _) _).trans ((hL _).trans ?_)
  show prod x0 x1 (k + 4 * i.val) (256 + 128 * (s + 1 * 0) + (0 + 1 * l.val)) = _
  exact congrArg₂ (prod x0 x1) (by omega) (by omega)

/-- The first fold: row `i` of residue `ρ` is row `4 i + ρ` of the block. -/
abbrev fold4 : S1x4x256x768.Idx → Elt Ideal .bf16 := fun y => prod x0 x1 (4 * (y 2).val + (y 1).val) (256 + (y 3).val)

theorem fold4_at (hL : ∀ y, View.canon L y = slabs x0 x1 y) (s k p q : ℕ) (inb)
    (inbo : ∀ a, (![0, p, 0, q] : Fin 4 → ℕ) a + (![1, 1, 256, 128] : Fin 4 → ℕ) a ≤ S1x4x256x768.size a)
    (hp : p = k) (hq : q = 128 * s) (x : (Rect.unit (s := S1x4x256x768) ![0, p, 0, q] ![1, 1, 256, 128] inbo).shape.Idx) :
    cast256 (m7.view.readCov L (⟨![s, k, 0], S1x256x128.size, ![1, 4, 1], inb⟩ : LoadRect S12x1024x128)) x
      = fold4 x0 x1 ((Rect.unit (s := S1x4x256x768) ![0, p, 0, q] ![1, 1, 256, 128] inbo).emb x) := by
  have hx0 : (x 0).val = 0 := by have : (x 0).val < 1 := (x 0).isLt; omega
  have hx1 : (x 1).val = 0 := by have : (x 1).val < 1 := (x 1).isLt; omega
  have ex : x = ix4 (0 : Fin 1) (0 : Fin 1) (x 2 : Fin 256) (x 3 : Fin 128) := (idx4 (a := 1) (b := 1) (d := 256) (f := 128) x).trans
    (congrArg₂ (fun (i j : Fin 1) => ix4 i j (x 2 : Fin 256) (x 3 : Fin 128)) (Fin.ext hx0) (Fin.ext hx1))
  refine (congrArg (cast256 _) ex).trans ((cast256_apply _ _ _).trans ((quarter_apply x0 x1 hL s k inb _ _).trans ?_))
  show prod x0 x1 (k + 4 * (x 2).val) (256 + 128 * s + (x 3).val) = prod x0 x1 (4 * (0 + 1 * (x 2).val) + (p + 1 * (x 1).val)) (256 + (q + 1 * (x 3).val))
  exact congrArg₂ (prod x0 x1) (by omega) (by omega)

/-- What the second fold's first step keeps: the last six slabs, each residue modulo 4 in 256 rows. -/
abbrev quarters : S6x1024x128.Idx → Elt Ideal .f32 := fun y =>
  prod x0 x1 (4 * ((y 1).val % 256) + (y 1).val / 256) (1024 + 128 * (y 0).val + (y 2).val)

theorem quarters_at (hL : ∀ y, View.canon L y = slabs x0 x1 y) (s k t o : ℕ) (inb)
    (inbo : ∀ a, (![t, o, 0] : Fin 3 → ℕ) a + (![1, 256, 128] : Fin 3 → ℕ) a ≤ S6x1024x128.size a)
    (hs : s = 6 + t) (ho : o = 256 * k) (x : (Rect.unit (s := S6x1024x128) ![t, o, 0] ![1, 256, 128] inbo).shape.Idx) :
    keep256 (m7.view.readCov L (⟨![s, k, 0], S1x256x128.size, ![1, 4, 1], inb⟩ : LoadRect S12x1024x128)) x
      = quarters x0 x1 ((Rect.unit (s := S6x1024x128) ![t, o, 0] ![1, 256, 128] inbo).emb x) := by
  have hx0 : (x 0).val = 0 := by have : (x 0).val < 1 := (x 0).isLt; omega
  have hx1 : (x 1).val < 256 := (x 1).isLt
  have ex : x = ix3 (0 : Fin 1) (x 1 : Fin 256) (x 2 : Fin 128) := (idx3 (a := 1) (b := 256) (d := 128) x).trans
    (congrArg (fun i : Fin 1 => ix3 i (x 1 : Fin 256) (x 2 : Fin 128)) (Fin.ext hx0))
  refine (congrArg (keep256 _) ex).trans ((keep256_apply _ _ _).trans ((quarter_apply x0 x1 hL s k inb _ _).trans ?_))
  show prod x0 x1 (k + 4 * (x 1).val) (256 + 128 * s + (x 2).val)
    = prod x0 x1 (4 * ((o + 1 * (x 1).val) % 256) + (o + 1 * (x 1).val) / 256) (1024 + 128 * (t + 1 * (x 0).val) + (0 + 1 * (x 2).val))
  exact congrArg₂ (prod x0 x1) (by omega) (by omega)

/-- The second fold: row `i` of residue `ρ` is row `16 i + ρ` of the block. -/
abbrev fold16 : S1x16x64x768.Idx → Elt Ideal .bf16 := fun y => prod x0 x1 (16 * (y 2).val + (y 1).val) (1024 + (y 3).val)

theorem fold16_at (hM : ∀ y, View.canon M y = quarters x0 x1 y) (s k p q : ℕ)
    (inb)
    (inbo : ∀ a, (![0, p, 0, q] : Fin 4 → ℕ) a + (![1, 1, 64, 128] : Fin 4 → ℕ) a ≤ S1x16x64x768.size a)
    (hk : k % 256 < 4) (hp : p = 4 * (k % 256) + k / 256) (hq : q = 128 * s)
    (x : (Rect.unit (s := S1x16x64x768) ![0, p, 0, q] ![1, 1, 64, 128] inbo).shape.Idx) :
    cast64 (m8.view.readCov M (⟨![s, k, 0], S1x64x128.size, ![1, 4, 1], inb⟩ : LoadRect S6x1024x128)) x
      = fold16 x0 x1 ((Rect.unit (s := S1x16x64x768) ![0, p, 0, q] ![1, 1, 64, 128] inbo).emb x) := by
  have hx0 : (x 0).val = 0 := by have : (x 0).val < 1 := (x 0).isLt; omega
  have hx1 : (x 1).val = 0 := by have : (x 1).val < 1 := (x 1).isLt; omega
  have hx2 : (x 2).val < 64 := (x 2).isLt
  have ex : x = ix4 (0 : Fin 1) (0 : Fin 1) (x 2 : Fin 64) (x 3 : Fin 128) := (idx4 (a := 1) (b := 1) (d := 64) (f := 128) x).trans
    (congrArg₂ (fun (i j : Fin 1) => ix4 i j (x 2 : Fin 64) (x 3 : Fin 128)) (Fin.ext hx0) (Fin.ext hx1))
  refine (congrArg (cast64 _) ex).trans ((cast64_apply _ _ _).trans ?_)
  refine (congrFun (View.readCov_eq_canon' m8.view M _) _).trans ((hM _).trans ?_)
  show prod x0 x1 (4 * ((k + 4 * (x 2).val) % 256) + (k + 4 * (x 2).val) / 256) (1024 + 128 * (s + 1 * 0) + (0 + 1 * (x 3).val))
    = prod x0 x1 (16 * (0 + 1 * (x 2).val) + (p + 1 * (x 1).val)) (1024 + (q + 1 * (x 3).val))
  exact congrArg₂ (prod x0 x1) (by omega) (by omega)

end

end Cert.MixIdeal.Proj
-- ==== Proof.MixValue.lean ====
module

public import proofs.«01_k».proof.Proof.MixBlock

/-!
The mixing projection, one grid point: the pieces its run stores make up the block of the product and, at the last column
block, the two folded blocks.
-/

@[expose] public section

set_option maxRecDepth 16384

noncomputable section

namespace Cert.MixIdeal.Proj

open Cert.MixIdeal Cert.MixIdeal.Gen
open Idealize.ShloMosaic Idealize.ShloMosaic.TcCoe Idealize.ShloMosaic.Tactic Idealize.SL Idealize.SL.Sem

section
variable (c : Dev nD) (i : grid0.Coords) (arg2 : Memref sig .tc .vmem S1024x2048 .bf16) (harg2 : arg2.IsWhole)
variable (arg3 : Memref sig .tc .vmem S1x2048x1792 .bf16) (harg3 : arg3.IsWhole)
variable (arg4 : Memref sig .tc .vmem S1024x1792 .bf16) (harg4 : arg4.IsWhole)
variable (arg5 : Memref sig .tc .vmem S1x4x256x768 .bf16) (harg5 : arg5.IsWhole)
variable (arg6 : Memref sig .tc .vmem S1x16x64x768 .bf16) (harg6 : arg6.IsWhole)
variable (arg7 : Memref sig .tc .vmem S12x1024x128 .f32) (harg7 : arg7.IsWhole)
variable (arg8 : Memref sig .tc .vmem S6x1024x128 .f32) (harg8 : arg8.IsWhole)
variable (x0 : Vec Ideal S1024x2048 .bf16) (x1 : Vec Ideal S1x2048x1792 .bf16)

/-- The product's block at a grid point of the first two column blocks. -/
theorem out_A (hc0 : ¬cond0_0 i) (y) :
    out0_A_2 c i arg2 harg2 arg3 harg3 arg4 harg4 arg5 harg5 arg6 harg6 arg7 harg7 arg8 harg8 hc0 x0 x1 y = block x0 x1 y := by
  refine (View.read_writes_junk_apply_eq_canon VO0_2 y _).trans ?_
  refine View.canon_apply_of_pieces (block x0 x1) _ ?_ y (cover0_A_2 _ _ _ _ _ _ _ _ _ _ _ _ _ _ _ _ _ _ _ y)
  unfold kernelRun0_A
  exact holds_cons _ _ _ (block_at x0 x1 harg2 harg3 _ _ _ _) <| holds_cons _ _ _ (block_at x0 x1 harg2 harg3 _ _ _ _) <|
    holds_cons _ _ _ (block_at x0 x1 harg2 harg3 _ _ _ _) <| holds_cons _ _ _ (block_at x0 x1 harg2 harg3 _ _ _ _) <| holds_nil _

/-- The product's block at a grid point of the last column block. -/
theorem out_B (hc0 : cond0_0 i) (y) :
    out0_B_2 c i arg2 harg2 arg3 harg3 arg4 harg4 arg5 harg5 arg6 harg6 arg7 harg7 arg8 harg8 hc0 x0 x1 y = block x0 x1 y := by
  refine (View.read_writes_junk_apply_eq_canon VO0_2 y _).trans ?_
  refine View.canon_apply_of_pieces (block x0 x1) _ ?_ y (cover0_B_2 _ _ _ _ _ _ _ _ _ _ _ _ _ _ _ _ _ _ _ y)
  unfold kernelRun0_B
  exact holds_cons _ _ _ (block_at x0 x1 harg2 harg3 _ _ _ _) <| holds_cons _ _ _ (block_at x0 x1 harg2 harg3 _ _ _ _) <|
    holds_cons _ _ _ (block_at x0 x1 harg2 harg3 _ _ _ _) <| holds_cons _ _ _ (block_at x0 x1 harg2 harg3 _ _ _ _) <| holds_nil _

/-- The slabs of 128 lanes kept from the product's last columns. -/
theorem slabs_canon (y) : View.canon (kernelRun0_B.sl.HS0_48 (F := Ideal) c arg2 harg2 arg3 harg3 x0 x1) y = slabs x0 x1 y := by
  refine View.canon_apply_of_pieces (slabs x0 x1) _ ?_ y (View.cover_of_tiledL (kernelRun0_B.sl.HS0_48 (F := Ideal) c arg2 harg2 arg3 harg3 x0 x1) S1x256x128.size (by sl_kernel_rfl) y)
  unfold kernelRun0_B.sl.HS0_48
  repeat' first
    | exact holds_nil _
    | refine holds_cons _ _ _ (slab_at x0 x1 harg2 harg3 _ _ _ _ (by decide) _) ?_

/-- The last six slabs with their rows grouped by residues modulo 4. -/
theorem quarters_canon (y) : View.canon (kernelRun0_B.sl.HS1_24 (F := Ideal) c arg2 harg2 arg3 harg3 arg7 x0 x1) y = quarters x0 x1 y := by
  refine View.canon_apply_of_pieces (quarters x0 x1) _ ?_ y (View.cover_of_tiledL (kernelRun0_B.sl.HS1_24 (F := Ideal) c arg2 harg2 arg3 harg3 arg7 x0 x1) S1x256x128.size (by sl_kernel_rfl) y)
  unfold kernelRun0_B.sl.HS1_24
  repeat' first
    | exact holds_nil _
    | refine holds_cons _ _ _ (quarters_at x0 x1 (slabs_canon c arg2 harg2 arg3 harg3 x0 x1) _ _ _ _ _ _ (by decide) (by decide)) ?_

/-- The block folded by residues modulo 4. -/
theorem fold4_B (hc0 : cond0_0 i) (y) :
    out0_B_3 c i arg2 harg2 arg3 harg3 arg4 harg4 arg5 harg5 arg6 harg6 arg7 harg7 arg8 harg8 hc0 x0 x1 y = fold4 x0 x1 y := by
  refine (View.read_writes_junk_apply_eq_canon VO0_3 y _).trans ?_
  refine View.canon_apply_of_pieces (fold4 x0 x1) _ ?_ y (cover0_B_3 _ _ _ _ _ _ _ _ _ _ _ _ _ _ _ _ _ _ _ y)
  unfold kernelRun0_B
  dsimp only
  repeat' first
    | exact holds_nil _
    | refine holds_cons _ _ _ (fold4_at x0 x1 (slabs_canon c arg2 harg2 arg3 harg3 x0 x1) _ _ _ _ _ _ (by decide) (by decide)) ?_

/-- The block folded by residues modulo 16. -/
theorem fold16_B (hc0 : cond0_0 i) (y) :
    out0_B_4 c i arg2 harg2 arg3 harg3 arg4 harg4 arg5 harg5 arg6 harg6 arg7 harg7 arg8 harg8 hc0 x0 x1 y = fold16 x0 x1 y := by
  refine (View.read_writes_junk_apply_eq_canon VO0_4 y _).trans ?_
  refine View.canon_apply_of_pieces (fold16 x0 x1) _ ?_ y (cover0_B_4 _ _ _ _ _ _ _ _ _ _ _ _ _ _ _ _ _ _ _ y)
  unfold kernelRun0_B
  dsimp only
  repeat' first
    | exact holds_nil _
    | refine holds_cons _ _ _ (fold16_at x0 x1 (quarters_canon c arg2 harg2 arg3 harg3 arg7 x0 x1) _ _ _ _ _ _ (by decide) (by decide) (by decide)) ?_

end

end Cert.MixIdeal.Proj
-- ==== Proof.MixArray.lean ====
module

public import proofs.«01_k».proof.Proof.MixValue
public import proofs.«01_k».proof.Proof.Gen.MixPlainIdeal.Read

/-!
The mixing projection, whole arrays: the block of each grid point is the corresponding part of the plain product, and the
two folded results are the plain product's last columns with the rows of each sequence grouped by residue.
-/

@[expose] public section

set_option maxRecDepth 16384

noncomputable section

namespace Cert.MixIdeal.Proj

open Cert.MixIdeal Cert.MixIdeal.Gen
open Idealize.ShloMosaic Idealize.ShloMosaic.TcCoe Idealize.SL Idealize.SL.Sem

/-- The whole product at a row and a column, numbers outside read as zero. -/
def total (h : S16384x2048.Idx → EReal) (w : S4x2048x5376.Idx → EReal) (R C : ℕ) : EReal :=
  if hb : R < 16384 ∧ C < 5376 then ∑ d : Fin 2048, h (ix2 ⟨R, hb.1⟩ d) * w (ix3 0 d ⟨C, hb.2⟩) else 0

section
variable (h : S16384x2048.Idx → EReal) (w : S4x2048x5376.Idx → EReal)

open Cert.MixPlainIdeal.Read

/-- The plain product at a row and a column. -/
theorem plain_apply (R : Fin 16384) (C : Fin 5376) : val_main_v5 (F := Ideal) h w (ix2 R C) = total h w R.val C.val := by
  rw [total, dif_pos ⟨R.isLt, C.isLt⟩]
  pointwise [val_main_v5, val_main_v4, val_main_v3, val_main_v2, val_main_v1, val_main_v0]

/-- The plain product at an index whose row and column are given as numbers. -/
theorem plain_at (y : S16384x5376.Idx) (R C : ℕ) (hR : (y 0).val = R) (hC : (y 1).val = C) :
    val_main_v5 (F := Ideal) h w y = total h w R C := by
  subst hR hC
  exact (congrArg (val_main_v5 (F := Ideal) h w) (idx2 y)).trans (plain_apply h w (y 0) (y 1))

/-- The plain result folded by residues modulo 4. -/
theorem plain_fold4 (b : Fin 2) (i : Fin 4) (r : Fin 2048) (l : Fin 768) :
    val_main_v8 (F := Ideal) h w (ix4 b i r l) = total h w (b.val * 8192 + r.val * 4 + i.val) (3840 + l.val) := by
  rw [val_main_v8_apply, val_main_v7_apply, val_main_v6_apply]
  refine plain_at h w _ _ _ ?_ ?_
  · show (((b.val * 2048 + r.val) * 4 + i.val) * 768 + l.val) / 768 = _
    omega
  · show 3840 + (((b.val * 2048 + r.val) * 4 + i.val) * 768 + l.val) % 768 = _
    omega

/-- The plain result folded by residues modulo 16. -/
theorem plain_fold16 (b : Fin 2) (i : Fin 16) (r : Fin 512) (l : Fin 768) :
    val_main_v11 (F := Ideal) h w (ix4 b i r l) = total h w (b.val * 8192 + r.val * 16 + i.val) (4608 + l.val) := by
  rw [val_main_v11_apply, val_main_v10_apply, val_main_v9_apply]
  refine plain_at h w _ _ _ ?_ ?_
  · show (((b.val * 512 + r.val) * 16 + i.val) * 768 + l.val) / 768 = _
    omega
  · show 4608 + (((b.val * 512 + r.val) * 16 + i.val) * 768 + l.val) % 768 = _
    omega

end

variable (m : (ℓ : Loc nD τ sig) → Buf (Elt Ideal) ℓ)

/-- The normed input and the weights as launched. -/
abbrev hArg (c : Dev nD) : S16384x2048.Idx → EReal := m ((c : Thread nD τ).loc main_arg0)
abbrev wArg (c : Dev nD) : S4x2048x5376.Idx → EReal := m ((c : Thread nD τ).loc main_arg1)

/-- The grid point's row block and column block. -/
abbrev ti (t : Fin cfg0.N) : ℕ := t.val / 3
abbrev tj (t : Fin cfg0.N) : ℕ := t.val % 3

theorem ix_0 : ∀ t : Fin cfg0.N, win0_0.index t = ![ti t, 0] :=
  (by decide +kernel : ∀ t : Fin grid0.N, win0_0.index t = ![t.val / 3, 0])
theorem ix_1 : ∀ t : Fin cfg0.N, win0_1.index t = ![0, 0, tj t] :=
  (by decide +kernel : ∀ t : Fin grid0.N, win0_1.index t = ![0, 0, t.val % 3])
theorem ix_2 : ∀ t : Fin cfg0.N, win0_2.index t = ![ti t, tj t] :=
  (by decide +kernel : ∀ t : Fin grid0.N, win0_2.index t = ![t.val / 3, t.val % 3])
theorem ix_3 : ∀ t : Fin cfg0.N, win0_3.index t = ![ti t / 8, 0, ti t % 8, 0] :=
  (by decide +kernel : ∀ t : Fin grid0.N, win0_3.index t = ![t.val / 3 / 8, 0, t.val / 3 % 8, 0])
theorem ix_4 : ∀ t : Fin cfg0.N, win0_4.index t = ![ti t / 8, 0, ti t % 8, 0] :=
  (by decide +kernel : ∀ t : Fin grid0.N, win0_4.index t = ![t.val / 3 / 8, 0, t.val / 3 % 8, 0])

theorem pt_lt (t : Fin cfg0.N) : t.val < 48 ∧ ti t = t.val / 3 ∧ tj t = t.val % 3 := ⟨t.isLt, rfl, rfl⟩

/-- The array's row and column of a block's row and column. -/
abbrev row (t : Fin cfg0.N) (r : Fin 1024) : Fin 16384 := ⟨ti t * 1024 + r.val, by have := pt_lt t; omega⟩
abbrev col (t : Fin cfg0.N) (l : Fin 1792) : Fin 5376 := ⟨tj t * 1792 + l.val, by have := pt_lt t; omega⟩

theorem blk_0 (c : Dev nD) (t : Fin cfg0.N) (r : Fin 1024) (x : Fin 2048) :
    (iblk m c 0 t : S1024x2048.Idx → EReal) (ix2 r x) = hArg m c (ix2 (row t r) x) := by
  blk_simp [iblk, ix_0]
  exact congrArg (hArg m c) (by blk_ext [ix_0])

theorem blk_1 (c : Dev nD) (t : Fin cfg0.N) (x : Fin 2048) (l : Fin 1792) :
    (iblk m c 1 t : S1x2048x1792.Idx → EReal) (ix3 0 x l) = wArg m c (ix3 0 x (col t l)) := by
  blk_simp [iblk, ix_1]
  exact congrArg (wArg m c) (by blk_ext [ix_1])

/-- The product of a grid point's blocks is the matching part of the whole product. -/
theorem prod_blk (c : Dev nD) (t : Fin cfg0.N) (R C : ℕ) (hR : R < 1024) (hC : C < 1792) :
    prod (iblk m c 0 t) (iblk m c 1 t) R C = total (hArg m c) (wArg m c) (ti t * 1024 + R) (tj t * 1792 + C) := by
  have ht := pt_lt t
  rw [prod, dif_pos ⟨hR, hC⟩, total, dif_pos ⟨by omega, by omega⟩]
  exact Finset.sum_congr rfl fun d _ => congrArg₂ (· * ·) (blk_0 m c t ⟨R, hR⟩ d) (blk_1 m c t d ⟨C, hC⟩)

/-- The plain results at the launched arrays. -/
abbrev want (c : Dev nD) : S16384x5376.Idx → EReal := Cert.MixPlainIdeal.Read.val_main_v5 (F := Ideal) (hArg m c) (wArg m c)
abbrev want4 (c : Dev nD) : S2x4x2048x768.Idx → EReal := Cert.MixPlainIdeal.Read.val_main_v8 (F := Ideal) (hArg m c) (wArg m c)
abbrev want16 (c : Dev nD) : S2x16x512x768.Idx → EReal := Cert.MixPlainIdeal.Read.val_main_v11 (F := Ideal) (hArg m c) (wArg m c)

/-- The product's block after a grid point, in either case. -/
theorem outs_block (c : Dev nD) (t : Fin cfg0.N) (y : S1024x1792.Idx) :
    ((outsAt0 m c t.val t.isLt).1 : S1024x1792.Idx → EReal) y = block (iblk m c 0 t) (iblk m c 1 t) y := by
  by_cases h0 : t.val % 3 = 2
  · have h1 := out_B c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk m c 0 t) (iblk m c 1 t) ((hcond0_0 t).mpr h0) y
    have h2 := congrFun (congrArg (fun o => o.1) (outsAt0_B m c t h0)) y
    dsimp only at h2
    exact h2.trans h1
  · have h1 := out_A c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk m c 0 t) (iblk m c 1 t) (fun h => h0 ((hcond0_0 t).mp h)) y
    have h2 := congrFun (congrArg (fun o => o.1) (outsAt0_A m c t h0)) y
    dsimp only at h2
    exact h2.trans h1

/-- The folded blocks after a grid point of the last column block. -/
theorem outs_fold4 (c : Dev nD) (t : Fin cfg0.N) (h0 : t.val % 3 = 2) (y : S1x4x256x768.Idx) :
    ((outsAt0 m c t.val t.isLt).2.1 : S1x4x256x768.Idx → EReal) y = fold4 (iblk m c 0 t) (iblk m c 1 t) y := by
  have h1 := fold4_B c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk m c 0 t) (iblk m c 1 t) ((hcond0_0 t).mpr h0) y
  have h2 := congrFun (congrArg (fun o => o.2.1) (outsAt0_B m c t h0)) y
  dsimp only at h2
  exact h2.trans h1

theorem outs_fold16 (c : Dev nD) (t : Fin cfg0.N) (h0 : t.val % 3 = 2) (y : S1x16x64x768.Idx) :
    ((outsAt0 m c t.val t.isLt).2.2 : S1x16x64x768.Idx → EReal) y = fold16 (iblk m c 0 t) (iblk m c 1 t) y := by
  have h1 := fold16_B c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) (iblk m c 0 t) (iblk m c 1 t) ((hcond0_0 t).mpr h0) y
  have h2 := congrFun (congrArg (fun o => o.2.2) (outsAt0_B m c t h0)) y
  dsimp only at h2
  exact h2.trans h1

/-- The product, whole array. -/
theorem array (c : Dev nD) : (dats m 0 c).arrAt 2 cfg0.N = want m c := by
  refine (dats m 0 c).arrAt_eq_of_covers 2 _ (by decide +kernel) fun t hf y => ?_
  blk_simp
  rw [after0_2]
  refine (outs_block m c t y).trans ?_
  refine (prod_blk m c t _ _ (y 0).isLt (y 1).isLt).trans ?_
  refine (plain_apply (hArg m c) (wArg m c) (row t (y 0)) (col t (y 1))).symm.trans ?_
  exact congrArg (want m c) (by blk_ext [ix_2])

/-- The part of the product that a grid point folds, in the plain folded result. -/
theorem fold4_part (c : Dev nD) (t : Fin cfg0.N) (h0 : t.val % 3 = 2) (i : Fin 4) (r : Fin 256) (l : Fin 768) :
    prod (iblk m c 0 t) (iblk m c 1 t) (4 * r.val + i.val) (256 + l.val)
      = want4 m c (ix4 ⟨ti t / 8, by have := pt_lt t; omega⟩ i ⟨ti t % 8 * 256 + r.val, by omega⟩ l) := by
  have ht := pt_lt t
  refine (prod_blk m c t (4 * r.val + i.val) (256 + l.val) (by omega) (by omega)).trans (Eq.trans ?_ (plain_fold4 (hArg m c) (wArg m c) _ _ _ _).symm)
  exact congrArg₂ (total (hArg m c) (wArg m c)) (by
    show ti t * 1024 + (4 * r.val + i.val) = ti t / 8 * 8192 + (ti t % 8 * 256 + r.val) * 4 + i.val
    omega) (by omega)

theorem fold16_part (c : Dev nD) (t : Fin cfg0.N) (h0 : t.val % 3 = 2) (i : Fin 16) (r : Fin 64) (l : Fin 768) :
    prod (iblk m c 0 t) (iblk m c 1 t) (16 * r.val + i.val) (1024 + l.val)
      = want16 m c (ix4 ⟨ti t / 8, by have := pt_lt t; omega⟩ i ⟨ti t % 8 * 64 + r.val, by omega⟩ l) := by
  have ht := pt_lt t
  refine (prod_blk m c t (16 * r.val + i.val) (1024 + l.val) (by omega) (by omega)).trans (Eq.trans ?_ (plain_fold16 (hArg m c) (wArg m c) _ _ _ _).symm)
  exact congrArg₂ (total (hArg m c) (wArg m c)) (by
    show ti t * 1024 + (16 * r.val + i.val) = ti t / 8 * 8192 + (ti t % 8 * 64 + r.val) * 16 + i.val
    omega) (by omega)

/-- The group folded by residues modulo 4, whole array. -/
theorem array4 (c : Dev nD) : (dats m 0 c).arrAt 3 cfg0.N = want4 m c := by
  refine (dats m 0 c).arrAt_eq_of_covers 3 _ (by decide +kernel) fun t hf y => ?_
  have h0 := (flush0_3 t).mp hf
  blk_simp
  rw [after0_3]
  refine (outs_fold4 m c t h0 y).trans ?_
  refine (fold4_part m c t h0 (y 1) (y 2) (y 3)).trans ?_
  exact congrArg (want4 m c) (by blk_ext [ix_3])

/-- The group folded by residues modulo 16, whole array. -/
theorem array16 (c : Dev nD) : (dats m 0 c).arrAt 4 cfg0.N = want16 m c := by
  refine (dats m 0 c).arrAt_eq_of_covers 4 _ (by decide +kernel) fun t hf y => ?_
  have h0 := (flush0_4 t).mp hf
  blk_simp
  rw [after0_4]
  refine (outs_fold16 m c t h0 y).trans ?_
  refine (fold16_part m c t h0 (y 1) (y 2) (y 3)).trans ?_
  exact congrArg (want16 m c) (by blk_ext [ix_4])

end Cert.MixIdeal.Proj
-- ==== Proof.MergeMath.lean ====
module

public import proofs.«01_k».proof.Proof.Step

/-!
The merge of the four branches, one row at a time: the three classes of the second branch weighted by the softmax of
their logarithms, the gated sum of the four projected branches, the residual sum. Weights written as powers of two of
logarithms to base two and one division at the end are the exponentials divided one by one.
-/

@[expose] public section

set_option maxRecDepth 16384

noncomputable section

namespace Cert.Merging

open Idealize.ShloMosaic

/-- The change of base from `e` to two. -/
def base : EReal := (((Real.log 2)⁻¹ : ℝ) : EReal)

/-- Three values weighted by powers of two, divided by the sum of the weights. -/
def weighted (a b c A B C : EReal) : EReal :=
  Ideal.div
    (Ideal.exp2 (a * base - max (max (a * base) (b * base)) (c * base)) * A
      + Ideal.exp2 (b * base - max (max (a * base) (b * base)) (c * base)) * B
      + Ideal.exp2 (c * base - max (max (a * base) (b * base)) (c * base)) * C)
    (Ideal.exp2 (a * base - max (max (a * base) (b * base)) (c * base))
      + Ideal.exp2 (b * base - max (max (a * base) (b * base)) (c * base))
      + Ideal.exp2 (c * base - max (max (a * base) (b * base)) (c * base)))

/-- Three values weighted by the softmax. -/
def soft (a b c A B C : EReal) : EReal :=
  Ideal.div (Ideal.exp (a - max (max a b) c))
      (Ideal.exp (a - max (max a b) c) + Ideal.exp (b - max (max a b) c) + Ideal.exp (c - max (max a b) c)) * A
    + Ideal.div (Ideal.exp (b - max (max a b) c))
      (Ideal.exp (a - max (max a b) c) + Ideal.exp (b - max (max a b) c) + Ideal.exp (c - max (max a b) c)) * B
    + Ideal.div (Ideal.exp (c - max (max a b) c))
      (Ideal.exp (a - max (max a b) c) + Ideal.exp (b - max (max a b) c) + Ideal.exp (c - max (max a b) c)) * C

/-- A power of two of a difference scaled by `1 / ln 2` is the exponential of the difference. -/
theorem exp2_base (x y : ℝ) : Ideal.exp2 ((x : EReal) * base - (y : EReal) * base) = ((Real.exp (x - y) : ℝ) : EReal) := by
  unfold base
  rw [← EReal.coe_mul, ← EReal.coe_mul, ← EReal.coe_sub, Ideal.exp2_coe]
  refine congrArg Real.toEReal ?_
  show (2 : ℝ) ^ (x * (Real.log 2)⁻¹ - y * (Real.log 2)⁻¹) = _
  have hlog : Real.log 2 ≠ 0 := (Real.log_pos (by norm_num)).ne'
  rw [Real.rpow_def_of_pos (by norm_num)]
  congr 1
  field_simp

/-- Scaling by `1 / ln 2` goes through the maximum. -/
theorem max_base (x y : ℝ) : max ((x : EReal) * base) ((y : EReal) * base) = ((max x y : ℝ) : EReal) * base := by
  unfold base
  rw [← EReal.coe_mul, ← EReal.coe_mul, ← EReal.coe_mul, max_mul_of_nonneg _ _ (inv_nonneg.2 (Real.log_nonneg (by norm_num)))]
  exact (EReal.coe_strictMono.monotone.map_max).symm

theorem weighted_soft (a b c : ℝ) (A B C : EReal) : weighted a b c A B C = soft a b c A B C := by
  have hm : max (max (a : EReal) b) c = ((max (max a b) c : ℝ) : EReal) := by
    rw [← EReal.coe_strictMono.monotone.map_max, ← EReal.coe_strictMono.monotone.map_max]
  unfold weighted soft
  rw [max_base, max_base, hm]
  simp only [exp2_base, ← EReal.coe_sub, Ideal.exp_coe]
  set μ := max (max a b) c
  have hs : 0 < Real.exp (a - μ) + Real.exp (b - μ) + Real.exp (c - μ) := by positivity
  rw [← EReal.coe_add, ← EReal.coe_add]
  have h0 : ((Real.exp (a - μ) + Real.exp (b - μ) + Real.exp (c - μ) : ℝ) : EReal) ≠ 0 := by
    rw [Ne, EReal.coe_eq_zero]; exact hs.ne'
  unfold Ideal.div
  simp only [if_neg h0]
  rw [← EReal.coe_inv]
  set s : ℝ := (Real.exp (a - μ) + Real.exp (b - μ) + Real.exp (c - μ))⁻¹
  have hn : (0 : EReal) ≤ (s : EReal) := EReal.coe_nonneg.2 (inv_nonneg.2 hs.le)
  rw [EReal.right_distrib_of_nonneg_of_ne_top hn (EReal.coe_ne_top _), EReal.right_distrib_of_nonneg_of_ne_top hn (EReal.coe_ne_top _)]
  refine congrArg₂ (· + ·) (congrArg₂ (· + ·) ?_ ?_) ?_ <;> exact mul_right_comm _ _ _

/-- One column of the gated sum of the four projected branches. -/
def gated (ya yc yd : Fin 512 → EReal) (yb : Fin 256 → EReal) (ga gb gc gd : Fin 2048 → EReal)
    (wa wc wd : Fin 512 → Fin 2048 → EReal) (wb : Fin 256 → Fin 2048 → EReal) (k : Fin 2048) : EReal :=
  ga k * (∑ d, ya d * wa d k) + gb k * (∑ d, yb d * wb d k) + gc k * (∑ d, yc d * wc d k) + gd k * (∑ d, yd d * wd d k)

/-- One column of the residual sum. -/
def summed (x : EReal) (u : Fin 2048 → EReal) (wo : Fin 2048 → Fin 2048 → EReal) (l : Fin 2048) : EReal :=
  x + ∑ k, u k * wo k l

end Cert.Merging
-- ==== Proof.MergePayload.lean ====
module

public import proofs.«01_k».proof.Proof.MergeMath
public import proofs.«01_k».proof.Proof.Gen.MergeIdeal.Skeleton
public import Idealize.ShloMosaic.Lib.Pipeline.Value
public import Idealize.ShloMosaic.Lib.Pointwise

/-!
The merge's arithmetic on blocks of 256 rows, read at a row and a column.
-/

@[expose] public section

set_option maxRecDepth 16384

noncomputable section

namespace Cert.MergeIdeal.Rows

open Cert.MergeIdeal Cert.MergeIdeal.Gen Cert.Merging Cert.FeedForward
open Idealize.ShloMosaic

theorem named_base : Named.named (F := Ideal) κ "log2_e" (φ := .f32) 0x3FB8AA3B#32 = base :=
  IdealRules.named_const.ideal_named_scalar _ _ _ _ rfl

/-- The class whose rows are in order as it comes. -/
abbrev plain (v : Vec Ideal S1x1x256x256 .f32) : FVec Ideal S256x256 .f32 := shapeCast S256x256 v shapeCasts_S1x1x256x256_S256x256
theorem plain_apply (v : Vec Ideal S1x1x256x256 .f32) (r j : Fin 256) : plain v (ix2 r j) = v (ix4 0 0 r j) := by
  unfold plain
  pointwise

/-- Two slabs of 128 lanes side by side. -/
abbrev joined (lo hi : Vec Ideal S1x1x256x128 .f32) : FVec Ideal S256x256 .f32 := k0_pay50 lo hi

abbrev flat (v : Vec Ideal S1x1x256x128 .f32) : FVec Ideal S256x128 .f32 := shapeCast S256x128 v shapeCasts_S1x1x256x128_S256x128
theorem flat_apply (v : Vec Ideal S1x1x256x128 .f32) (r : Fin 256) (l : Fin 128) : flat v (ix2 r l) = v (ix4 0 0 r l) := by
  unfold flat
  pointwise

theorem joined_apply (lo hi : Vec Ideal S1x1x256x128 .f32) (f : Fin 256 → Fin 256 → EReal)
    (hlo : ∀ (r : Fin 256) (l : Fin 128), lo (ix4 0 0 r l) = f r ⟨l.val, by omega⟩)
    (hhi : ∀ (r : Fin 256) (l : Fin 128), hi (ix4 0 0 r l) = f r ⟨128 + l.val, by omega⟩) (r j : Fin 256) :
    joined lo hi (ix2 r j) = f r j := by
  show concatenate S256x256 1 [⟨S256x128, flat lo⟩, ⟨S256x128, flat hi⟩] concatenates_S256x128_S256x128_S256x256_d1 (ix2 r j) = f r j
  by_cases h : j.val < 128
  · refine (concatenate_pair_apply_left (t := S256x256) (s₁ := S256x128) (s₂ := S256x128) 1 (flat lo) (flat hi) _ (ix2 r j) rfl
      (ix2 r (⟨j.val, h⟩ : Fin 128)) fun b => ?_).trans ((flat_apply lo r _).trans (hlo r _))
    match b with
    | ⟨0, _⟩ => rfl
    | ⟨1, _⟩ => rfl
  · refine (concatenate_pair_apply_right (t := S256x256) (s₁ := S256x128) (s₂ := S256x128) 1 (flat lo) (flat hi) _ (ix2 r j) rfl rfl
      (ix2 r (⟨j.val - 128, by omega⟩ : Fin 128)) (fun b hb => ?_) ?_).trans ((flat_apply hi r _).trans ((hhi r _).trans ?_))
    · match b with
      | ⟨0, _⟩ => rfl
      | ⟨1, _⟩ => exact absurd rfl hb
    · show j.val - 128 + 128 = j.val
      omega
    · exact congrArg (f r) (Fin.ext (by show 128 + (j.val - 128) = j.val; omega))

/-- The second branch: the three classes weighted. -/
def branch (l0 : Vec Ideal S1x1x256x256 .f32) (L1 L2 : FVec Ideal S256x256 .f32) (o0 : Vec Ideal S1x1x256x256 .f32)
    (O1 O2 : FVec Ideal S256x256 .f32) : FVec Ideal S256x256 .f32 := fun y =>
  weighted (plain l0 y) (L1 y) (L2 y) (plain o0 y) (O1 y) (O2 y)

/-- The gated sum of the four projected branches, the fourth left out. -/
def three (yb : FVec Ideal S256x256 .f32) (ya : Vec Ideal S256x512 .bf16) (ga : Vec Ideal S256x2048 .bf16) (wa : Vec Ideal S1x512x2048 .bf16)
    (gb : Vec Ideal S256x2048 .bf16) (wb : Vec Ideal S1x256x2048 .bf16) (yc : Vec Ideal S256x512 .bf16) (gc : Vec Ideal S256x2048 .bf16)
    (wc : Vec Ideal S1x512x2048 .bf16) : FVec Ideal S256x2048 .f32 :=
  addf (addf (mulf (extf .f32 (ga : FVec Ideal S256x2048 .bf16) bitsLt_bf16_f32) (matmul (φ₁ := .bf16) (φ₂ := .bf16) dot_S256x512_S512x2048_S256x2048_1_0_0_1_n_n none (ya : FVec Ideal S256x512 .bf16)
        (shapeCast S512x2048 wa shapeCasts_S1x512x2048_S512x2048 : FVec Ideal S512x2048 .bf16) (constant S256x2048 .f32 0x00000000#32)))
      (mulf (extf .f32 (gb : FVec Ideal S256x2048 .bf16) bitsLt_bf16_f32) (matmul (φ₁ := .bf16) (φ₂ := .bf16) dot_S256x256_S256x2048_S256x2048_1_0_0_1_n_n none (truncf .bf16 yb bitsLt_bf16_f32)
        (shapeCast S256x2048 wb shapeCasts_S1x256x2048_S256x2048 : FVec Ideal S256x2048 .bf16) (constant S256x2048 .f32 0x00000000#32))))
    (mulf (extf .f32 (gc : FVec Ideal S256x2048 .bf16) bitsLt_bf16_f32) (matmul (φ₁ := .bf16) (φ₂ := .bf16) dot_S256x512_S512x2048_S256x2048_1_0_0_1_n_n none (yc : FVec Ideal S256x512 .bf16)
        (shapeCast S512x2048 wc shapeCasts_S1x512x2048_S512x2048 : FVec Ideal S512x2048 .bf16) (constant S256x2048 .f32 0x00000000#32)))

theorem three_apply (yb : FVec Ideal S256x256 .f32) (ya : Vec Ideal S256x512 .bf16) (ga : Vec Ideal S256x2048 .bf16)
    (wa : Vec Ideal S1x512x2048 .bf16) (gb : Vec Ideal S256x2048 .bf16) (wb : Vec Ideal S1x256x2048 .bf16) (yc : Vec Ideal S256x512 .bf16)
    (gc : Vec Ideal S256x2048 .bf16) (wc : Vec Ideal S1x512x2048 .bf16) (r : Fin 256) (k : Fin 2048) :
    three yb ya ga wa gb wb yc gc wc (ix2 r k)
      = ga (ix2 r k) * (∑ d : Fin 512, ya (ix2 r d) * wa (ix3 0 d k)) + gb (ix2 r k) * (∑ d : Fin 256, yb (ix2 r d) * wb (ix3 0 d k))
        + gc (ix2 r k) * (∑ d : Fin 512, yc (ix2 r d) * wc (ix3 0 d k)) := by
  pointwise [three]

theorem sum_apply (u : FVec Ideal S256x2048 .f32) (yd : Vec Ideal S256x512 .bf16) (gd : Vec Ideal S256x2048 .bf16)
    (wd : Vec Ideal S1x512x2048 .bf16) (x : Vec Ideal S256x2048 .f32) (wo : Vec Ideal S1x2048x2048 .bf16) (r : Fin 256) (l : Fin 2048) :
    (k0_pay104 u yd gd wd x wo : FVec Ideal S256x2048 .f32) (ix2 r l)
      = x (ix2 r l) + ∑ k : Fin 2048, (u (ix2 r k) + gd (ix2 r k) * ∑ d : Fin 512, yd (ix2 r d) * wd (ix3 0 d k)) * wo (ix3 0 k l) := by
  pointwise [k0_pay104]

/-- The normed rows of a block, at a row and a column. -/
theorem norm_apply (u : FVec Ideal S256x2048 .f32) (yd : Vec Ideal S256x512 .bf16) (gd : Vec Ideal S256x2048 .bf16)
    (wd : Vec Ideal S1x512x2048 .bf16) (x : Vec Ideal S256x2048 .f32) (wo : Vec Ideal S1x2048x2048 .bf16) (g : Vec Ideal S1x2048 .f32)
    (r : Fin 256) (l : Fin 2048) :
    (k0_pay1 (k0_pay104 u yd gd wd x wo) (k0_pay105 g) (k0_pay106 u yd gd wd x wo) (Scalar.ofBits .f32 0x358637BD#32) : FVec Ideal S256x2048 .bf16)
        (ix2 r l)
      = normed (fun k => (k0_pay104 u yd gd wd x wo : FVec Ideal S256x2048 .f32) (ix2 r k)) (g (ix2 0 l)) l := by
  unfold normed
  unfold k0_pay106
  generalize (k0_pay104 u yd gd wd x wo : FVec Ideal S256x2048 .f32) = v
  pointwise [k0_pay1, k0_pay105]

/-- The second branch from the blocks as the grid point computes it. -/
theorem three_eq (l0 : Vec Ideal S1x1x256x256 .f32) (a b a' b' : Vec Ideal S1x1x256x128 .f32) (o0 : Vec Ideal S1x1x256x256 .f32)
    (p q p' q' : Vec Ideal S1x1x256x128 .f32) (ya : Vec Ideal S256x512 .bf16) (ga : Vec Ideal S256x2048 .bf16)
    (wa : Vec Ideal S1x512x2048 .bf16) (gb : Vec Ideal S256x2048 .bf16) (wb : Vec Ideal S1x256x2048 .bf16) (yc : Vec Ideal S256x512 .bf16)
    (gc : Vec Ideal S256x2048 .bf16) (wc : Vec Ideal S1x512x2048 .bf16) :
    (k0_pay103 (k0_pay53 (k0_pay2 l0) (k0_pay13 a b) (k0_pay50 a' b') (Named.named κ "log2_e" 0x3FB8AA3B#32))
        (k0_pay54 (k0_pay2 l0) (k0_pay13 a b) (k0_pay50 a' b') (Named.named κ "log2_e" 0x3FB8AA3B#32))
        (k0_pay55 (k0_pay2 l0) (k0_pay13 a b) (k0_pay50 a' b') (Named.named κ "log2_e" 0x3FB8AA3B#32))
        (k0_pay65 (k0_pay54 (k0_pay2 l0) (k0_pay13 a b) (k0_pay50 a' b') (Named.named κ "log2_e" 0x3FB8AA3B#32))
          (k0_pay56 (k0_pay2 l0) (k0_pay13 a b) (k0_pay50 a' b') (Named.named κ "log2_e" 0x3FB8AA3B#32) o0) p q)
        (k0_pay102 p') q' ya ga wa gb wb yc gc wc : FVec Ideal S256x2048 .f32)
      = three (branch l0 (joined a b) (joined a' b') o0 (joined p q) (joined p' q')) ya ga wa gb wb yc gc wc := by
  refine Eq.trans (b := three (divf (addf (addf (mulf (k0_pay53 (k0_pay2 l0) (k0_pay13 a b) (k0_pay50 a' b') (Named.named κ "log2_e" 0x3FB8AA3B#32)) (plain o0))
      (mulf (k0_pay54 (k0_pay2 l0) (k0_pay13 a b) (k0_pay50 a' b') (Named.named κ "log2_e" 0x3FB8AA3B#32)) (joined p q)))
      (mulf (k0_pay55 (k0_pay2 l0) (k0_pay13 a b) (k0_pay50 a' b') (Named.named κ "log2_e" 0x3FB8AA3B#32)) (joined p' q')))
    (addf (addf (k0_pay53 (k0_pay2 l0) (k0_pay13 a b) (k0_pay50 a' b') (Named.named κ "log2_e" 0x3FB8AA3B#32))
      (k0_pay54 (k0_pay2 l0) (k0_pay13 a b) (k0_pay50 a' b') (Named.named κ "log2_e" 0x3FB8AA3B#32)))
      (k0_pay55 (k0_pay2 l0) (k0_pay13 a b) (k0_pay50 a' b') (Named.named κ "log2_e" 0x3FB8AA3B#32)))) ya ga wa gb wb yc gc wc) rfl ?_
  refine congrArg (fun v => three v ya ga wa gb wb yc gc wc) (funext fun y => ?_)
  unfold branch weighted
  rw [← named_base]
  rfl

end Cert.MergeIdeal.Rows
-- ==== Proof.MergeStage.lean ====
module

public import proofs.«01_k».proof.Proof.MergePayload
public import proofs.«01_k».proof.Proof.MixBlock
public import proofs.«01_k».proof.Proof.Gen.MergeIdeal.Value

/-!
The classes whose rows are grouped by residues are put in token order through a staging array: the rows of residue `ρ`
modulo `d` are stored at the rows `ρ, ρ + d, …` of a slot. After a slot's stores its row `R` is row `R / d` of residue
`R % d`.
-/

@[expose] public section

set_option maxRecDepth 16384

noncomputable section

namespace Cert.MergeIdeal.Rows

open Cert.MergeIdeal Cert.MergeIdeal.Gen Cert.MixIdeal.Proj
open Idealize.ShloMosaic Idealize.ShloMosaic.TcCoe Idealize.ShloMosaic.Tactic Idealize.SL Idealize.SL.Sem

/-- Row `R` and column `C` of a class grouped by residues modulo 4 or modulo 16, in token order. -/
def tok4 (X : Vec Ideal S1x4x64x256 .f32) (R C : ℕ) : EReal :=
  if h : R < 256 ∧ C < 256 then X (ix4 (0 : Fin 1) (⟨R % 4, by omega⟩ : Fin 4) (⟨R / 4, by omega⟩ : Fin 64) (⟨C, h.2⟩ : Fin 256)) else 0
def tok16 (X : Vec Ideal S1x16x16x256 .f32) (R C : ℕ) : EReal :=
  if h : R < 256 ∧ C < 256 then X (ix4 (0 : Fin 1) (⟨R % 16, by omega⟩ : Fin 16) (⟨R / 16, by omega⟩ : Fin 16) (⟨C, h.2⟩ : Fin 256)) else 0

/-- What a store of 64 or of 16 rows writes. -/
abbrev keep64 (v : Vec Ideal S1x1x64x128 .f32) : FVec Ideal S1x1x64x128 .f32 := k0_pay3 v
abbrev keep16 (v : Vec Ideal S1x1x16x128 .f32) : FVec Ideal S1x1x16x128 .f32 := k0_pay101 v
theorem keep64_apply (v : Vec Ideal S1x1x64x128 .f32) (i : Fin 64) (l : Fin 128) : keep64 v (ix4 0 0 i l) = v (ix4 0 0 i l) := by
  pointwise [k0_pay3]
theorem keep16_apply (v : Vec Ideal S1x1x16x128 .f32) (i : Fin 16) (l : Fin 128) : keep16 v (ix4 0 0 i l) = v (ix4 0 0 i l) := by
  pointwise [k0_pay101]

/-- An array of slots holds a class in one of them. -/
abbrev Slot (G : S4x2x256x128.Idx → Elt Ideal .f32) (s : ℕ) (T : ℕ → ℕ → EReal) : Prop :=
  ∀ y : S4x2x256x128.Idx, (y 0).val = s → G y = T (y 2).val (128 * (y 1).val + (y 3).val)

theorem at4 {G : S4x2x256x128.Idx → Elt Ideal .f32} {m : Memref sig .tc .vmem S1x4x64x256 .f32} (h : m.IsWhole) (X : Vec Ideal S1x4x64x256 .f32)
    (s e ρ q : ℕ) (hG : Slot G s (tok4 X))
    (inb : ∀ a, (![0, ρ, 0, q] : Fin 4 → ℕ) a + (![1, 1, 64, 128] : Fin 4 → ℕ) a ≤ S1x4x64x256.size a) (inbo) (hp)
    (hq : q = 128 * e)
    (x : (⟨(⟨![s, e, ρ, 0], S1x1x64x128.size, ![1, 1, 4, 1], inbo⟩ : LoadRect S4x2x256x128), hp⟩ : Rect S4x2x256x128).shape.Idx) :
    keep64 (View.readAt (Elt Ideal) m.view (Rect.unit (s := S1x4x64x256) ![0, ρ, 0, q] S1x1x64x128.size inb).toLoadRect (h.unread X)) x
      = G ((⟨(⟨![s, e, ρ, 0], S1x1x64x128.size, ![1, 1, 4, 1], inbo⟩ : LoadRect S4x2x256x128), hp⟩ : Rect S4x2x256x128).emb x) := by
  have hx0 : (x 0).val = 0 := by have : (x 0).val < 1 := (x 0).isLt; omega
  have hx1 : (x 1).val = 0 := by have : (x 1).val < 1 := (x 1).isLt; omega
  have hx2 : (x 2).val < 64 := (x 2).isLt
  have hx3 : (x 3).val < 128 := (x 3).isLt
  have hρ : ρ + 1 ≤ 4 := inb 1
  have hq' : q + 128 ≤ 256 := inb 3
  have ex : x = ix4 (0 : Fin 1) (0 : Fin 1) (x 2 : Fin 64) (x 3 : Fin 128) := (idx4 (a := 1) (b := 1) (d := 64) (f := 128) x).trans
    (congrArg₂ (fun (i j : Fin 1) => ix4 i j (x 2 : Fin 64) (x 3 : Fin 128)) (Fin.ext hx0) (Fin.ext hx1))
  refine (congrArg (keep64 _) ex).trans ((keep64_apply _ _ _).trans ((congrFun (h.read_unread X) _).trans (Eq.symm ((hG _ ?_).trans ?_))))
  · show s + 1 * (x 0).val = s
    omega
  · show tok4 X (ρ + 4 * (x 2).val) (128 * (e + 1 * (x 1).val) + (0 + 1 * (x 3).val)) = _
    unfold tok4
    rw [dif_pos ⟨by omega, by omega⟩]
    refine congrArg X ?_
    funext a
    match a with
    | ⟨0, _⟩ => rfl
    | ⟨1, _⟩ => exact Fin.ext (show (ρ + 4 * (x 2).val) % 4 = ρ + 1 * 0 by omega)
    | ⟨2, _⟩ => exact Fin.ext (show (ρ + 4 * (x 2).val) / 4 = 0 + 1 * (x 2).val by omega)
    | ⟨3, _⟩ => exact Fin.ext (show 128 * (e + 1 * (x 1).val) + (0 + 1 * (x 3).val) = q + 1 * (x 3).val by omega)

theorem at16 {G : S4x2x256x128.Idx → Elt Ideal .f32} {m : Memref sig .tc .vmem S1x16x16x256 .f32} (h : m.IsWhole) (X : Vec Ideal S1x16x16x256 .f32)
    (s e ρ q : ℕ) (hG : Slot G s (tok16 X))
    (inb : ∀ a, (![0, ρ, 0, q] : Fin 4 → ℕ) a + (![1, 1, 16, 128] : Fin 4 → ℕ) a ≤ S1x16x16x256.size a) (inbo) (hp)
    (hq : q = 128 * e)
    (x : (⟨(⟨![s, e, ρ, 0], S1x1x16x128.size, ![1, 1, 16, 1], inbo⟩ : LoadRect S4x2x256x128), hp⟩ : Rect S4x2x256x128).shape.Idx) :
    keep16 (View.readAt (Elt Ideal) m.view (Rect.unit (s := S1x16x16x256) ![0, ρ, 0, q] S1x1x16x128.size inb).toLoadRect (h.unread X)) x
      = G ((⟨(⟨![s, e, ρ, 0], S1x1x16x128.size, ![1, 1, 16, 1], inbo⟩ : LoadRect S4x2x256x128), hp⟩ : Rect S4x2x256x128).emb x) := by
  have hx0 : (x 0).val = 0 := by have : (x 0).val < 1 := (x 0).isLt; omega
  have hx1 : (x 1).val = 0 := by have : (x 1).val < 1 := (x 1).isLt; omega
  have hx2 : (x 2).val < 16 := (x 2).isLt
  have hx3 : (x 3).val < 128 := (x 3).isLt
  have hρ : ρ + 1 ≤ 16 := inb 1
  have hq' : q + 128 ≤ 256 := inb 3
  have ex : x = ix4 (0 : Fin 1) (0 : Fin 1) (x 2 : Fin 16) (x 3 : Fin 128) := (idx4 (a := 1) (b := 1) (d := 16) (f := 128) x).trans
    (congrArg₂ (fun (i j : Fin 1) => ix4 i j (x 2 : Fin 16) (x 3 : Fin 128)) (Fin.ext hx0) (Fin.ext hx1))
  refine (congrArg (keep16 _) ex).trans ((keep16_apply _ _ _).trans ((congrFun (h.read_unread X) _).trans (Eq.symm ((hG _ ?_).trans ?_))))
  · show s + 1 * (x 0).val = s
    omega
  · show tok16 X (ρ + 16 * (x 2).val) (128 * (e + 1 * (x 1).val) + (0 + 1 * (x 3).val)) = _
    unfold tok16
    rw [dif_pos ⟨by omega, by omega⟩]
    refine congrArg X ?_
    funext a
    match a with
    | ⟨0, _⟩ => rfl
    | ⟨1, _⟩ => exact Fin.ext (show (ρ + 16 * (x 2).val) % 16 = ρ + 1 * 0 by omega)
    | ⟨2, _⟩ => exact Fin.ext (show (ρ + 16 * (x 2).val) / 16 = 0 + 1 * (x 2).val by omega)
    | ⟨3, _⟩ => exact Fin.ext (show 128 * (e + 1 * (x 1).val) + (0 + 1 * (x 3).val) = q + 1 * (x 3).val by omega)

/-- The offset, the row count and the row step of a rectangle of whole lanes in a slot. -/
def place (r : Rect S4x2x256x128) : List ℕ :=
  [r.off (0 : Fin 4), r.off (1 : Fin 4), r.off (2 : Fin 4), r.off (3 : Fin 4), r.size (0 : Fin 4), r.size (1 : Fin 4), r.size (2 : Fin 4),
    r.size (3 : Fin 4), r.stride (0 : Fin 4), r.stride (1 : Fin 4), r.stride (2 : Fin 4), r.stride (3 : Fin 4)]

/-- Both slabs of every residue are among the pieces. -/
def listed (L : List (View.Piece (Elt Ideal) S4x2x256x128 .f32)) (s d n : ℕ) : Bool :=
  (List.range (2 * d)).all fun e => L.any fun p => place p.1 == [s, e % 2, e / 2, 0, 1, 1, n, 128, 1, 1, d, 1]

theorem covered (L : List (View.Piece (Elt Ideal) S4x2x256x128 .f32)) (s d n : ℕ) (hd : 0 < d) (hn : d * n = 256) (h : listed L s d n = true)
    (y : S4x2x256x128.Idx) (hy : (y 0).val = s) : ∃ p ∈ L, y ∈ p.1.set := by
  have h1 : (y 1).val < 2 := (y 1).isLt
  have h2 : (y 2).val < 256 := (y 2).isLt
  have h3 : (y 3).val < 128 := (y 3).isLt
  have hm : (y 2).val % d < d := Nat.mod_lt _ hd
  unfold listed at h
  rw [List.all_eq_true] at h
  have h' := h (2 * ((y 2).val % d) + (y 1).val) (List.mem_range.2 (by omega))
  rw [List.any_eq_true] at h'
  obtain ⟨p, hp, e⟩ := h'
  refine ⟨p, hp, p.1.mem_set.mpr fun a => ?_⟩
  have e' := beq_iff_eq.1 e
  unfold place at e'
  simp only [List.cons.injEq] at e'
  obtain ⟨o0, o1, o2, o3, s0, s1, s2, s3, t0, t1, t2, t3, -⟩ := e'
  match a with
  | ⟨0, _⟩ => exact ⟨0, by show 0 < p.1.size (0 : Fin 4); omega, by show (y 0).val = p.1.off (0 : Fin 4) + p.1.stride (0 : Fin 4) * 0; omega⟩
  | ⟨1, _⟩ => exact ⟨0, by show 0 < p.1.size (1 : Fin 4); omega, by show (y 1).val = p.1.off (1 : Fin 4) + p.1.stride (1 : Fin 4) * 0; omega⟩
  | ⟨2, _⟩ =>
    refine ⟨(y 2).val / d, ?_, ?_⟩
    · show _ < p.1.size (2 : Fin 4)
      rw [s2]
      exact Nat.div_lt_of_lt_mul (by omega)
    · show (y 2).val = p.1.off (2 : Fin 4) + p.1.stride (2 : Fin 4) * _
      rw [o2, t2]
      have := Nat.mod_add_div (y 2).val d
      omega
  | ⟨3, _⟩ =>
    refine ⟨(y 3).val, ?_, ?_⟩
    · show _ < p.1.size (3 : Fin 4)
      omega
    · show (y 3).val = p.1.off (3 : Fin 4) + p.1.stride (3 : Fin 4) * (y 3).val
      rw [o3, t3]
      omega

/-- A load of one slab of a slot. -/
theorem slab_load {G : S4x2x256x128.Idx → Elt Ideal .f32} {m : Memref sig .tc .vmem S4x2x256x128 .f32}
    {L : List (View.Piece (Elt Ideal) S4x2x256x128 .f32)} {T : ℕ → ℕ → EReal} (s e d n : ℕ) (hL : Holds G L) (hG : Slot G s T) (hd : 0 < d)
    (hn : d * n = 256) (h : listed L s d n = true)
    (inb : ∀ a, (![s, e, 0, 0] : Fin 4 → ℕ) a + (![1, 1, 256, 128] : Fin 4 → ℕ) a ≤ S4x2x256x128.size a) (r : Fin 256) (l : Fin 128) :
    m.view.readCov L (Rect.unit (s := S4x2x256x128) ![s, e, 0, 0] S1x1x256x128.size inb).toLoadRect (ix4 (0 : Fin 1) (0 : Fin 1) r l)
      = T r.val (128 * e + l.val) := by
  refine (congrFun (View.readCov_eq_canon' m.view L _) _).trans ?_
  refine (View.canon_apply_of_pieces G L hL _ (covered L s d n hd hn h _ (show s + 1 * 0 = s by omega))).trans ((hG _ (show s + 1 * 0 = s by omega)).trans ?_)
  show T (0 + 1 * r.val) (128 * (e + 1 * 0) + (0 + 1 * l.val)) = _
  exact congrArg₂ T (by omega) (by omega)

/-- Two slabs of a slot side by side. -/
theorem joined_load {G : S4x2x256x128.Idx → Elt Ideal .f32} {m : Memref sig .tc .vmem S4x2x256x128 .f32}
    {L : List (View.Piece (Elt Ideal) S4x2x256x128 .f32)} {T : ℕ → ℕ → EReal} (s d n : ℕ) (hL : Holds G L) (hG : Slot G s T) (hd : 0 < d)
    (hn : d * n = 256) (h : listed L s d n = true) (inb inb') (r j : Fin 256) :
    joined (m.view.readCov L (Rect.unit (s := S4x2x256x128) ![s, 0, 0, 0] S1x1x256x128.size inb).toLoadRect)
      (m.view.readCov L (Rect.unit (s := S4x2x256x128) ![s, 1, 0, 0] S1x1x256x128.size inb').toLoadRect) (ix2 r j) = T r.val j.val :=
  joined_apply _ _ (fun r j => T r.val j.val)
    (fun r l => (slab_load s 0 d n hL hG hd hn h inb r l).trans (congrArg (T r.val) (by show 128 * 0 + l.val = l.val; omega)))
    (fun r l => (slab_load s 1 d n hL hG hd hn h inb' r l).trans (congrArg (T r.val) (by show 128 * 1 + l.val = 128 + l.val; omega))) r j

/-- The four slots: two classes of logarithms, two classes of values. -/
def staged (x6 : Vec Ideal S1x4x64x256 .f32) (x7 : Vec Ideal S1x16x16x256 .f32) (x3 : Vec Ideal S1x4x64x256 .f32)
    (x4 : Vec Ideal S1x16x16x256 .f32) : S4x2x256x128.Idx → Elt Ideal .f32 := fun y =>
  if (y 0).val = 0 then tok4 x6 (y 2).val (128 * (y 1).val + (y 3).val)
  else if (y 0).val = 1 then tok16 x7 (y 2).val (128 * (y 1).val + (y 3).val)
  else if (y 0).val = 2 then tok4 x3 (y 2).val (128 * (y 1).val + (y 3).val)
  else tok16 x4 (y 2).val (128 * (y 1).val + (y 3).val)

section
variable (x6 : Vec Ideal S1x4x64x256 .f32) (x7 : Vec Ideal S1x16x16x256 .f32) (x3 : Vec Ideal S1x4x64x256 .f32) (x4 : Vec Ideal S1x16x16x256 .f32)

theorem slot0 : Slot (staged x6 x7 x3 x4) 0 (tok4 x6) := fun _ h => if_pos h
theorem slot1 : Slot (staged x6 x7 x3 x4) 1 (tok16 x7) := fun y h => (if_neg (by omega)).trans (if_pos h)
theorem slot2 : Slot (staged x6 x7 x3 x4) 2 (tok4 x3) := fun y h => (if_neg (by omega)).trans ((if_neg (by omega)).trans (if_pos h))
theorem slot3 : Slot (staged x6 x7 x3 x4) 3 (tok16 x4) := fun y h => (if_neg (by omega)).trans ((if_neg (by omega)).trans (if_neg (by omega)))

variable (c : Dev nD) {arg4 : Memref sig .tc .vmem S1x4x64x256 .f32} (harg4 : arg4.IsWhole)
variable {arg5 : Memref sig .tc .vmem S1x16x16x256 .f32} (harg5 : arg5.IsWhole)
variable {arg7 : Memref sig .tc .vmem S1x4x64x256 .f32} (harg7 : arg7.IsWhole)
variable {arg8 : Memref sig .tc .vmem S1x16x16x256 .f32} (harg8 : arg8.IsWhole)

/-- The stores of each slot hold its class. -/
theorem holds0 : Holds (staged x6 x7 x3 x4) (kernelRun0_A.sl.HS0_8 (F := Ideal) c arg7 harg7 x6) := by
  repeat' first
    | exact holds_nil _
    | refine holds_cons _ _ _ (at4 harg7 x6 0 _ _ _ (slot0 x6 x7 x3 x4) _ _ _ (by decide)) ?_

theorem holds1 : Holds (staged x6 x7 x3 x4) (kernelRun0_A.sl.HS0_40 (F := Ideal) c arg7 harg7 arg8 harg8 x6 x7) := by
  repeat' first
    | exact holds0 x6 x7 x3 x4 c harg7
    | refine holds_cons _ _ _ (at16 harg8 x7 1 _ _ _ (slot1 x6 x7 x3 x4) _ _ _ (by decide)) ?_

theorem holds2 : Holds (staged x6 x7 x3 x4) (kernelRun0_A.sl.HS0_48 (F := Ideal) c arg4 harg4 arg7 harg7 arg8 harg8 x3 x6 x7) := by
  repeat' first
    | exact holds1 x6 x7 x3 x4 c harg7 harg8
    | refine holds_cons _ _ _ (at4 harg4 x3 2 _ _ _ (slot2 x6 x7 x3 x4) _ _ _ (by decide)) ?_

theorem holds3 :
    Holds (staged x6 x7 x3 x4) (kernelRun0_A.sl.HS0_80 (F := Ideal) c arg4 harg4 arg5 harg5 arg7 harg7 arg8 harg8 x3 x4 x6 x7) := by
  repeat' first
    | exact holds2 x6 x7 x3 x4 c harg4 harg7 harg8
    | refine holds_cons _ _ _ (at16 harg5 x4 3 _ _ _ (slot3 x6 x7 x3 x4) _ _ _ (by decide)) ?_

variable (arg23 : Memref sig .tc .vmem S4x2x256x128 .f32) (r j : Fin 256)

/-- The four classes read back, in token order. -/
theorem read0 : joined (kernelRun0_A.sl.v44 (F := Ideal) c arg7 harg7 arg23 x6) (kernelRun0_A.sl.v46 (F := Ideal) c arg7 harg7 arg23 x6) (ix2 r j)
    = tok4 x6 r.val j.val :=
  joined_load 0 4 64 (holds0 x6 (fun _ => 0) (fun _ => 0) (fun _ => 0) c harg7) (slot0 _ _ _ _) (by decide) (by decide) (by sl_kernel_rfl) _ _ r j

theorem read1 : joined (kernelRun0_A.sl.v211 (F := Ideal) c arg7 harg7 arg8 harg8 arg23 x6 x7)
    (kernelRun0_A.sl.v213 (F := Ideal) c arg7 harg7 arg8 harg8 arg23 x6 x7) (ix2 r j) = tok16 x7 r.val j.val :=
  joined_load 1 16 16 (holds1 x6 x7 (fun _ => 0) (fun _ => 0) c harg7 harg8) (slot1 _ _ _ _) (by decide) (by decide) (by sl_kernel_rfl) _ _ r j

theorem read2 : joined (kernelRun0_A.sl.v269 (F := Ideal) c arg4 harg4 arg7 harg7 arg8 harg8 arg23 x3 x6 x7)
    (kernelRun0_A.sl.v271 (F := Ideal) c arg4 harg4 arg7 harg7 arg8 harg8 arg23 x3 x6 x7) (ix2 r j) = tok4 x3 r.val j.val :=
  joined_load 2 4 64 (holds2 x6 x7 x3 (fun _ => 0) c harg4 harg7 harg8) (slot2 _ _ _ _) (by decide) (by decide) (by sl_kernel_rfl) _ _ r j

theorem read3 : joined (kernelRun0_A.sl.v436 (F := Ideal) c arg4 harg4 arg5 harg5 arg7 harg7 arg8 harg8 arg23 x3 x4 x6 x7)
    (kernelRun0_A.sl.v438 (F := Ideal) c arg4 harg4 arg5 harg5 arg7 harg7 arg8 harg8 arg23 x3 x4 x6 x7) (ix2 r j) = tok16 x4 r.val j.val :=
  joined_load 3 16 16 (holds3 x6 x7 x3 x4 c harg4 harg5 harg7 harg8) (slot3 _ _ _ _) (by decide) (by decide) (by sl_kernel_rfl) _ _ r j

end

end Cert.MergeIdeal.Rows
-- ==== Proof.MergeValue.lean ====
module

public import proofs.«01_k».proof.Proof.MergeStage

/-!
One grid point of the merge: the rows it stores, from its blocks.
-/

@[expose] public section

set_option maxRecDepth 16384

noncomputable section

namespace Cert.MergeIdeal.Rows

open Cert.MergeIdeal Cert.MergeIdeal.Gen Cert.MixIdeal.Proj Cert.Merging Cert.FeedForward
open Idealize.ShloMosaic Idealize.ShloMosaic.TcCoe Idealize.ShloMosaic.Tactic Idealize.SL Idealize.SL.Sem

/-- A load of a whole block is the block. -/
theorem whole2 {a b : ℕ} {e : EltTy} {m : Memref sig .tc .vmem ⟨2, ![a, b]⟩ e} (h : m.IsWhole) (X : Vec Ideal ⟨2, ![a, b]⟩ e)
    (inb : ∀ i, (![0, 0] : Fin 2 → ℕ) i + (⟨2, ![a, b]⟩ : Shape).size i ≤ (⟨2, ![a, b]⟩ : Shape).size i) (y : (⟨2, ![a, b]⟩ : Shape).Idx) :
    View.readAt (Elt Ideal) m.view (Rect.unit (s := ⟨2, ![a, b]⟩) ![0, 0] (⟨2, ![a, b]⟩ : Shape).size inb).toLoadRect (h.unread X) y = X y := by
  refine (congrFun (h.read_unread X) _).trans (congrArg X (funext fun i => ?_))
  match i with
  | ⟨0, _⟩ => exact Fin.ext (show 0 + 1 * (y 0).val = (y 0).val by omega)
  | ⟨1, _⟩ => exact Fin.ext (show 0 + 1 * (y 1).val = (y 1).val by omega)
theorem whole3 {a b d : ℕ} {e : EltTy} {m : Memref sig .tc .vmem ⟨3, ![a, b, d]⟩ e} (h : m.IsWhole) (X : Vec Ideal ⟨3, ![a, b, d]⟩ e)
    (inb : ∀ i, (![0, 0, 0] : Fin 3 → ℕ) i + (⟨3, ![a, b, d]⟩ : Shape).size i ≤ (⟨3, ![a, b, d]⟩ : Shape).size i) (y : (⟨3, ![a, b, d]⟩ : Shape).Idx) :
    View.readAt (Elt Ideal) m.view (Rect.unit (s := ⟨3, ![a, b, d]⟩) ![0, 0, 0] (⟨3, ![a, b, d]⟩ : Shape).size inb).toLoadRect (h.unread X) y = X y := by
  refine (congrFun (h.read_unread X) _).trans (congrArg X (funext fun i => ?_))
  match i with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)
theorem whole4 {a b d f : ℕ} {e : EltTy} {m : Memref sig .tc .vmem ⟨4, ![a, b, d, f]⟩ e} (h : m.IsWhole) (X : Vec Ideal ⟨4, ![a, b, d, f]⟩ e)
    (inb : ∀ i, (![0, 0, 0, 0] : Fin 4 → ℕ) i + (⟨4, ![a, b, d, f]⟩ : Shape).size i ≤ (⟨4, ![a, b, d, f]⟩ : Shape).size i) (y : (⟨4, ![a, b, d, f]⟩ : Shape).Idx) :
    View.readAt (Elt Ideal) m.view (Rect.unit (s := ⟨4, ![a, b, d, f]⟩) ![0, 0, 0, 0] (⟨4, ![a, b, d, f]⟩ : Shape).size inb).toLoadRect (h.unread X) y = X y := by
  refine (congrFun (h.read_unread X) _).trans (congrArg X (funext fun i => ?_))
  match i with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)
  | ⟨3, _⟩ => exact Fin.ext (show 0 + 1 * (y 3).val = (y 3).val by omega)

/-- A store of a whole block of rows. -/
theorem all_at {e : EltTy} {f G : S256x2048.Idx → Elt Ideal e} (h : ∀ (r : Fin 256) (l : Fin 2048), f (ix2 r l) = G (ix2 r l)) (inb)
    (x : (Rect.unit (s := S256x2048) ![0, 0] ![256, 2048] inb).shape.Idx) :
    f x = G ((Rect.unit (s := S256x2048) ![0, 0] ![256, 2048] inb).emb x) := by
  have ex : ix2 (x 0 : Fin 256) (x 1 : Fin 2048) = x := (idx2 (a := 256) (b := 2048) x).symm
  refine (congrArg f ex.symm).trans ((h (x 0) (x 1)).trans (congrArg G ((funext fun i => ?_ : _ = _))))
  match i with
  | ⟨0, _⟩ => exact Fin.ext (show (x 0).val = 0 + 1 * (x 0).val by omega)
  | ⟨1, _⟩ => exact Fin.ext (show (x 1).val = 0 + 1 * (x 1).val by omega)

theorem weighted_congr {a b c A B C a' b' c' A' B' C' : EReal} (ha : a = a') (hb : b = b') (hc : c = c') (hA : A = A') (hB : B = B')
    (hC : C = C') : weighted a b c A B C = weighted a' b' c' A' B' C' := by
  subst ha hb hc hA hB hC
  rfl

section
variable (c : Dev nD) (i : grid0.Coords)
variable (arg1 : Memref sig .tc .vmem S256x2048 .f32) (harg1 : arg1.IsWhole)
variable (arg2 : Memref sig .tc .vmem S256x512 .bf16) (harg2 : arg2.IsWhole)
variable (arg3 : Memref sig .tc .vmem S1x1x256x256 .f32) (harg3 : arg3.IsWhole)
variable (arg4 : Memref sig .tc .vmem S1x4x64x256 .f32) (harg4 : arg4.IsWhole)
variable (arg5 : Memref sig .tc .vmem S1x16x16x256 .f32) (harg5 : arg5.IsWhole)
variable (arg6 : Memref sig .tc .vmem S1x1x256x256 .f32) (harg6 : arg6.IsWhole)
variable (arg7 : Memref sig .tc .vmem S1x4x64x256 .f32) (harg7 : arg7.IsWhole)
variable (arg8 : Memref sig .tc .vmem S1x16x16x256 .f32) (harg8 : arg8.IsWhole)
variable (arg9 : Memref sig .tc .vmem S256x512 .bf16) (harg9 : arg9.IsWhole)
variable (arg10 : Memref sig .tc .vmem S256x512 .bf16) (harg10 : arg10.IsWhole)
variable (arg11 : Memref sig .tc .vmem S256x2048 .bf16) (harg11 : arg11.IsWhole)
variable (arg12 : Memref sig .tc .vmem S256x2048 .bf16) (harg12 : arg12.IsWhole)
variable (arg13 : Memref sig .tc .vmem S256x2048 .bf16) (harg13 : arg13.IsWhole)
variable (arg14 : Memref sig .tc .vmem S256x2048 .bf16) (harg14 : arg14.IsWhole)
variable (arg15 : Memref sig .tc .vmem S1x512x2048 .bf16) (harg15 : arg15.IsWhole)
variable (arg16 : Memref sig .tc .vmem S1x256x2048 .bf16) (harg16 : arg16.IsWhole)
variable (arg17 : Memref sig .tc .vmem S1x512x2048 .bf16) (harg17 : arg17.IsWhole)
variable (arg18 : Memref sig .tc .vmem S1x512x2048 .bf16) (harg18 : arg18.IsWhole)
variable (arg19 : Memref sig .tc .vmem S1x2048x2048 .bf16) (harg19 : arg19.IsWhole)
variable (arg20 : Memref sig .tc .vmem S1x2048 .f32) (harg20 : arg20.IsWhole)
variable (arg21 : Memref sig .tc .vmem S256x2048 .f32) (harg21 : arg21.IsWhole)
variable (arg22 : Memref sig .tc .vmem S256x2048 .bf16) (harg22 : arg22.IsWhole)
variable (arg23 : Memref sig .tc .vmem S4x2x256x128 .f32) (harg23 : arg23.IsWhole)
variable (x0 : Vec Ideal S256x2048 .f32)
variable (x1 : Vec Ideal S256x512 .bf16)
variable (x2 : Vec Ideal S1x1x256x256 .f32)
variable (x3 : Vec Ideal S1x4x64x256 .f32)
variable (x4 : Vec Ideal S1x16x16x256 .f32)
variable (x5 : Vec Ideal S1x1x256x256 .f32)
variable (x6 : Vec Ideal S1x4x64x256 .f32)
variable (x7 : Vec Ideal S1x16x16x256 .f32)
variable (x8 : Vec Ideal S256x512 .bf16)
variable (x9 : Vec Ideal S256x512 .bf16)
variable (x10 : Vec Ideal S256x2048 .bf16)
variable (x11 : Vec Ideal S256x2048 .bf16)
variable (x12 : Vec Ideal S256x2048 .bf16)
variable (x13 : Vec Ideal S256x2048 .bf16)
variable (x14 : Vec Ideal S1x512x2048 .bf16)
variable (x15 : Vec Ideal S1x256x2048 .bf16)
variable (x16 : Vec Ideal S1x512x2048 .bf16)
variable (x17 : Vec Ideal S1x512x2048 .bf16)
variable (x18 : Vec Ideal S1x2048x2048 .bf16)
variable (x19 : Vec Ideal S1x2048 .f32)

/-- The second branch of a grid point's rows. -/
def mixed (r j : Fin 256) : EReal :=
  weighted (x5 (ix4 0 0 r j)) (tok4 x6 r.val j.val) (tok16 x7 r.val j.val) (x2 (ix4 0 0 r j)) (tok4 x3 r.val j.val) (tok16 x4 r.val j.val)

/-- The gated sum of a grid point's rows. -/
def rows (r : Fin 256) (k : Fin 2048) : EReal :=
  gated (fun d => x1 (ix2 r d)) (fun d => x8 (ix2 r d)) (fun d => x9 (ix2 r d)) (mixed x2 x3 x4 x5 x6 x7 r) (fun k => x10 (ix2 r k))
    (fun k => x11 (ix2 r k)) (fun k => x12 (ix2 r k)) (fun k => x13 (ix2 r k)) (fun d k => x14 (ix3 0 d k)) (fun d k => x16 (ix3 0 d k))
    (fun d k => x17 (ix3 0 d k)) (fun d k => x15 (ix3 0 d k)) k

/-- The rows a grid point stores. -/
def stored (r : Fin 256) (l : Fin 2048) : EReal :=
  summed (x0 (ix2 r l)) (rows x1 x2 x3 x4 x5 x6 x7 x8 x9 x10 x11 x12 x13 x14 x15 x16 x17 r) (fun k l => x18 (ix3 0 k l)) l

/-- The gated sum without the fourth branch, as the grid point computes it from its loads. -/
theorem partial_apply (r : Fin 256) (k : Fin 2048) :
    three (branch (View.readAt (Elt Ideal) arg6.view (Rect.unit (s := S1x1x256x256) ![0, 0, 0, 0] S1x1x256x256.size (by decide)).toLoadRect (harg6.unread x5)) (joined (kernelRun0_A.sl.v44 (F := Ideal) c arg7 harg7 arg23 x6) (kernelRun0_A.sl.v46 (F := Ideal) c arg7 harg7 arg23 x6)) (joined (kernelRun0_A.sl.v211 (F := Ideal) c arg7 harg7 arg8 harg8 arg23 x6 x7) (kernelRun0_A.sl.v213 (F := Ideal) c arg7 harg7 arg8 harg8 arg23 x6 x7)) (View.readAt (Elt Ideal) arg3.view (Rect.unit (s := S1x1x256x256) ![0, 0, 0, 0] S1x1x256x256.size (by decide)).toLoadRect (harg3.unread x2))
        (joined (kernelRun0_A.sl.v269 (F := Ideal) c arg4 harg4 arg7 harg7 arg8 harg8 arg23 x3 x6 x7) (kernelRun0_A.sl.v271 (F := Ideal) c arg4 harg4 arg7 harg7 arg8 harg8 arg23 x3 x6 x7)) (joined (kernelRun0_A.sl.v436 (F := Ideal) c arg4 harg4 arg5 harg5 arg7 harg7 arg8 harg8 arg23 x3 x4 x6 x7) (kernelRun0_A.sl.v438 (F := Ideal) c arg4 harg4 arg5 harg5 arg7 harg7 arg8 harg8 arg23 x3 x4 x6 x7)))
       (View.readAt (Elt Ideal) arg2.view (Rect.unit (s := S256x512) ![0, 0] S256x512.size (by decide)).toLoadRect (harg2.unread x1)) (View.readAt (Elt Ideal) arg11.view (Rect.unit (s := S256x2048) ![0, 0] S256x2048.size (by decide)).toLoadRect (harg11.unread x10)) (View.readAt (Elt Ideal) arg15.view (Rect.unit (s := S1x512x2048) ![0, 0, 0] S1x512x2048.size (by decide)).toLoadRect (harg15.unread x14)) (View.readAt (Elt Ideal) arg12.view (Rect.unit (s := S256x2048) ![0, 0] S256x2048.size (by decide)).toLoadRect (harg12.unread x11)) (View.readAt (Elt Ideal) arg16.view (Rect.unit (s := S1x256x2048) ![0, 0, 0] S1x256x2048.size (by decide)).toLoadRect (harg16.unread x15)) (View.readAt (Elt Ideal) arg9.view (Rect.unit (s := S256x512) ![0, 0] S256x512.size (by decide)).toLoadRect (harg9.unread x8)) (View.readAt (Elt Ideal) arg13.view (Rect.unit (s := S256x2048) ![0, 0] S256x2048.size (by decide)).toLoadRect (harg13.unread x12)) (View.readAt (Elt Ideal) arg17.view (Rect.unit (s := S1x512x2048) ![0, 0, 0] S1x512x2048.size (by decide)).toLoadRect (harg17.unread x16)) (ix2 r k)
      = x10 (ix2 r k) * (∑ d : Fin 512, x1 (ix2 r d) * x14 (ix3 0 d k)) + x11 (ix2 r k) * (∑ d : Fin 256, mixed x2 x3 x4 x5 x6 x7 r d * x15 (ix3 0 d k))
        + x12 (ix2 r k) * (∑ d : Fin 512, x8 (ix2 r d) * x16 (ix3 0 d k)) := by
  refine (three_apply _ _ _ _ _ _ _ _ _ r k).trans (congrArg₂ (· + ·) (congrArg₂ (· + ·) ?_ ?_) ?_)
  · exact congrArg₂ (· * ·) (whole2 harg11 x10 _ _) (Finset.sum_congr rfl fun d _ =>
      congrArg₂ (· * ·) (whole2 harg2 x1 _ _) (whole3 harg15 x14 _ _))
  · refine congrArg₂ (· * ·) (whole2 harg12 x11 _ _) (Finset.sum_congr rfl fun d _ => congrArg₂ (· * ·) ?_ (whole3 harg16 x15 _ _))
    exact weighted_congr ((plain_apply _ r d).trans (whole4 harg6 x5 _ _)) (read0 x6 c harg7 arg23 r d) (read1 x6 x7 c harg7 harg8 arg23 r d)
      ((plain_apply _ r d).trans (whole4 harg3 x2 _ _)) (read2 x6 x7 x3 c harg4 harg7 harg8 arg23 r d)
      (read3 x6 x7 x3 x4 c harg4 harg5 harg7 harg8 arg23 r d)
  · exact congrArg₂ (· * ·) (whole2 harg13 x12 _ _) (Finset.sum_congr rfl fun d _ =>
      congrArg₂ (· * ·) (whole2 harg9 x8 _ _) (whole3 harg17 x16 _ _))

/-- The stored rows from the loads. -/
theorem stored_of (u : FVec Ideal S256x2048 .f32)
    (hu : u = three (branch (View.readAt (Elt Ideal) arg6.view (Rect.unit (s := S1x1x256x256) ![0, 0, 0, 0] S1x1x256x256.size (by decide)).toLoadRect (harg6.unread x5)) (joined (kernelRun0_A.sl.v44 (F := Ideal) c arg7 harg7 arg23 x6) (kernelRun0_A.sl.v46 (F := Ideal) c arg7 harg7 arg23 x6)) (joined (kernelRun0_A.sl.v211 (F := Ideal) c arg7 harg7 arg8 harg8 arg23 x6 x7) (kernelRun0_A.sl.v213 (F := Ideal) c arg7 harg7 arg8 harg8 arg23 x6 x7)) (View.readAt (Elt Ideal) arg3.view (Rect.unit (s := S1x1x256x256) ![0, 0, 0, 0] S1x1x256x256.size (by decide)).toLoadRect (harg3.unread x2))
        (joined (kernelRun0_A.sl.v269 (F := Ideal) c arg4 harg4 arg7 harg7 arg8 harg8 arg23 x3 x6 x7) (kernelRun0_A.sl.v271 (F := Ideal) c arg4 harg4 arg7 harg7 arg8 harg8 arg23 x3 x6 x7)) (joined (kernelRun0_A.sl.v436 (F := Ideal) c arg4 harg4 arg5 harg5 arg7 harg7 arg8 harg8 arg23 x3 x4 x6 x7) (kernelRun0_A.sl.v438 (F := Ideal) c arg4 harg4 arg5 harg5 arg7 harg7 arg8 harg8 arg23 x3 x4 x6 x7)))
       (View.readAt (Elt Ideal) arg2.view (Rect.unit (s := S256x512) ![0, 0] S256x512.size (by decide)).toLoadRect (harg2.unread x1)) (View.readAt (Elt Ideal) arg11.view (Rect.unit (s := S256x2048) ![0, 0] S256x2048.size (by decide)).toLoadRect (harg11.unread x10)) (View.readAt (Elt Ideal) arg15.view (Rect.unit (s := S1x512x2048) ![0, 0, 0] S1x512x2048.size (by decide)).toLoadRect (harg15.unread x14)) (View.readAt (Elt Ideal) arg12.view (Rect.unit (s := S256x2048) ![0, 0] S256x2048.size (by decide)).toLoadRect (harg12.unread x11)) (View.readAt (Elt Ideal) arg16.view (Rect.unit (s := S1x256x2048) ![0, 0, 0] S1x256x2048.size (by decide)).toLoadRect (harg16.unread x15)) (View.readAt (Elt Ideal) arg9.view (Rect.unit (s := S256x512) ![0, 0] S256x512.size (by decide)).toLoadRect (harg9.unread x8)) (View.readAt (Elt Ideal) arg13.view (Rect.unit (s := S256x2048) ![0, 0] S256x2048.size (by decide)).toLoadRect (harg13.unread x12)) (View.readAt (Elt Ideal) arg17.view (Rect.unit (s := S1x512x2048) ![0, 0, 0] S1x512x2048.size (by decide)).toLoadRect (harg17.unread x16))) (r : Fin 256) (l : Fin 2048) :
    (k0_pay104 u (View.readAt (Elt Ideal) arg10.view (Rect.unit (s := S256x512) ![0, 0] S256x512.size (by decide)).toLoadRect (harg10.unread x9)) (View.readAt (Elt Ideal) arg14.view (Rect.unit (s := S256x2048) ![0, 0] S256x2048.size (by decide)).toLoadRect (harg14.unread x13)) (View.readAt (Elt Ideal) arg18.view (Rect.unit (s := S1x512x2048) ![0, 0, 0] S1x512x2048.size (by decide)).toLoadRect (harg18.unread x17)) (View.readAt (Elt Ideal) arg1.view (Rect.unit (s := S256x2048) ![0, 0] S256x2048.size (by decide)).toLoadRect (harg1.unread x0)) (View.readAt (Elt Ideal) arg19.view (Rect.unit (s := S1x2048x2048) ![0, 0, 0] S1x2048x2048.size (by decide)).toLoadRect (harg19.unread x18)) : FVec Ideal S256x2048 .f32) (ix2 r l)
      = stored x0 x1 x2 x3 x4 x5 x6 x7 x8 x9 x10 x11 x12 x13 x14 x15 x16 x17 x18 r l := by
  subst hu
  refine (sum_apply _ _ _ _ _ _ r l).trans (congrArg₂ (· + ·) (whole2 harg1 x0 _ _) (Finset.sum_congr rfl fun k _ => congrArg₂ (· * ·) ?_ (whole3 harg19 x18 _ _)))
  refine congrArg₂ (· + ·) (partial_apply c arg2 harg2 arg3 harg3 arg4 harg4 arg5 harg5 arg6 harg6 arg7 harg7 arg8 harg8 arg9 harg9 arg11 harg11 arg12 harg12 arg13 harg13 arg15 harg15 arg16 harg16 arg17 harg17 arg23 x1 x2 x3 x4 x5 x6 x7 x8 x10 x11 x12 x14 x15 x16 r k) ?_
  exact congrArg₂ (· * ·) (whole2 harg14 x13 _ _) (Finset.sum_congr rfl fun d _ =>
      congrArg₂ (· * ·) (whole2 harg10 x9 _ _) (whole3 harg18 x17 _ _))

def storedBlock : S256x2048.Idx → Elt Ideal .f32 := fun y => stored x0 x1 x2 x3 x4 x5 x6 x7 x8 x9 x10 x11 x12 x13 x14 x15 x16 x17 x18 (y 0) (y 1)
def normedBlock : S256x2048.Idx → Elt Ideal .bf16 := fun y => normed (stored x0 x1 x2 x3 x4 x5 x6 x7 x8 x9 x10 x11 x12 x13 x14 x15 x16 x17 x18 (y 0)) (x19 (ix2 0 (y 1))) (y 1)

/-- The rows a grid point leaves in the residual stream. -/
theorem out_20 (r : Fin 256) (l : Fin 2048) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 (ix2 r l) = stored x0 x1 x2 x3 x4 x5 x6 x7 x8 x9 x10 x11 x12 x13 x14 x15 x16 x17 x18 r l := by
  refine (View.read_writes_junk_apply_eq_canon VO0_20 (ix2 r l) _).trans ?_
  refine View.canon_apply_of_pieces (storedBlock x0 x1 x2 x3 x4 x5 x6 x7 x8 x9 x10 x11 x12 x13 x14 x15 x16 x17 x18) _ ?_ (ix2 r l)
    (cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix2 r l))
  unfold kernelRun0_A
  dsimp only
  refine holds_cons _ _ _ (all_at (G := storedBlock x0 x1 x2 x3 x4 x5 x6 x7 x8 x9 x10 x11 x12 x13 x14 x15 x16 x17 x18) (fun r l => ?_) _) (holds_nil _)
  exact stored_of c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 x0 x1 x2 x3 x4 x5 x6 x7 x8 x9 x10 x11 x12 x13 x14 x15 x16 x17 x18 _ (three_eq  (View.readAt (Elt Ideal) arg6.view (Rect.unit (s := S1x1x256x256) ![0, 0, 0, 0] S1x1x256x256.size (by decide)).toLoadRect (harg6.unread x5)) (kernelRun0_A.sl.v44 (F := Ideal) c arg7 harg7 arg23 x6) (kernelRun0_A.sl.v46 (F := Ideal) c arg7 harg7 arg23 x6) (kernelRun0_A.sl.v211 (F := Ideal) c arg7 harg7 arg8 harg8 arg23 x6 x7) (kernelRun0_A.sl.v213 (F := Ideal) c arg7 harg7 arg8 harg8 arg23 x6 x7) (View.readAt (Elt Ideal) arg3.view (Rect.unit (s := S1x1x256x256) ![0, 0, 0, 0] S1x1x256x256.size (by decide)).toLoadRect (harg3.unread x2))
       (kernelRun0_A.sl.v269 (F := Ideal) c arg4 harg4 arg7 harg7 arg8 harg8 arg23 x3 x6 x7) (kernelRun0_A.sl.v271 (F := Ideal) c arg4 harg4 arg7 harg7 arg8 harg8 arg23 x3 x6 x7) (kernelRun0_A.sl.v436 (F := Ideal) c arg4 harg4 arg5 harg5 arg7 harg7 arg8 harg8 arg23 x3 x4 x6 x7) (kernelRun0_A.sl.v438 (F := Ideal) c arg4 harg4 arg5 harg5 arg7 harg7 arg8 harg8 arg23 x3 x4 x6 x7)
       (View.readAt (Elt Ideal) arg2.view (Rect.unit (s := S256x512) ![0, 0] S256x512.size (by decide)).toLoadRect (harg2.unread x1)) (View.readAt (Elt Ideal) arg11.view (Rect.unit (s := S256x2048) ![0, 0] S256x2048.size (by decide)).toLoadRect (harg11.unread x10)) (View.readAt (Elt Ideal) arg15.view (Rect.unit (s := S1x512x2048) ![0, 0, 0] S1x512x2048.size (by decide)).toLoadRect (harg15.unread x14)) (View.readAt (Elt Ideal) arg12.view (Rect.unit (s := S256x2048) ![0, 0] S256x2048.size (by decide)).toLoadRect (harg12.unread x11)) (View.readAt (Elt Ideal) arg16.view (Rect.unit (s := S1x256x2048) ![0, 0, 0] S1x256x2048.size (by decide)).toLoadRect (harg16.unread x15)) (View.readAt (Elt Ideal) arg9.view (Rect.unit (s := S256x512) ![0, 0] S256x512.size (by decide)).toLoadRect (harg9.unread x8)) (View.readAt (Elt Ideal) arg13.view (Rect.unit (s := S256x2048) ![0, 0] S256x2048.size (by decide)).toLoadRect (harg13.unread x12)) (View.readAt (Elt Ideal) arg17.view (Rect.unit (s := S1x512x2048) ![0, 0, 0] S1x512x2048.size (by decide)).toLoadRect (harg17.unread x16))) r l

/-- The normed rows a grid point leaves. -/
theorem out_21 (r : Fin 256) (l : Fin 2048) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 x19 (ix2 r l)
      = normed (stored x0 x1 x2 x3 x4 x5 x6 x7 x8 x9 x10 x11 x12 x13 x14 x15 x16 x17 x18 r) (x19 (ix2 0 l)) l := by
  refine (View.read_writes_junk_apply_eq_canon VO0_21 (ix2 r l) _).trans ?_
  refine View.canon_apply_of_pieces (normedBlock x0 x1 x2 x3 x4 x5 x6 x7 x8 x9 x10 x11 x12 x13 x14 x15 x16 x17 x18 x19) _ ?_ (ix2 r l)
    (cover0_A_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix2 r l))
  unfold kernelRun0_A
  dsimp only
  refine holds_cons _ _ _ (all_at (G := normedBlock x0 x1 x2 x3 x4 x5 x6 x7 x8 x9 x10 x11 x12 x13 x14 x15 x16 x17 x18 x19) (fun r l => ?_) _) (holds_nil _)
  refine (norm_apply _ _ _ _ _ _ _ r l).trans ?_
  refine (congrArg (fun g => normed _ g l) (whole2 harg20 x19 _ _)).trans (congrArg (fun a => normed a (x19 (ix2 0 l)) l) (funext fun k => ?_))
  exact stored_of c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg23 x0 x1 x2 x3 x4 x5 x6 x7 x8 x9 x10 x11 x12 x13 x14 x15 x16 x17 x18 _ (three_eq  (View.readAt (Elt Ideal) arg6.view (Rect.unit (s := S1x1x256x256) ![0, 0, 0, 0] S1x1x256x256.size (by decide)).toLoadRect (harg6.unread x5)) (kernelRun0_A.sl.v44 (F := Ideal) c arg7 harg7 arg23 x6) (kernelRun0_A.sl.v46 (F := Ideal) c arg7 harg7 arg23 x6) (kernelRun0_A.sl.v211 (F := Ideal) c arg7 harg7 arg8 harg8 arg23 x6 x7) (kernelRun0_A.sl.v213 (F := Ideal) c arg7 harg7 arg8 harg8 arg23 x6 x7) (View.readAt (Elt Ideal) arg3.view (Rect.unit (s := S1x1x256x256) ![0, 0, 0, 0] S1x1x256x256.size (by decide)).toLoadRect (harg3.unread x2))
       (kernelRun0_A.sl.v269 (F := Ideal) c arg4 harg4 arg7 harg7 arg8 harg8 arg23 x3 x6 x7) (kernelRun0_A.sl.v271 (F := Ideal) c arg4 harg4 arg7 harg7 arg8 harg8 arg23 x3 x6 x7) (kernelRun0_A.sl.v436 (F := Ideal) c arg4 harg4 arg5 harg5 arg7 harg7 arg8 harg8 arg23 x3 x4 x6 x7) (kernelRun0_A.sl.v438 (F := Ideal) c arg4 harg4 arg5 harg5 arg7 harg7 arg8 harg8 arg23 x3 x4 x6 x7)
       (View.readAt (Elt Ideal) arg2.view (Rect.unit (s := S256x512) ![0, 0] S256x512.size (by decide)).toLoadRect (harg2.unread x1)) (View.readAt (Elt Ideal) arg11.view (Rect.unit (s := S256x2048) ![0, 0] S256x2048.size (by decide)).toLoadRect (harg11.unread x10)) (View.readAt (Elt Ideal) arg15.view (Rect.unit (s := S1x512x2048) ![0, 0, 0] S1x512x2048.size (by decide)).toLoadRect (harg15.unread x14)) (View.readAt (Elt Ideal) arg12.view (Rect.unit (s := S256x2048) ![0, 0] S256x2048.size (by decide)).toLoadRect (harg12.unread x11)) (View.readAt (Elt Ideal) arg16.view (Rect.unit (s := S1x256x2048) ![0, 0, 0] S1x256x2048.size (by decide)).toLoadRect (harg16.unread x15)) (View.readAt (Elt Ideal) arg9.view (Rect.unit (s := S256x512) ![0, 0] S256x512.size (by decide)).toLoadRect (harg9.unread x8)) (View.readAt (Elt Ideal) arg13.view (Rect.unit (s := S256x2048) ![0, 0] S256x2048.size (by decide)).toLoadRect (harg13.unread x12)) (View.readAt (Elt Ideal) arg17.view (Rect.unit (s := S1x512x2048) ![0, 0, 0] S1x512x2048.size (by decide)).toLoadRect (harg17.unread x16))) r k
end

end Cert.MergeIdeal.Rows
-- ==== Proof.MergePlain.lean ====
module

public import proofs.«01_k».proof.Proof.MergeMath
public import proofs.«01_k».proof.Proof.Gen.MergePlainIdeal.Read
public import Idealize.ShloMosaic.Lib.Pointwise

/-!
The plain merge at a row and a column.
-/

@[expose] public section

set_option maxRecDepth 16384

noncomputable section

namespace Cert.MergePlainIdeal.Rows

open Cert.MergePlainIdeal Cert.MergePlainIdeal.Read Cert.Merging Cert.FeedForward
open Idealize.ShloMosaic

/-- A class grouped by residues, at a row of the flat token order. -/
def row1 (X : S2x1x8192x256.Idx → EReal) (R : Fin 16384) (j : Fin 256) : EReal :=
  X (ix4 (⟨R.val / 8192, by omega⟩ : Fin 2) (0 : Fin 1) (⟨R.val % 8192, by omega⟩ : Fin 8192) j)
def row4 (X : S2x4x2048x256.Idx → EReal) (R : Fin 16384) (j : Fin 256) : EReal :=
  X (ix4 (⟨R.val / 8192, by omega⟩ : Fin 2) (⟨R.val % 4, by omega⟩ : Fin 4) (⟨R.val / 4 % 2048, by omega⟩ : Fin 2048) j)
def row16 (X : S2x16x512x256.Idx → EReal) (R : Fin 16384) (j : Fin 256) : EReal :=
  X (ix4 (⟨R.val / 8192, by omega⟩ : Fin 2) (⟨R.val % 16, by omega⟩ : Fin 16) (⟨R.val / 16 % 512, by omega⟩ : Fin 512) j)

section
variable (X : S2x1x8192x256.Idx → EReal) (Y : S2x4x2048x256.Idx → EReal) (Z : S2x16x512x256.Idx → EReal) (R : Fin 16384) (j : Fin 256)

theorem row1_val : val_main_v1 (F := Ideal) X (ix2 R j) = row1 X R j := by
  unfold row1
  pointwise [val_main_v1, val_main_v0]
theorem row4_val : val_main_v3 (F := Ideal) Y (ix2 R j) = row4 Y R j := by
  unfold row4
  pointwise [val_main_v3, val_main_v2]
theorem row16_val : val_main_v5 (F := Ideal) Z (ix2 R j) = row16 Z R j := by
  unfold row16
  pointwise [val_main_v5, val_main_v4]
theorem row1_val' : val_main_v18 (F := Ideal) X (ix2 R j) = row1 X R j := row1_val X R j
theorem row4_val' : val_main_v22 (F := Ideal) Y (ix2 R j) = row4 Y R j := row4_val Y R j
theorem row16_val' : val_main_v27 (F := Ideal) Z (ix2 R j) = row16 Z R j := row16_val Z R j

variable (X' : S2x1x8192x256.Idx → EReal) (Y' : S2x4x2048x256.Idx → EReal) (Z' : S2x16x512x256.Idx → EReal)

/-- The second branch: the three classes weighted by the softmax of their logarithms. -/
theorem branch_val : val_main_v29 (F := Ideal) X Y Z X' Y' Z' (ix2 R j)
    = soft (row1 X' R j) (row4 Y' R j) (row16 Z' R j) (row1 X R j) (row4 Y R j) (row16 Z R j) := by
  rw [← row1_val X' R j, ← row4_val Y' R j, ← row16_val Z' R j, ← row1_val' X R j, ← row4_val' Y R j, ← row16_val' Z R j]
  rfl
end

section
variable (x : S16384x2048.Idx → EReal) (ya : S16384x512.Idx → EReal) (o0 : S2x1x8192x256.Idx → EReal) (o1 : S2x4x2048x256.Idx → EReal)
variable (o2 : S2x16x512x256.Idx → EReal) (l0 : S2x1x8192x256.Idx → EReal) (l1 : S2x4x2048x256.Idx → EReal) (l2 : S2x16x512x256.Idx → EReal)
variable (yc yd : S16384x512.Idx → EReal) (g : S16384x8192.Idx → EReal) (wa : S4x512x2048.Idx → EReal) (wb : S4x256x2048.Idx → EReal)
variable (wc wd : S4x512x2048.Idx → EReal) (wo : S4x2048x2048.Idx → EReal) (gain : S2048.Idx → EReal) (R : Fin 16384)

/-- The gate of branch `i` at a row and a column. -/
abbrev gate (i : Fin 4) (k : Fin 2048) : EReal := g (ix2 R (⟨2048 * i.val + k.val, by omega⟩ : Fin 8192))

theorem gated_val (k : Fin 2048) : val_main_v59 (F := Ideal) ya o0 o1 o2 l0 l1 l2 yc yd g wa wb wc wd (ix2 R k)
    = gated (fun d => ya (ix2 R d)) (fun d => yc (ix2 R d)) (fun d => yd (ix2 R d))
        (fun d => val_main_v29 (F := Ideal) o0 o1 o2 l0 l1 l2 (ix2 R d)) (gate g R 0) (gate g R 1) (gate g R 2) (gate g R 3)
        (fun d k => wa (ix3 0 d k)) (fun d k => wc (ix3 0 d k)) (fun d k => wd (ix3 0 d k)) (fun d k => wb (ix3 0 d k)) k := by
  unfold gated gate val_main_v59 val_main_v51 val_main_v43 val_main_v42 val_main_v41
  generalize val_main_v29 (F := Ideal) o0 o1 o2 l0 l1 l2 = v
  pointwise [val_main_v36, val_main_v50, val_main_v58, val_main_v30, val_main_v31, val_main_v32, val_main_v33, val_main_v34, val_main_v35,
    val_main_v37, val_main_v38, val_main_v39, val_main_v40, val_main_v44, val_main_v45, val_main_v46, val_main_v47, val_main_v48,
    val_main_v49, val_main_v52, val_main_v53, val_main_v54, val_main_v55, val_main_v56, val_main_v57]

theorem sum_val (l : Fin 2048) : val_main_v63 (F := Ideal) x ya o0 o1 o2 l0 l1 l2 yc yd g wa wb wc wd wo (ix2 R l)
    = summed (x (ix2 R l)) (fun k => val_main_v59 (F := Ideal) ya o0 o1 o2 l0 l1 l2 yc yd g wa wb wc wd (ix2 R k))
        (fun k l => wo (ix3 0 k l)) l := by
  unfold summed val_main_v63 val_main_v62
  generalize val_main_v59 (F := Ideal) ya o0 o1 o2 l0 l1 l2 yc yd g wa wb wc wd = v
  pointwise [val_main_v60, val_main_v61]

theorem norm_val (l : Fin 2048) : val_main_v77 (F := Ideal) x ya o0 o1 o2 l0 l1 l2 yc yd g wa wb wc wd wo gain (ix2 R l)
    = normed (fun k => val_main_v63 (F := Ideal) x ya o0 o1 o2 l0 l1 l2 yc yd g wa wb wc wd wo (ix2 R k)) (gain (ix1 l)) l := by
  unfold normed val_main_v77 val_main_v76 val_main_v73 val_main_v72 val_main_v71 val_main_v70 val_main_v68 val_main_v66 val_main_v65 val_main_v64
  generalize val_main_v63 (F := Ideal) x ya o0 o1 o2 l0 l1 l2 yc yd g wa wb wc wd wo = v
  pointwise [val_main_v67, val_main_v69, val_main_v74, val_main_v75, val_main_cst, val_main_cst_0, val_main_cst_1]
end

end Cert.MergePlainIdeal.Rows
-- ==== Proof.MergeArray.lean ====
module

public import proofs.«01_k».proof.Proof.MergeValue
public import proofs.«01_k».proof.Proof.MergePlain
public import Idealize.ShloMosaic.Lib.Pipeline.ValueKit.Geometry

/-!
The merge, whole arrays: the rows of each grid point are the plain rows.
-/

@[expose] public section

set_option maxRecDepth 16384

noncomputable section

namespace Cert.MergeIdeal.Rows

open Cert.MergeIdeal Cert.MergeIdeal.Gen Cert.Merging Cert.FeedForward
open Cert.MergePlainIdeal.Rows (row1 row4 row16 gate branch_val gated_val sum_val norm_val)
open Cert.MergePlainIdeal.Read (val_main_v29 val_main_v59 val_main_v63 val_main_v77)
open Idealize.ShloMosaic Idealize.ShloMosaic.TcCoe Idealize.SL Idealize.SL.Sem

variable (m : (ℓ : Loc nD τ sig) → Buf (Elt Ideal) ℓ)

/-- The arrays as launched: the residual stream, the first branch, the second branch's classes and their logarithms, the
    third and fourth branch, the gates, the weights, the norm's gain. -/
abbrev xArg (c : Dev nD) : S16384x2048.Idx → EReal := m ((c : Thread nD τ).loc main_arg0)
abbrev yaArg (c : Dev nD) : S16384x512.Idx → EReal := m ((c : Thread nD τ).loc main_arg1)
abbrev o0Arg (c : Dev nD) : S2x1x8192x256.Idx → EReal := m ((c : Thread nD τ).loc main_arg2)
abbrev o1Arg (c : Dev nD) : S2x4x2048x256.Idx → EReal := m ((c : Thread nD τ).loc main_arg3)
abbrev o2Arg (c : Dev nD) : S2x16x512x256.Idx → EReal := m ((c : Thread nD τ).loc main_arg4)
abbrev l0Arg (c : Dev nD) : S2x1x8192x256.Idx → EReal := m ((c : Thread nD τ).loc main_arg5)
abbrev l1Arg (c : Dev nD) : S2x4x2048x256.Idx → EReal := m ((c : Thread nD τ).loc main_arg6)
abbrev l2Arg (c : Dev nD) : S2x16x512x256.Idx → EReal := m ((c : Thread nD τ).loc main_arg7)
abbrev ycArg (c : Dev nD) : S16384x512.Idx → EReal := m ((c : Thread nD τ).loc main_arg8)
abbrev ydArg (c : Dev nD) : S16384x512.Idx → EReal := m ((c : Thread nD τ).loc main_arg9)
abbrev gArg (c : Dev nD) : S16384x8192.Idx → EReal := m ((c : Thread nD τ).loc main_arg10)
abbrev waArg (c : Dev nD) : S4x512x2048.Idx → EReal := m ((c : Thread nD τ).loc main_arg11)
abbrev wbArg (c : Dev nD) : S4x256x2048.Idx → EReal := m ((c : Thread nD τ).loc main_arg12)
abbrev wcArg (c : Dev nD) : S4x512x2048.Idx → EReal := m ((c : Thread nD τ).loc main_arg13)
abbrev wdArg (c : Dev nD) : S4x512x2048.Idx → EReal := m ((c : Thread nD τ).loc main_arg14)
abbrev woArg (c : Dev nD) : S4x2048x2048.Idx → EReal := m ((c : Thread nD τ).loc main_arg15)
abbrev gainArg (c : Dev nD) : S2048.Idx → EReal := m ((c : Thread nD τ).loc main_arg16)

/-- What the host prepares: the same weights, the gain as one row. -/
theorem V_waArg (c : Dev nD) (a : Fin 4) (d : Fin 512) (l : Fin 2048) : (V m c main_v0 : S4x512x2048.Idx → EReal) (ix3 a d l) = waArg m c (ix3 a d l) := by
  unfold V
  after_results
  pointwise
theorem V_wbArg (c : Dev nD) (a : Fin 4) (d : Fin 256) (l : Fin 2048) : (V m c main_v1 : S4x256x2048.Idx → EReal) (ix3 a d l) = wbArg m c (ix3 a d l) := by
  unfold V
  after_results
  pointwise
theorem V_wcArg (c : Dev nD) (a : Fin 4) (d : Fin 512) (l : Fin 2048) : (V m c main_v2 : S4x512x2048.Idx → EReal) (ix3 a d l) = wcArg m c (ix3 a d l) := by
  unfold V
  after_results
  pointwise
theorem V_wdArg (c : Dev nD) (a : Fin 4) (d : Fin 512) (l : Fin 2048) : (V m c main_v3 : S4x512x2048.Idx → EReal) (ix3 a d l) = wdArg m c (ix3 a d l) := by
  unfold V
  after_results
  pointwise
theorem V_woArg (c : Dev nD) (a : Fin 4) (d : Fin 2048) (l : Fin 2048) : (V m c main_v4 : S4x2048x2048.Idx → EReal) (ix3 a d l) = woArg m c (ix3 a d l) := by
  unfold V
  after_results
  pointwise
theorem V_gain (c : Dev nD) (l : Fin 2048) : (V m c main_v5 : S1x2048.Idx → EReal) (ix2 0 l) = gainArg m c (ix1 l) := by
  unfold V
  after_results
  pointwise

theorem ix_0 : ∀ t : Fin cfg0.N, win0_0.index t = ![t.val, 0] :=
  (by decide +kernel : ∀ t : Fin grid0.N, win0_0.index t = ![t.val, 0])
theorem ix_1 : ∀ t : Fin cfg0.N, win0_1.index t = ![t.val, 0] :=
  (by decide +kernel : ∀ t : Fin grid0.N, win0_1.index t = ![t.val, 0])
theorem ix_2 : ∀ t : Fin cfg0.N, win0_2.index t = ![t.val / 32, 0, t.val % 32, 0] :=
  (by decide +kernel : ∀ t : Fin grid0.N, win0_2.index t = ![t.val / 32, 0, t.val % 32, 0])
theorem ix_3 : ∀ t : Fin cfg0.N, win0_3.index t = ![t.val / 32, 0, t.val % 32, 0] :=
  (by decide +kernel : ∀ t : Fin grid0.N, win0_3.index t = ![t.val / 32, 0, t.val % 32, 0])
theorem ix_4 : ∀ t : Fin cfg0.N, win0_4.index t = ![t.val / 32, 0, t.val % 32, 0] :=
  (by decide +kernel : ∀ t : Fin grid0.N, win0_4.index t = ![t.val / 32, 0, t.val % 32, 0])
theorem ix_5 : ∀ t : Fin cfg0.N, win0_5.index t = ![t.val / 32, 0, t.val % 32, 0] :=
  (by decide +kernel : ∀ t : Fin grid0.N, win0_5.index t = ![t.val / 32, 0, t.val % 32, 0])
theorem ix_6 : ∀ t : Fin cfg0.N, win0_6.index t = ![t.val / 32, 0, t.val % 32, 0] :=
  (by decide +kernel : ∀ t : Fin grid0.N, win0_6.index t = ![t.val / 32, 0, t.val % 32, 0])
theorem ix_7 : ∀ t : Fin cfg0.N, win0_7.index t = ![t.val / 32, 0, t.val % 32, 0] :=
  (by decide +kernel : ∀ t : Fin grid0.N, win0_7.index t = ![t.val / 32, 0, t.val % 32, 0])
theorem ix_8 : ∀ t : Fin cfg0.N, win0_8.index t = ![t.val, 0] :=
  (by decide +kernel : ∀ t : Fin grid0.N, win0_8.index t = ![t.val, 0])
theorem ix_9 : ∀ t : Fin cfg0.N, win0_9.index t = ![t.val, 0] :=
  (by decide +kernel : ∀ t : Fin grid0.N, win0_9.index t = ![t.val, 0])
theorem ix_10 : ∀ t : Fin cfg0.N, win0_10.index t = ![t.val, 0] :=
  (by decide +kernel : ∀ t : Fin grid0.N, win0_10.index t = ![t.val, 0])
theorem ix_11 : ∀ t : Fin cfg0.N, win0_11.index t = ![t.val, 1] :=
  (by decide +kernel : ∀ t : Fin grid0.N, win0_11.index t = ![t.val, 1])
theorem ix_12 : ∀ t : Fin cfg0.N, win0_12.index t = ![t.val, 2] :=
  (by decide +kernel : ∀ t : Fin grid0.N, win0_12.index t = ![t.val, 2])
theorem ix_13 : ∀ t : Fin cfg0.N, win0_13.index t = ![t.val, 3] :=
  (by decide +kernel : ∀ t : Fin grid0.N, win0_13.index t = ![t.val, 3])
theorem ix_14 : ∀ t : Fin cfg0.N, win0_14.index t = ![0, 0, 0] :=
  (by decide +kernel : ∀ t : Fin grid0.N, win0_14.index t = ![0, 0, 0])
theorem ix_15 : ∀ t : Fin cfg0.N, win0_15.index t = ![0, 0, 0] :=
  (by decide +kernel : ∀ t : Fin grid0.N, win0_15.index t = ![0, 0, 0])
theorem ix_16 : ∀ t : Fin cfg0.N, win0_16.index t = ![0, 0, 0] :=
  (by decide +kernel : ∀ t : Fin grid0.N, win0_16.index t = ![0, 0, 0])
theorem ix_17 : ∀ t : Fin cfg0.N, win0_17.index t = ![0, 0, 0] :=
  (by decide +kernel : ∀ t : Fin grid0.N, win0_17.index t = ![0, 0, 0])
theorem ix_18 : ∀ t : Fin cfg0.N, win0_18.index t = ![0, 0, 0] :=
  (by decide +kernel : ∀ t : Fin grid0.N, win0_18.index t = ![0, 0, 0])
theorem ix_19 : ∀ t : Fin cfg0.N, win0_19.index t = ![0, 0] :=
  (by decide +kernel : ∀ t : Fin grid0.N, win0_19.index t = ![0, 0])
theorem ix_20 : ∀ t : Fin cfg0.N, win0_20.index t = ![t.val, 0] :=
  (by decide +kernel : ∀ t : Fin grid0.N, win0_20.index t = ![t.val, 0])
theorem ix_21 : ∀ t : Fin cfg0.N, win0_21.index t = ![t.val, 0] :=
  (by decide +kernel : ∀ t : Fin grid0.N, win0_21.index t = ![t.val, 0])

theorem pt_lt (t : Fin cfg0.N) : t.val < 64 := t.isLt

/-- The array's row of a block's row. -/
abbrev row (t : Fin cfg0.N) (r : Fin 256) : Fin 16384 := ⟨t.val * 256 + r.val, by have := pt_lt t; omega⟩

theorem blk_0 (c : Dev nD) (t : Fin cfg0.N) (r : Fin 256) (l : Fin 2048) :
    (iblk m c 0 t : S256x2048.Idx → EReal) (ix2 r l) = xArg m c (ix2 (row t r) l) := by
  blk_simp [iblk, ix_0]
  exact congrArg (xArg m c) (by blk_ext [ix_0])
theorem blk_1 (c : Dev nD) (t : Fin cfg0.N) (r : Fin 256) (l : Fin 512) :
    (iblk m c 1 t : S256x512.Idx → EReal) (ix2 r l) = yaArg m c (ix2 (row t r) l) := by
  blk_simp [iblk, ix_1]
  exact congrArg (yaArg m c) (by blk_ext [ix_1])
theorem blk_8 (c : Dev nD) (t : Fin cfg0.N) (r : Fin 256) (l : Fin 512) :
    (iblk m c 8 t : S256x512.Idx → EReal) (ix2 r l) = ycArg m c (ix2 (row t r) l) := by
  blk_simp [iblk, ix_8]
  exact congrArg (ycArg m c) (by blk_ext [ix_8])
theorem blk_9 (c : Dev nD) (t : Fin cfg0.N) (r : Fin 256) (l : Fin 512) :
    (iblk m c 9 t : S256x512.Idx → EReal) (ix2 r l) = ydArg m c (ix2 (row t r) l) := by
  blk_simp [iblk, ix_9]
  exact congrArg (ydArg m c) (by blk_ext [ix_9])
theorem blk_2 (c : Dev nD) (t : Fin cfg0.N) (r j : Fin 256) :
    (iblk m c 2 t : S1x1x256x256.Idx → EReal) (ix4 0 0 r j) = row1 (o0Arg m c) (row t r) j := by
  have ht := pt_lt t
  refine Eq.trans (b := o0Arg m c (ix4 (⟨t.val / 32, by omega⟩ : Fin 2) (0 : Fin 1) (⟨t.val % 32 * 256 + r.val, by omega⟩ : Fin 8192) j)) ?_ ?_
  · blk_simp [iblk, ix_2]
    exact congrArg (o0Arg m c) (by blk_ext [ix_2])
  · exact congrArg₂ (fun a b => o0Arg m c (ix4 a (0 : Fin 1) b j)) (Fin.ext (show t.val / 32 = (t.val * 256 + r.val) / 8192 by omega))
      (Fin.ext (show t.val % 32 * 256 + r.val = (t.val * 256 + r.val) % 8192 by omega))
theorem blk_5 (c : Dev nD) (t : Fin cfg0.N) (r j : Fin 256) :
    (iblk m c 5 t : S1x1x256x256.Idx → EReal) (ix4 0 0 r j) = row1 (l0Arg m c) (row t r) j := by
  have ht := pt_lt t
  refine Eq.trans (b := l0Arg m c (ix4 (⟨t.val / 32, by omega⟩ : Fin 2) (0 : Fin 1) (⟨t.val % 32 * 256 + r.val, by omega⟩ : Fin 8192) j)) ?_ ?_
  · blk_simp [iblk, ix_5]
    exact congrArg (l0Arg m c) (by blk_ext [ix_5])
  · exact congrArg₂ (fun a b => l0Arg m c (ix4 a (0 : Fin 1) b j)) (Fin.ext (show t.val / 32 = (t.val * 256 + r.val) / 8192 by omega))
      (Fin.ext (show t.val % 32 * 256 + r.val = (t.val * 256 + r.val) % 8192 by omega))
theorem blk_3 (c : Dev nD) (t : Fin cfg0.N) (r j : Fin 256) :
    tok4 (iblk m c 3 t) r.val j.val = row4 (o1Arg m c) (row t r) j := by
  have ht := pt_lt t
  unfold tok4
  rw [dif_pos ⟨r.isLt, j.isLt⟩]
  refine Eq.trans (b := o1Arg m c (ix4 (⟨t.val / 32, by omega⟩ : Fin 2) (⟨r.val % 4, by omega⟩ : Fin 4) (⟨t.val % 32 * 64 + r.val / 4, by omega⟩ : Fin 2048) j)) ?_ ?_
  · blk_simp [iblk, ix_3]
    exact congrArg (o1Arg m c) (by blk_ext [ix_3])
  · refine congrArg (o1Arg m c) (funext fun a => ?_)
    match a with
    | ⟨0, _⟩ => exact Fin.ext (show t.val / 32 = (t.val * 256 + r.val) / 8192 by omega)
    | ⟨1, _⟩ => exact Fin.ext (show r.val % 4 = (t.val * 256 + r.val) % 4 by omega)
    | ⟨2, _⟩ => exact Fin.ext (show t.val % 32 * 64 + r.val / 4 = (t.val * 256 + r.val) / 4 % 2048 by omega)
    | ⟨3, _⟩ => rfl
theorem blk_6 (c : Dev nD) (t : Fin cfg0.N) (r j : Fin 256) :
    tok4 (iblk m c 6 t) r.val j.val = row4 (l1Arg m c) (row t r) j := by
  have ht := pt_lt t
  unfold tok4
  rw [dif_pos ⟨r.isLt, j.isLt⟩]
  refine Eq.trans (b := l1Arg m c (ix4 (⟨t.val / 32, by omega⟩ : Fin 2) (⟨r.val % 4, by omega⟩ : Fin 4) (⟨t.val % 32 * 64 + r.val / 4, by omega⟩ : Fin 2048) j)) ?_ ?_
  · blk_simp [iblk, ix_6]
    exact congrArg (l1Arg m c) (by blk_ext [ix_6])
  · refine congrArg (l1Arg m c) (funext fun a => ?_)
    match a with
    | ⟨0, _⟩ => exact Fin.ext (show t.val / 32 = (t.val * 256 + r.val) / 8192 by omega)
    | ⟨1, _⟩ => exact Fin.ext (show r.val % 4 = (t.val * 256 + r.val) % 4 by omega)
    | ⟨2, _⟩ => exact Fin.ext (show t.val % 32 * 64 + r.val / 4 = (t.val * 256 + r.val) / 4 % 2048 by omega)
    | ⟨3, _⟩ => rfl
theorem blk_4 (c : Dev nD) (t : Fin cfg0.N) (r j : Fin 256) :
    tok16 (iblk m c 4 t) r.val j.val = row16 (o2Arg m c) (row t r) j := by
  have ht := pt_lt t
  unfold tok16
  rw [dif_pos ⟨r.isLt, j.isLt⟩]
  refine Eq.trans (b := o2Arg m c (ix4 (⟨t.val / 32, by omega⟩ : Fin 2) (⟨r.val % 16, by omega⟩ : Fin 16) (⟨t.val % 32 * 16 + r.val / 16, by omega⟩ : Fin 512) j)) ?_ ?_
  · blk_simp [iblk, ix_4]
    exact congrArg (o2Arg m c) (by blk_ext [ix_4])
  · refine congrArg (o2Arg m c) (funext fun a => ?_)
    match a with
    | ⟨0, _⟩ => exact Fin.ext (show t.val / 32 = (t.val * 256 + r.val) / 8192 by omega)
    | ⟨1, _⟩ => exact Fin.ext (show r.val % 16 = (t.val * 256 + r.val) % 16 by omega)
    | ⟨2, _⟩ => exact Fin.ext (show t.val % 32 * 16 + r.val / 16 = (t.val * 256 + r.val) / 16 % 512 by omega)
    | ⟨3, _⟩ => rfl
theorem blk_7 (c : Dev nD) (t : Fin cfg0.N) (r j : Fin 256) :
    tok16 (iblk m c 7 t) r.val j.val = row16 (l2Arg m c) (row t r) j := by
  have ht := pt_lt t
  unfold tok16
  rw [dif_pos ⟨r.isLt, j.isLt⟩]
  refine Eq.trans (b := l2Arg m c (ix4 (⟨t.val / 32, by omega⟩ : Fin 2) (⟨r.val % 16, by omega⟩ : Fin 16) (⟨t.val % 32 * 16 + r.val / 16, by omega⟩ : Fin 512) j)) ?_ ?_
  · blk_simp [iblk, ix_7]
    exact congrArg (l2Arg m c) (by blk_ext [ix_7])
  · refine congrArg (l2Arg m c) (funext fun a => ?_)
    match a with
    | ⟨0, _⟩ => exact Fin.ext (show t.val / 32 = (t.val * 256 + r.val) / 8192 by omega)
    | ⟨1, _⟩ => exact Fin.ext (show r.val % 16 = (t.val * 256 + r.val) % 16 by omega)
    | ⟨2, _⟩ => exact Fin.ext (show t.val % 32 * 16 + r.val / 16 = (t.val * 256 + r.val) / 16 % 512 by omega)
    | ⟨3, _⟩ => rfl
theorem blk_10 (c : Dev nD) (t : Fin cfg0.N) (r : Fin 256) (k : Fin 2048) :
    (iblk m c 10 t : S256x2048.Idx → EReal) (ix2 r k) = gate (gArg m c) (row t r) 0 k := by
  blk_simp [iblk, ix_10]
  exact congrArg (gArg m c) (by blk_ext [ix_10])
theorem blk_11 (c : Dev nD) (t : Fin cfg0.N) (r : Fin 256) (k : Fin 2048) :
    (iblk m c 11 t : S256x2048.Idx → EReal) (ix2 r k) = gate (gArg m c) (row t r) 1 k := by
  blk_simp [iblk, ix_11]
  exact congrArg (gArg m c) (by blk_ext [ix_11])
theorem blk_12 (c : Dev nD) (t : Fin cfg0.N) (r : Fin 256) (k : Fin 2048) :
    (iblk m c 12 t : S256x2048.Idx → EReal) (ix2 r k) = gate (gArg m c) (row t r) 2 k := by
  blk_simp [iblk, ix_12]
  exact congrArg (gArg m c) (by blk_ext [ix_12])
theorem blk_13 (c : Dev nD) (t : Fin cfg0.N) (r : Fin 256) (k : Fin 2048) :
    (iblk m c 13 t : S256x2048.Idx → EReal) (ix2 r k) = gate (gArg m c) (row t r) 3 k := by
  blk_simp [iblk, ix_13]
  exact congrArg (gArg m c) (by blk_ext [ix_13])
theorem blk_14 (c : Dev nD) (t : Fin cfg0.N) (d : Fin 512) (l : Fin 2048) :
    (iblk m c 14 t : S1x512x2048.Idx → EReal) (ix3 0 d l) = waArg m c (ix3 0 d l) := by
  refine Eq.trans ?_ (V_waArg m c 0 d l)
  blk_simp [iblk, ix_14]
  exact congrArg (V m c main_v0 : S4x512x2048.Idx → EReal) (by blk_ext [ix_14])
theorem blk_15 (c : Dev nD) (t : Fin cfg0.N) (d : Fin 256) (l : Fin 2048) :
    (iblk m c 15 t : S1x256x2048.Idx → EReal) (ix3 0 d l) = wbArg m c (ix3 0 d l) := by
  refine Eq.trans ?_ (V_wbArg m c 0 d l)
  blk_simp [iblk, ix_15]
  exact congrArg (V m c main_v1 : S4x256x2048.Idx → EReal) (by blk_ext [ix_15])
theorem blk_16 (c : Dev nD) (t : Fin cfg0.N) (d : Fin 512) (l : Fin 2048) :
    (iblk m c 16 t : S1x512x2048.Idx → EReal) (ix3 0 d l) = wcArg m c (ix3 0 d l) := by
  refine Eq.trans ?_ (V_wcArg m c 0 d l)
  blk_simp [iblk, ix_16]
  exact congrArg (V m c main_v2 : S4x512x2048.Idx → EReal) (by blk_ext [ix_16])
theorem blk_17 (c : Dev nD) (t : Fin cfg0.N) (d : Fin 512) (l : Fin 2048) :
    (iblk m c 17 t : S1x512x2048.Idx → EReal) (ix3 0 d l) = wdArg m c (ix3 0 d l) := by
  refine Eq.trans ?_ (V_wdArg m c 0 d l)
  blk_simp [iblk, ix_17]
  exact congrArg (V m c main_v3 : S4x512x2048.Idx → EReal) (by blk_ext [ix_17])
theorem blk_18 (c : Dev nD) (t : Fin cfg0.N) (d : Fin 2048) (l : Fin 2048) :
    (iblk m c 18 t : S1x2048x2048.Idx → EReal) (ix3 0 d l) = woArg m c (ix3 0 d l) := by
  refine Eq.trans ?_ (V_woArg m c 0 d l)
  blk_simp [iblk, ix_18]
  exact congrArg (V m c main_v4 : S4x2048x2048.Idx → EReal) (by blk_ext [ix_18])
theorem blk_19 (c : Dev nD) (t : Fin cfg0.N) (l : Fin 2048) :
    (iblk m c 19 t : S1x2048.Idx → EReal) (ix2 0 l) = gainArg m c (ix1 l) := by
  refine Eq.trans ?_ (V_gain m c l)
  blk_simp [iblk, ix_19]
  exact congrArg (V m c main_v5 : S1x2048.Idx → EReal) (by blk_ext [ix_19])

/-- The plain results at the launched arrays. -/
abbrev wantSum (c : Dev nD) : S16384x2048.Idx → EReal :=
  val_main_v63 (F := Ideal) (xArg m c) (yaArg m c) (o0Arg m c) (o1Arg m c) (o2Arg m c) (l0Arg m c) (l1Arg m c) (l2Arg m c) (ycArg m c) (ydArg m c) (gArg m c) (waArg m c) (wbArg m c) (wcArg m c) (wdArg m c) (woArg m c)
abbrev want (c : Dev nD) : S16384x2048.Idx → EReal :=
  val_main_v77 (F := Ideal) (xArg m c) (yaArg m c) (o0Arg m c) (o1Arg m c) (o2Arg m c) (l0Arg m c) (l1Arg m c) (l2Arg m c) (ycArg m c) (ydArg m c) (gArg m c) (waArg m c) (wbArg m c) (wcArg m c) (wdArg m c) (woArg m c) (gainArg m c)

/-- The second branch of a grid point is the plain one, for real logarithms. -/
theorem mixed_eq (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal))
    (t : Fin cfg0.N) (r j : Fin 256) :
    mixed (iblk m c 2 t) (iblk m c 3 t) (iblk m c 4 t) (iblk m c 5 t) (iblk m c 6 t) (iblk m c 7 t) r j
      = val_main_v29 (F := Ideal) (o0Arg m c) (o1Arg m c) (o2Arg m c) (l0Arg m c) (l1Arg m c) (l2Arg m c) (ix2 (row t r) j) := by
  refine (weighted_congr (blk_5 m c t r j) (blk_6 m c t r j) (blk_7 m c t r j) (blk_2 m c t r j) (blk_3 m c t r j) (blk_4 m c t r j)).trans
    (Eq.trans ?_ (branch_val _ _ _ (row t r) j _ _ _).symm)
  obtain ⟨a, ha⟩ : ∃ a : ℝ, row1 (l0Arg m c) (row t r) j = (a : EReal) := h0 _
  obtain ⟨b, hb⟩ : ∃ b : ℝ, row4 (l1Arg m c) (row t r) j = (b : EReal) := h1 _
  obtain ⟨d, hd⟩ : ∃ d : ℝ, row16 (l2Arg m c) (row t r) j = (d : EReal) := h2 _
  rw [ha, hb, hd]
  exact weighted_soft a b d _ _ _

theorem rows_eq (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal))
    (t : Fin cfg0.N) (r : Fin 256) (k : Fin 2048) :
    rows (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r k
      = val_main_v59 (F := Ideal) (yaArg m c) (o0Arg m c) (o1Arg m c) (o2Arg m c) (l0Arg m c) (l1Arg m c) (l2Arg m c) (ycArg m c) (ydArg m c) (gArg m c) (waArg m c) (wbArg m c) (wcArg m c) (wdArg m c) (ix2 (row t r) k) := by
  refine Eq.trans ?_ (gated_val _ _ _ _ _ _ _ _ _ _ _ _ _ _ (row t r) k).symm
  unfold rows gated
  refine congrArg₂ (· + ·) (congrArg₂ (· + ·) (congrArg₂ (· + ·) ?_ ?_) ?_) ?_
  · exact congrArg₂ (· * ·) (blk_10 m c t r k) (Finset.sum_congr rfl fun d _ => congrArg₂ (· * ·) (blk_1 m c t r d) (blk_14 m c t d k))
  · exact congrArg₂ (· * ·) (blk_11 m c t r k) (Finset.sum_congr rfl fun d _ => congrArg₂ (· * ·) (mixed_eq m c h0 h1 h2 t r d) (blk_15 m c t d k))
  · exact congrArg₂ (· * ·) (blk_12 m c t r k) (Finset.sum_congr rfl fun d _ => congrArg₂ (· * ·) (blk_8 m c t r d) (blk_16 m c t d k))
  · exact congrArg₂ (· * ·) (blk_13 m c t r k) (Finset.sum_congr rfl fun d _ => congrArg₂ (· * ·) (blk_9 m c t r d) (blk_17 m c t d k))

/-- The rows of a grid point are the plain rows. -/
theorem stored_want (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal))
    (t : Fin cfg0.N) (r : Fin 256) (l : Fin 2048) :
    stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) r l = wantSum m c (ix2 (row t r) l) := by
  refine Eq.trans ?_ (sum_val _ _ _ _ _ _ _ _ _ _ _ _ _ _ _ _ (row t r) l).symm
  exact congrArg₂ (· + ·) (blk_0 m c t r l) (Finset.sum_congr rfl fun k _ =>
    congrArg₂ (· * ·) (rows_eq m c h0 h1 h2 t r k) (blk_18 m c t k l))

theorem outs_sum (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal))
    (t : Fin cfg0.N) (r : Fin 256) (l : Fin 2048) :
    ((outsAt0 m c t).1 : S256x2048.Idx → EReal) (ix2 r l) = wantSum m c (ix2 (row t r) l) := by
  have e := out_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l
  unfold outsAt0
  dsimp only
  exact e.trans (stored_want m c h0 h1 h2 t r l)

theorem outs_norm (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal))
    (t : Fin cfg0.N) (r : Fin 256) (l : Fin 2048) :
    ((outsAt0 m c t).2 : S256x2048.Idx → EReal) (ix2 r l) = want m c (ix2 (row t r) l) := by
  have e := out_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l
  unfold outsAt0
  dsimp only
  refine e.trans (Eq.trans ?_ (norm_val _ _ _ _ _ _ _ _ _ _ _ _ _ _ _ _ _ (row t r) l).symm)
  exact (congrArg (fun g => normed _ g l) (blk_19 m c t l)).trans
    (congrArg (fun a => normed a (gainArg m c (ix1 l)) l) (funext fun k => stored_want m c h0 h1 h2 t r k))

/-- The whole array of the residual stream. -/
theorem array_sum (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal)) :
    (dats m 0 c).arrAt 20 cfg0.N = wantSum m c := by
  refine (dats m 0 c).arrAt_eq_of_covers 20 _ (by decide +kernel) fun t hf y => ?_
  blk_simp
  rw [after0_20]
  refine (congrArg ((outsAt0 m c t).1 : S256x2048.Idx → EReal) (idx_eq y)).trans ?_
  refine (outs_sum m c h0 h1 h2 t (y 0) (y 1)).trans ?_
  exact congrArg (wantSum m c) (by blk_ext [ix_20])

/-- The whole array of the normed rows. -/
theorem array (c : Dev nD) (h0 : ∀ i, ∃ r : ℝ, l0Arg m c i = (r : EReal)) (h1 : ∀ i, ∃ r : ℝ, l1Arg m c i = (r : EReal))
    (h2 : ∀ i, ∃ r : ℝ, l2Arg m c i = (r : EReal)) :
    (dats m 0 c).arrAt 21 cfg0.N = want m c := by
  refine (dats m 0 c).arrAt_eq_of_covers 21 _ (by decide +kernel) fun t hf y => ?_
  blk_simp
  rw [after0_21]
  refine (congrArg ((outsAt0 m c t).2 : S256x2048.Idx → EReal) (idx_eq y)).trans ?_
  refine (outs_norm m c h0 h1 h2 t (y 0) (y 1)).trans ?_
  exact congrArg (want m c) (by blk_ext [ix_21])

end Cert.MergeIdeal.Rows
-- ==== Proof.PreMerge.lean ====
module

public import proofs.«01_k».proof.Proof.Pre
public import proofs.«01_k».proof.Proof.Gen.Pre_finite_ls

/-!
The merge's precondition read element by element: every logarithm is a real number.
-/

@[expose] public section

noncomputable section

namespace Cert.Pre_finite_ls.Real

open Cert.Pre_finite_ls Cert.Pre_finite_ls.Gen Idealize.ShloMosaic
open Cert.Pre_finite_qk.Real (real_of_lt)

instance : Subsingleton S_.Idx := ⟨fun a b => funext fun i => i.elim0⟩

theorem real (x : S16384x2048.Idx → EReal) (ya : S16384x512.Idx → EReal) (o0 : S2x1x8192x256.Idx → EReal) (o1 : S2x4x2048x256.Idx → EReal)
    (o2 : S2x16x512x256.Idx → EReal) (l0 : S2x1x8192x256.Idx → EReal) (l1 : S2x4x2048x256.Idx → EReal) (l2 : S2x16x512x256.Idx → EReal)
    (yc yd : S16384x512.Idx → EReal) (g : S16384x8192.Idx → EReal) (wa : S4x512x2048.Idx → EReal) (wb : S4x256x2048.Idx → EReal)
    (wc wd : S4x512x2048.Idx → EReal) (wo : S4x2048x2048.Idx → EReal) (gain : S2048.Idx → EReal)
    (h : fn (F := Ideal) x ya o0 o1 o2 l0 l1 l2 yc yd g wa wb wc wd wo gain = (fun _ => 1#1)) :
    (∀ i, ∃ r : ℝ, l0 i = (r : EReal)) ∧ (∀ i, ∃ r : ℝ, l1 i = (r : EReal)) ∧ (∀ i, ∃ r : ℝ, l2 i = (r : EReal)) := by
  have h0 := congrFun h (fun a => a.elim0)
  obtain ⟨h0, h12⟩ := IntOp.andi_eq_one.mp h0
  obtain ⟨h1, h2⟩ := IntOp.andi_eq_one.mp h12
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_finite_ls.Real
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutPlainIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpPlainIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GatePlainIdeal
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SamplePlainIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixPlainIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergePlainIdeal
public import proofs.«01_k».proof.Proof.Gen.Pre_finite_qk
public import proofs.«01_k».proof.Proof.Gen.Pre_finite_ls
public import proofs.«01_k».proof.Proof.Gen.MergeIdeal.Value
public import proofs.«01_k».proof.Proof.Gen.MergePlainIdeal.Run
public import proofs.«01_k».proof.Proof.Gen.MergePlainIdeal.Read
public import proofs.«01_k».proof.Proof.Gen.KernelIdeal.Value
public import proofs.«01_k».proof.Proof.Gen.MlpOutIdeal.Value
public import proofs.«01_k».proof.Proof.Gen.MlpIdeal.Value
public import proofs.«01_k».proof.Proof.Gen.GateIdeal.Value
public import proofs.«01_k».proof.Proof.Gen.SampleIdeal.Value
public import proofs.«01_k».proof.Proof.Gen.MixIdeal.Value
public import proofs.«01_k».proof.Proof.Gen.ReferenceIdeal.Run
public import proofs.«01_k».proof.Proof.Gen.ReferenceIdeal.Read
public import proofs.«01_k».proof.Proof.Gen.MlpOutPlainIdeal.Run
public import proofs.«01_k».proof.Proof.Gen.MlpOutPlainIdeal.Read
public import proofs.«01_k».proof.Proof.Gen.MlpPlainIdeal.Run
public import proofs.«01_k».proof.Proof.Gen.MlpPlainIdeal.Read
public import proofs.«01_k».proof.Proof.Gen.GatePlainIdeal.Run
public import proofs.«01_k».proof.Proof.Gen.GatePlainIdeal.Read
public import proofs.«01_k».proof.Proof.Gen.SamplePlainIdeal.Run
public import proofs.«01_k».proof.Proof.Gen.SamplePlainIdeal.Read
public import proofs.«01_k».proof.Proof.Gen.MixPlainIdeal.Run
public import proofs.«01_k».proof.Proof.Gen.MixPlainIdeal.Read
public import proofs.«01_k».proof.Proof.Array
public import proofs.«01_k».proof.Proof.Pre
public import proofs.«01_k».proof.Proof.MlpOutValue
public import proofs.«01_k».proof.Proof.MlpValue
public import proofs.«01_k».proof.Proof.GateValue
public import proofs.«01_k».proof.Proof.SampleValue
public import proofs.«01_k».proof.Proof.MixArray
public import Idealize.ShloMosaic.Adequacy
public import Idealize.ShloMosaic.Init
public import proofs.«01_k».proof.Proof.MergeArray
public import proofs.«01_k».proof.Proof.PreMerge

@[expose] public section

noncomputable section

namespace Cert.Proof

open Idealize.ShloMosaic Idealize.SL.Sem Cert.Kernel

/-- The reference runs, keeps its arguments and leaves no semaphore counted. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention over every key: both programs end with the same array. -/
theorem attention : Cert.algebraic_KernelIdeal_ReferenceIdeal_pre_finite_qk := by
  intro m g m' g' hpre hargs
  refine ⟨fun c => Cert.KernelIdeal.Flash.want m c, ?_, ?_⟩
  · refine (θ_run _ _ _).mono (fun r h c => ?_) (Cert.KernelIdeal.Value.run_blocks m g)
    obtain ⟨h0, h1, h2, h3⟩ := h c
    obtain ⟨hq, hk⟩ := Cert.Pre_finite_qk.Real.real _ _ _ (hpre c)
    exact ⟨h0.trans (Cert.KernelIdeal.Flash.array m c hq hk), h1, h2, h3⟩
  · refine (θ_run _ _ _).mono (fun r h c => ?_) (Cert.ReferenceIdeal.Value.run (F := Ideal) m' g')
    obtain ⟨h0, h1, h2, h3⟩ := h c
    obtain ⟨a0, a1, a2⟩ := hargs c
    refine ⟨h0.trans ?_, h1, h2, h3⟩
    rw [a0, a1, a2]
    exact Cert.ReferenceIdeal.Read.val_main_v24_eq (F := Ideal) _ _ _

/-- The plain program leaves its arguments and ends. -/
theorem plain_out_frame : Cert.quiescent_MlpOutPlainIdeal := fun m ρ _ =>
  (θ_run Cert.MlpOutPlainIdeal.defs _ _).mono (fun r h => ⟨fun c => (h c).2, sem_eq_zero_of_no_sems (by decide) r.2⟩)
    (Cert.MlpOutPlainIdeal.Value.run (F := Ideal) m ρ)

/-- The plain program leaves its arguments and ends. -/
theorem plain_mlp_frame : Cert.quiescent_MlpPlainIdeal := fun m ρ _ =>
  (θ_run Cert.MlpPlainIdeal.defs _ _).mono (fun r h => ⟨fun c => (h c).2.2, sem_eq_zero_of_no_sems (by decide) r.2⟩)
    (Cert.MlpPlainIdeal.Value.run (F := Ideal) m ρ)

/-- The plain program leaves its arguments and ends. -/
theorem plain_gate_frame : Cert.quiescent_GatePlainIdeal := fun m ρ _ =>
  (θ_run Cert.GatePlainIdeal.defs _ _).mono (fun r h => ⟨fun c => (h c).2, sem_eq_zero_of_no_sems (by decide) r.2⟩)
    (Cert.GatePlainIdeal.Value.run (F := Ideal) m ρ)

/-- The plain program leaves its arguments and ends. -/
theorem plain_sample_frame : Cert.quiescent_SamplePlainIdeal := fun m ρ _ =>
  (θ_run Cert.SamplePlainIdeal.defs _ _).mono (fun r h => ⟨fun c => (h c).2, sem_eq_zero_of_no_sems (by decide) r.2⟩)
    (Cert.SamplePlainIdeal.Value.run (F := Ideal) m ρ)

/-- The plain program leaves its arguments and ends. -/
theorem plain_mix_frame : Cert.quiescent_MixPlainIdeal := fun m ρ _ =>
  (θ_run Cert.MixPlainIdeal.defs _ _).mono (fun r h => ⟨fun c => (h c).2.2.2, sem_eq_zero_of_no_sems (by decide) r.2⟩)
    (Cert.MixPlainIdeal.Value.run (F := Ideal) m ρ)

/-- The last layer's feed-forward part and the final norm. -/
theorem last_mlp : Cert.algebraic_MlpOutIdeal_MlpOutPlainIdeal := by
  intro m g m' g' _ hargs
  refine ⟨fun c => Cert.MlpOutIdeal.Sum.want m c, ?_, ?_⟩
  · refine (θ_run _ _ _).mono (fun r h c => ?_) (Cert.MlpOutIdeal.Value.run_blocks m g)
    obtain ⟨h0, h1⟩ := h c
    exact ⟨h0.trans (Cert.MlpOutIdeal.Sum.array m c), h1⟩
  · refine (θ_run _ _ _).mono (fun r h c => ?_) (Cert.MlpOutPlainIdeal.Value.run (F := Ideal) m' g')
    obtain ⟨h0, h1⟩ := h c
    obtain ⟨a0, a1, a2, a3, a4⟩ := hargs c
    refine ⟨h0.trans ?_, h1⟩
    rw [a0, a1, a2, a3, a4]
    exact Cert.MlpOutPlainIdeal.Read.val_main_v22_eq (F := Ideal) _ _ _ _ _

/-- The first layer's feed-forward part and the next layer's norm, both results. -/
theorem first_mlp : Cert.algebraic_MlpIdeal_MlpPlainIdeal := by
  intro m g m' g' _ hargs
  refine ⟨fun c => Cert.MlpIdeal.Sum.wantSum m c, fun c => Cert.MlpIdeal.Sum.want m c, ?_, ?_⟩
  · refine (θ_run _ _ _).mono (fun r h c => ?_) (Cert.MlpIdeal.Value.run_blocks m g)
    obtain ⟨h0, h1, h2⟩ := h c
    exact ⟨h0.trans (Cert.MlpIdeal.Sum.array_sum m c), h1.trans (Cert.MlpIdeal.Sum.array m c), h2⟩
  · refine (θ_run _ _ _).mono (fun r h c => ?_) (Cert.MlpPlainIdeal.Value.run (F := Ideal) m' g')
    obtain ⟨h0, h1, h2⟩ := h c
    obtain ⟨a0, a1, a2, a3, a4⟩ := hargs c
    refine ⟨h0.trans ?_, (h1.trans (Cert.MlpPlainIdeal.Read.val_main_v23_eq (F := Ideal) m' c)).trans ?_, h2⟩
    · rw [a0, a1, a2, a3]
      exact Cert.MlpPlainIdeal.Read.val_main_v9_eq (F := Ideal) _ _ _ _
    · rw [a0, a1, a2, a3, a4]

/-- The gates of the first layer. -/
theorem gates : Cert.algebraic_GateIdeal_GatePlainIdeal := by
  intro m g m' g' _ hargs
  refine ⟨fun c => Cert.GateIdeal.Proj.want m c, ?_, ?_⟩
  · refine (θ_run _ _ _).mono (fun r h c => ?_) (Cert.GateIdeal.Value.run_blocks m g)
    obtain ⟨h0, h1⟩ := h c
    exact ⟨h0.trans (Cert.GateIdeal.Proj.array m c), h1⟩
  · refine (θ_run _ _ _).mono (fun r h c => ?_) (Cert.GatePlainIdeal.Value.run (F := Ideal) m' g')
    obtain ⟨h0, h1⟩ := h c
    obtain ⟨a0, a1⟩ := hargs c
    refine ⟨h0.trans ?_, h1⟩
    rw [a0, a1]
    exact Cert.GatePlainIdeal.Read.val_main_v11_eq (F := Ideal) _ _

/-- The last layer's feed-forward part and the final norm at the sample's shape. -/
theorem sample_mlp : Cert.algebraic_SampleIdeal_SamplePlainIdeal := by
  intro m g m' g' _ hargs
  refine ⟨fun c => Cert.SampleIdeal.Sum.want m c, ?_, ?_⟩
  · refine (θ_run _ _ _).mono (fun r h c => ?_) (Cert.SampleIdeal.Value.run_blocks m g)
    obtain ⟨h0, h1⟩ := h c
    exact ⟨h0.trans (Cert.SampleIdeal.Sum.array m c), h1⟩
  · refine (θ_run _ _ _).mono (fun r h c => ?_) (Cert.SamplePlainIdeal.Value.run (F := Ideal) m' g')
    obtain ⟨h0, h1⟩ := h c
    obtain ⟨a0, a1, a2, a3, a4⟩ := hargs c
    refine ⟨h0.trans ?_, h1⟩
    rw [a0, a1, a2, a3, a4]
    exact Cert.SamplePlainIdeal.Read.val_main_v22_eq (F := Ideal) _ _ _ _ _

/-- The projection of the attentions' inputs, all three results. -/
theorem mixed : Cert.algebraic_MixIdeal_MixPlainIdeal := by
  intro m g m' g' _ hargs
  refine ⟨fun c => Cert.MixIdeal.Proj.want m c, fun c => Cert.MixIdeal.Proj.want4 m c, fun c => Cert.MixIdeal.Proj.want16 m c, ?_, ?_⟩
  · refine (θ_run _ _ _).mono (fun r h c => ?_) (Cert.MixIdeal.Value.run_blocks m g)
    obtain ⟨h0, h1, h2, h3⟩ := h c
    exact ⟨h0.trans (Cert.MixIdeal.Proj.array m c), h1.trans (Cert.MixIdeal.Proj.array4 m c), h2.trans (Cert.MixIdeal.Proj.array16 m c), h3⟩
  · refine (θ_run _ _ _).mono (fun r h c => ?_) (Cert.MixPlainIdeal.Value.run (F := Ideal) m' g')
    obtain ⟨h0, h1, h2, h3⟩ := h c
    obtain ⟨a0, a1⟩ := hargs c
    refine ⟨h0.trans ?_, h1.trans ?_, h2.trans ?_, h3⟩
    · rw [a0, a1]
      exact Cert.MixPlainIdeal.Read.val_main_v5_eq (F := Ideal) _ _
    · rw [a0, a1]
      exact Cert.MixPlainIdeal.Read.val_main_v8_eq (F := Ideal) _ _
    · rw [a0, a1]
      exact Cert.MixPlainIdeal.Read.val_main_v11_eq (F := Ideal) _ _

/-- The plain program leaves its arguments and ends. -/
theorem plain_merge_frame : Cert.quiescent_MergePlainIdeal := fun m ρ _ =>
  (θ_run Cert.MergePlainIdeal.defs _ _).mono (fun r h => ⟨fun c => (h c).2.2, sem_eq_zero_of_no_sems (by decide) r.2⟩)
    (Cert.MergePlainIdeal.Value.run (F := Ideal) m ρ)

/-- The merge of the first layer's branches and the norm, both results. -/
theorem merged : Cert.algebraic_MergeIdeal_MergePlainIdeal_pre_finite_ls := by
  intro m g m' g' hpre hargs
  refine ⟨fun c => Cert.MergeIdeal.Rows.wantSum m c, fun c => Cert.MergeIdeal.Rows.want m c, ?_, ?_⟩
  · refine (θ_run _ _ _).mono (fun r h c => ?_) (Cert.MergeIdeal.Value.run_blocks m g)
    obtain ⟨h0, h1, h2⟩ := h c
    obtain ⟨l0, l1, l2⟩ := Cert.Pre_finite_ls.Real.real _ _ _ _ _ _ _ _ _ _ _ _ _ _ _ _ _ (hpre c)
    exact ⟨h0.trans (Cert.MergeIdeal.Rows.array_sum m c l0 l1 l2), h1.trans (Cert.MergeIdeal.Rows.array m c l0 l1 l2), h2⟩
  · refine (θ_run _ _ _).mono (fun r h c => ?_) (Cert.MergePlainIdeal.Value.run (F := Ideal) m' g')
    obtain ⟨h0, h1, h2⟩ := h c
    obtain ⟨a0, a1, a2, a3, a4, a5, a6, a7, a8, a9, a10, a11, a12, a13, a14, a15, a16⟩ := hargs c
    refine ⟨(h0.trans (Cert.MergePlainIdeal.Read.val_main_v63_eq (F := Ideal) m' c)).trans ?_,
      (h1.trans (Cert.MergePlainIdeal.Read.val_main_v77_eq (F := Ideal) m' c)).trans ?_, h2⟩
    · rw [a0, a1, a2, a3, a4, a5, a6, a7, a8, a9, a10, a11, a12, a13, a14, a15]
    · rw [a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.MlpOut.Gen.facts, Cert.MlpOutIdeal.Gen.facts, Cert.MlpOutPlainIdeal.Gen.facts, Cert.Mlp.Gen.facts, Cert.MlpIdeal.Gen.facts, Cert.MlpPlainIdeal.Gen.facts, Cert.Gate.Gen.facts, Cert.GateIdeal.Gen.facts, Cert.GatePlainIdeal.Gen.facts, Cert.Sample.Gen.facts, Cert.SampleIdeal.Gen.facts, Cert.SamplePlainIdeal.Gen.facts, Cert.Mix.Gen.facts, Cert.MixIdeal.Gen.facts, Cert.MixPlainIdeal.Gen.facts, Cert.Merge.Gen.facts, Cert.MergeIdeal.Gen.facts, Cert.MergePlainIdeal.Gen.facts, Cert.Pre_finite_qk.Gen.facts, Cert.Pre_finite_ls.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  fun m ρ _ => Cert.MlpOut.Gen.frame m ρ, fun m ρ _ => Cert.MlpOutIdeal.Gen.frame m ρ, plain_out_frame,
  fun m ρ _ => Cert.Mlp.Gen.frame m ρ, fun m ρ _ => Cert.MlpIdeal.Gen.frame m ρ, plain_mlp_frame,
  fun m ρ _ => Cert.Gate.Gen.frame m ρ, fun m ρ _ => Cert.GateIdeal.Gen.frame m ρ, plain_gate_frame,
  fun m ρ _ => Cert.Sample.Gen.frame m ρ, fun m ρ _ => Cert.SampleIdeal.Gen.frame m ρ, plain_sample_frame,
  fun m ρ _ => Cert.Mix.Gen.frame m ρ, fun m ρ _ => Cert.MixIdeal.Gen.frame m ρ, plain_mix_frame,
  fun m ρ _ => Cert.Merge.Gen.frame m ρ, fun m ρ _ => Cert.MergeIdeal.Gen.frame m ρ, fun m ρ _ => Cert.MergeIdeal.Gen.frame m ρ,
  fun m ρ _ => plain_merge_frame m ρ trivial, fun m ρ _ => plain_merge_frame m ρ trivial,
  IdealRules.named_const.statement _ _ _ _ _ rfl, attention, trivial, last_mlp, trivial, first_mlp, trivial, gates,
  trivial, sample_mlp, trivial, mixed, IdealRules.named_const.statement _ _ _ _ _ rfl, merged⟩

end Cert.Proof

end
